-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_finite [hPre_routed_finite : Cert.Pre_routed_finite.Facts] (m : (ℓ : Loc Cert.KernelIdeal.nD Cert.KernelIdeal.τ Cert.KernelIdeal.sig) → Buf (Elt Ideal) ℓ) : Prop :=
  ∀ c : Dev Cert.KernelIdeal.nD,
    (Cert.Pre_routed_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_finite [hPre_routed_finite : Cert.Pre_routed_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_routed_finite [hKernelIdeal : Cert.KernelIdeal.Facts] [hPre_routed_finite : Cert.Pre_routed_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_routed_finite [hReferenceIdeal : Cert.ReferenceIdeal.Facts] [hPre_routed_finite : Cert.Pre_routed_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_routed_finite [hKernelIdeal : Cert.KernelIdeal.Facts] [hReferenceIdeal : Cert.ReferenceIdeal.Facts] [hPre_routed_finite : Cert.Pre_routed_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v59)) (v2 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_routed_finite : Cert.Pre_routed_finite.Facts),
    quiescent_Kernel (hKernel := hKernel)
    ∧ quiescent_KernelIdeal (hKernelIdeal := hKernelIdeal)
    ∧ quiescent_KernelIdeal_pre_routed_finite (hKernelIdeal := hKernelIdeal) (hPre_routed_finite := hPre_routed_finite)
    ∧ quiescent_ReferenceIdeal (hReferenceIdeal := hReferenceIdeal)
    ∧ quiescent_ReferenceIdeal_pre_routed_finite (hReferenceIdeal := hReferenceIdeal) (hPre_routed_finite := hPre_routed_finite)
    ∧ preserves_Kernel_KernelIdeal
    ∧ algebraic_KernelIdeal_ReferenceIdeal_pre_routed_finite (hKernelIdeal := hKernelIdeal) (hReferenceIdeal := hReferenceIdeal) (hPre_routed_finite := hPre_routed_finite)
-- ==== Pre_routed_finite.lean ====
abbrev S1x2048x768 : Shape := ⟨3, ![1, 2048, 768]⟩
abbrev S768x8 : Shape := ⟨2, ![768, 8]⟩
abbrev S8 : Shape := ⟨1, ![8]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S2048x8 : Shape := ⟨2, ![2048, 8]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S768x8 : S_.BroadcastsInDim S768x8 (![] : Fin 0 → Fin S768x8.rank)
  reducesTo_S768x8_S_d0_1 : S768x8.ReducesTo [0, 1] S_
  bcast_S_S8 : S_.BroadcastsInDim S8 (![] : Fin 0 → Fin S8.rank)
  reducesTo_S8_S_d0 : S8.ReducesTo [0] S_
  bcast_S_S2048x8 : S_.BroadcastsInDim S2048x8 (![] : Fin 0 → Fin S2048x8.rank)
  reducesTo_S2048x8_S_d0_1 : S2048x8.ReducesTo [0, 1] S_

variable [Facts]

def fn_part1 {F : FTy → Type} [FloatOps F] (main_v8 : IVec S_ 1) (main_v12 : IVec S_ 1) (main_v15 : IVec S2048x8 1) (main_c_5 : IVec S_ 1) : IVec S_ 1 :=
  let main_v16 : IVec S_ 1 := (fun x v => Host.reduce IntOp.andi x v reducesTo_S2048x8_S_d0_1 h_S_) main_v15 main_c_5
  let main_v17 : IVec S_ 1 := andi main_v12 main_v16
  let main_v18 : IVec S_ 1 := andi main_v8 main_v17
  main_v18

def fn {F : FTy → Type} [FloatOps F] (main_arg0 : FVec F S1x2048x768 .f32) (main_arg1 : FVec F S768x8 .f32) (main_arg2 : FVec F S8 .f32) (main_arg3 : FVec F S8x768x3072 .f32) (main_arg4 : FVec F S8x3072 .f32) (main_arg5 : FVec F S8x768x3072 .f32) (main_arg6 : FVec F S8x3072 .f32) (main_arg7 : FVec F S8x3072x768 .f32) (main_arg8 : FVec F S8x768 .f32) (main_arg9 : FVec F S2048x8 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S768x8 .f32 := Host.absf main_arg1
  let main_cst_0 : FVec F S_ .f32 := constant S_ .f32 0x7F800000#32
  let main_v5 : FVec F S768x8 .f32 := broadcastInDim S768x8 ![] bcast_S_S768x8 main_cst_0
  let main_v6 : IVec S768x8 1 := cmpf .olt main_v4 main_v5
  let main_c_1 : IVec S_ 1 := constantI S_ 1 1#1
  let main_v7 : IVec S_ 1 := (fun x v => Host.reduce IntOp.andi x v reducesTo_S768x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : FVec F S2048x8 .f32 := Host.absf main_arg9
  let main_cst_4 : FVec F S_ .f32 := constant S_ .f32 0x7F800000#32
  let main_v14 : FVec F S2048x8 .f32 := broadcastInDim S2048x8 ![] bcast_S_S2048x8 main_cst_4
  let main_v15 : IVec S2048x8 1 := cmpf .olt main_v13 main_v14
  let main_c_5 : IVec S_ 1 := constantI S_ 1 1#1
  fn_part1 (F := F) main_v8 main_v12 main_v15 main_c_5
-- ==== Kernel.lean ====
abbrev S1x2048x768 : Shape := ⟨3, ![1, 2048, 768]⟩
abbrev S768x8 : Shape := ⟨2, ![768, 8]⟩
abbrev S8 : Shape := ⟨1, ![8]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S2048x8 : Shape := ⟨2, ![2048, 8]⟩
abbrev S2048x768 : Shape := ⟨2, ![2048, 768]⟩
abbrev S1x8 : Shape := ⟨2, ![1, 8]⟩
abbrev S_ : Shape := ⟨0, ![]⟩
abbrev S2048 : Shape := ⟨1, ![2048]⟩
abbrev S2048x1 : Shape := ⟨2, ![2048, 1]⟩
abbrev S8x2048 : Shape := ⟨2, ![8, 2048]⟩
abbrev S16 : Shape := ⟨1, ![16]⟩
abbrev S1x16 : Shape := ⟨2, ![1, 16]⟩
abbrev S9 : Shape := ⟨1, ![9]⟩
abbrev S6 : Shape := ⟨1, ![6]⟩
abbrev S1x6 : Shape := ⟨2, ![1, 6]⟩
abbrev S2048x6 : Shape := ⟨2, ![2048, 6]⟩
abbrev S12288 : Shape := ⟨1, ![12288]⟩
abbrev S12288x128 : Shape := ⟨2, ![12288, 128]⟩
abbrev S384 : Shape := ⟨1, ![384]⟩
abbrev S384x128 : Shape := ⟨2, ![384, 128]⟩
abbrev S8x1x3072 : Shape := ⟨3, ![8, 1, 3072]⟩
abbrev S8x1x768 : Shape := ⟨3, ![8, 1, 768]⟩
abbrev S1x768x1536 : Shape := ⟨3, ![1, 768, 1536]⟩
abbrev S1x1x1536 : Shape := ⟨3, ![1, 1, 1536]⟩
abbrev S1x1536x768 : Shape := ⟨3, ![1, 1536, 768]⟩
abbrev S1x1x768 : Shape := ⟨3, ![1, 1, 768]⟩
abbrev S1 : Shape := ⟨1, ![1]⟩
abbrev S128x768 : Shape := ⟨2, ![128, 768]⟩
abbrev S768x1536 : Shape := ⟨2, ![768, 1536]⟩
abbrev S128x1536 : Shape := ⟨2, ![128, 1536]⟩
abbrev S1x1536 : Shape := ⟨2, ![1, 1536]⟩
abbrev S1536x768 : Shape := ⟨2, ![1536, 768]⟩
abbrev S128x1 : Shape := ⟨2, ![128, 1]⟩
abbrev S1x768 : Shape := ⟨2, ![1, 768]⟩

abbrev nBuf : Table → Nat
  | .hbm => 90
  | .local .tc .vmem => 14
  | .local .tc .smem => 1
  | .local .scVector .vmem => 10
  | _ => 0

abbrev bufTy : (tb : Table) → Fin (nBuf tb) → BufTy
  | .hbm, ⟨0, _⟩ => ⟨S1x2048x768, .f32⟩
  | .hbm, ⟨1, _⟩ => ⟨S768x8, .f32⟩
  | .hbm, ⟨2, _⟩ => ⟨S8, .f32⟩
  | .hbm, ⟨3, _⟩ => ⟨S8x768x3072, .f32⟩
  | .hbm, ⟨4, _⟩ => ⟨S8x3072, .f32⟩
  | .hbm, ⟨5, _⟩ => ⟨S8x768x3072, .f32⟩
  | .hbm, ⟨6, _⟩ => ⟨S8x3072, .f32⟩
  | .hbm, ⟨7, _⟩ => ⟨S8x3072x768, .f32⟩
  | .hbm, ⟨8, _⟩ => ⟨S8x768, .f32⟩
  | .hbm, ⟨9, _⟩ => ⟨S2048x8, .f32⟩
  | .hbm, ⟨10, _⟩ => ⟨S2048x768, .f32⟩
  | .hbm, ⟨11, _⟩ => ⟨S2048x8, .f32⟩
  | .hbm, ⟨12, _⟩ => ⟨S1x8, .f32⟩
  | .hbm, ⟨13, _⟩ => ⟨S2048x8, .f32⟩
  | .hbm, ⟨14, _⟩ => ⟨S2048x8, .f32⟩
  | .hbm, ⟨15, _⟩ => ⟨S2048x8, .f32⟩
  | .hbm, ⟨16, _⟩ => ⟨S_, .f32⟩
  | .hbm, ⟨17, _⟩ => ⟨S2048, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S2048x1, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S2048x8, .f32⟩
  | .hbm, ⟨29, _⟩ => ⟨S2048x8, .f32⟩
  | .hbm, ⟨30, _⟩ => ⟨S_, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8x2048, .f32⟩
  | .hbm, ⟨46, _⟩ => ⟨S2048, .i32⟩
  | .hbm, ⟨47, _⟩ => ⟨S2048, .i32⟩
  | .hbm, ⟨48, _⟩ => ⟨S2048, .i32⟩
  | .hbm, ⟨49, _⟩ => ⟨S16, .i32⟩
  | .hbm, ⟨50, _⟩ => ⟨S9, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S9, .i32⟩
  | .hbm, ⟨55, _⟩ => ⟨S9, .i32⟩
  | .hbm, ⟨56, _⟩ => ⟨S_, .i32⟩
  | .hbm, ⟨57, _⟩ => ⟨S9, .i32⟩
  | .hbm, ⟨58, _⟩ => ⟨S2048x1, .i32⟩
  | .hbm, ⟨59, _⟩ => ⟨S_, .i32⟩
  | .hbm, ⟨60, _⟩ => ⟨S2048x1, .i32⟩
  | .hbm, ⟨61, _⟩ => ⟨S2048x1, .i32⟩
  | .hbm, ⟨62, _⟩ => ⟨S6, .i32⟩
  | .hbm, ⟨63, _⟩ => ⟨S1x6, .i32⟩
  | .hbm, ⟨64, _⟩ => ⟨S2048x6, .i32⟩
  | .hbm, ⟨65, _⟩ => ⟨S2048x6, .i32⟩
  | .hbm, ⟨66, _⟩ => ⟨S2048x6, .i32⟩
  | .hbm, ⟨67, _⟩ => ⟨S12288, .i32⟩
  | .hbm, ⟨68, _⟩ => ⟨S12288x128, .f32⟩
  | .hbm, ⟨69, _⟩ => ⟨S12288x128, .f32⟩
  | .hbm, ⟨70, _⟩ => ⟨S2048x768, .f32⟩
  | .hbm, ⟨71, _⟩ => ⟨S8x1x3072, .f32⟩
  | .hbm, ⟨72, _⟩ => ⟨S8x1x3072, .f32⟩
  | .hbm, ⟨73, _⟩ => ⟨S8x1x768, .f32⟩
  | .hbm, ⟨74, _⟩ => ⟨S2048x768, .f32⟩
  | .hbm, ⟨75, _⟩ => ⟨S2048x1, .i32⟩
  | .hbm, ⟨76, _⟩ => ⟨S_, .i32⟩
  | .hbm, ⟨77, _⟩ => ⟨S2048x1, .i32⟩
  | .hbm, ⟨78, _⟩ => ⟨S2048x1, .i32⟩
  | .hbm, ⟨79, _⟩ => ⟨S6, .i32⟩
  | .hbm, ⟨80, _⟩ => ⟨S1x6, .i32⟩
  | .hbm, ⟨81, _⟩ => ⟨S2048x6, .i32⟩
  | .hbm, ⟨82, _⟩ => ⟨S2048x6, .i32⟩
  | .hbm, ⟨83, _⟩ => ⟨S2048x6, .i32⟩
  | .hbm, ⟨84, _⟩ => ⟨S12288, .i32⟩
  | .hbm, ⟨85, _⟩ => ⟨S12288x128, .f32⟩
  | .hbm, ⟨86, _⟩ => ⟨S12288x128, .f32⟩
  | .hbm, ⟨87, _⟩ => ⟨S2048x768, .f32⟩
  | .hbm, ⟨88, _⟩ => ⟨S1x2048x768, .f32⟩
  | .hbm, ⟨89, _⟩ => ⟨S2048x1, .i32⟩
  | .local .tc .vmem, ⟨0, _⟩ => ⟨S2048x768, .f32⟩
  | .local .tc .vmem, ⟨1, _⟩ => ⟨S1x768x1536, .f32⟩
  | .local .tc .vmem, ⟨2, _⟩ => ⟨S1x768x1536, .f32⟩
  | .local .tc .vmem, ⟨3, _⟩ => ⟨S1x1x1536, .f32⟩
  | .local .tc .vmem, ⟨4, _⟩ => ⟨S1x1x1536, .f32⟩
  | .local .tc .vmem, ⟨5, _⟩ => ⟨S1x768x1536, .f32⟩
  | .local .tc .vmem, ⟨6, _⟩ => ⟨S1x768x1536, .f32⟩
  | .local .tc .vmem, ⟨7, _⟩ => ⟨S1x1x1536, .f32⟩
  | .local .tc .vmem, ⟨8, _⟩ => ⟨S1x1x1536, .f32⟩
  | .local .tc .vmem, ⟨9, _⟩ => ⟨S1x1536x768, .f32⟩
  | .local .tc .vmem, ⟨10, _⟩ => ⟨S1x1536x768, .f32⟩
  | .local .tc .vmem, ⟨11, _⟩ => ⟨S1x1x768, .f32⟩
  | .local .tc .vmem, ⟨12, _⟩ => ⟨S1x1x768, .f32⟩
  | .local .tc .vmem, ⟨13, _⟩ => ⟨S2048x768, .f32⟩
  | .local .tc .smem, ⟨0, _⟩ => ⟨S9, .i32⟩
  | .local .scVector .vmem, ⟨0, _⟩ => ⟨S8x2048, .f32⟩
  | .local .scVector .vmem, ⟨1, _⟩ => ⟨S2048, .i32⟩
  | .local .scVector .vmem, ⟨2, _⟩ => ⟨S2048, .i32⟩
  | .local .scVector .vmem, ⟨3, _⟩ => ⟨S2048, .i32⟩
  | .local .scVector .vmem, ⟨4, _⟩ => ⟨S16, .i32⟩
  | .local .scVector .vmem, ⟨5, _⟩ => ⟨S16, .i32⟩
  | .local .scVector .vmem, ⟨6, _⟩ => ⟨S384, .i32⟩
  | .local .scVector .vmem, ⟨7, _⟩ => ⟨S384x128, .f32⟩
  | .local .scVector .vmem, ⟨8, _⟩ => ⟨S384, .i32⟩
  | .local .scVector .vmem, ⟨9, _⟩ => ⟨S384x128, .f32⟩
  | _, _ => ⟨S1x2048x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => false
  | ⟨23, _⟩ => false
  | ⟨24, _⟩ => false
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_v27_0 : Ref sig .tc := ⟨.hbm, 46, rfl⟩
abbrev main_v27_1 : Ref sig .tc := ⟨.hbm, 47, rfl⟩
abbrev main_v27_2 : Ref sig .tc := ⟨.hbm, 48, rfl⟩
abbrev main_v27_3 : Ref sig .tc := ⟨.hbm, 49, rfl⟩
abbrev main_v28 : Ref sig .tc := ⟨.hbm, 50, rfl⟩
abbrev main_c : Ref sig .tc := ⟨.hbm, 51, rfl⟩
abbrev main_c_8 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v30 : Ref sig .tc := ⟨.hbm, 58, rfl⟩
abbrev main_c_9 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_10 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v29 : Ref sig .tc := ⟨.smem, 0, rfl⟩
abbrev main_v26_scv : Ref sig .scVector := ⟨.hbm, 45, rfl⟩
abbrev main_v27_0_scv : Ref sig .scVector := ⟨.hbm, 46, rfl⟩
abbrev main_v27_1_scv : Ref sig .scVector := ⟨.hbm, 47, rfl⟩
abbrev main_v27_2_scv : Ref sig .scVector := ⟨.hbm, 48, rfl⟩
abbrev main_v27_3_scv : Ref sig .scVector := ⟨.hbm, 49, rfl⟩
abbrev main_v39_scv : Ref sig .scVector := ⟨.hbm, 68, rfl⟩
abbrev main_v38_scv : Ref sig .scVector := ⟨.hbm, 67, rfl⟩
abbrev main_v40_scv : Ref sig .scVector := ⟨.hbm, 69, rfl⟩
abbrev main_v55_scv : Ref sig .scVector := ⟨.hbm, 85, rfl⟩
abbrev main_v54_scv : Ref sig .scVector := ⟨.hbm, 84, rfl⟩
abbrev main_v56_scv : Ref sig .scVector := ⟨.hbm, 86, rfl⟩
abbrev cc2_stg0_0 : Ref sig .tc := ⟨.vmem, 0, rfl⟩
abbrev cc2_stg1_0 : Ref sig .tc := ⟨.vmem, 1, rfl⟩
abbrev cc2_stg1_1 : Ref sig .tc := ⟨.vmem, 2, rfl⟩
abbrev cc2_stg2_0 : Ref sig .tc := ⟨.vmem, 3, rfl⟩
abbrev cc2_stg2_1 : Ref sig .tc := ⟨.vmem, 4, rfl⟩
abbrev cc2_stg3_0 : Ref sig .tc := ⟨.vmem, 5, rfl⟩
abbrev cc2_stg3_1 : Ref sig .tc := ⟨.vmem, 6, rfl⟩
abbrev cc2_stg4_0 : Ref sig .tc := ⟨.vmem, 7, rfl⟩
abbrev cc2_stg4_1 : Ref sig .tc := ⟨.vmem, 8, rfl⟩
abbrev cc2_stg5_0 : Ref sig .tc := ⟨.vmem, 9, rfl⟩
abbrev cc2_stg5_1 : Ref sig .tc := ⟨.vmem, 10, rfl⟩
abbrev cc2_stg6_0 : Ref sig .tc := ⟨.vmem, 11, rfl⟩
abbrev cc2_stg6_1 : Ref sig .tc := ⟨.vmem, 12, rfl⟩
abbrev cc2_stg7_0 : Ref sig .tc := ⟨.vmem, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_scratch0 : Ref sig .scVector := ⟨.vmem, 6, rfl⟩
abbrev cc1_scratch1 : Ref sig .scVector := ⟨.vmem, 7, rfl⟩
abbrev cc3_scratch0 : Ref sig .scVector := ⟨.vmem, 8, rfl⟩
abbrev cc3_scratch1 : Ref sig .scVector := ⟨.vmem, 9, rfl⟩
abbrev cc2_sem0_0 : DmaSem sig := 8
abbrev cc2_sem1_0 : DmaSem sig := 9
abbrev cc2_sem1_1 : DmaSem sig := 10
abbrev cc2_sem2_0 : DmaSem sig := 11
abbrev cc2_sem2_1 : DmaSem sig := 12
abbrev cc2_sem3_0 : DmaSem sig := 13
abbrev cc2_sem3_1 : DmaSem sig := 14
abbrev cc2_sem4_0 : DmaSem sig := 15
abbrev cc2_sem4_1 : DmaSem sig := 16
abbrev cc2_sem5_0 : DmaSem sig := 17
abbrev cc2_sem5_1 : DmaSem sig := 18
abbrev cc2_sem6_0 : DmaSem sig := 19
abbrev cc2_sem6_1 : DmaSem sig := 20
abbrev cc2_sem7_0 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let arg1 : BitVec 32 := BitVec.ofNat 32 (i 1).val
  let c0_i32_0 : BitVec 32 := 0#32
  let v2 : BitVec 1 := Scalar.cmpi .eq arg1 c0_i32_0
  let v3 : BitVec 1 := Scalar.andi v1 v2
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_4 : BitVec 32 := 0#32
  let c128_i32 : BitVec 32 := 128#32
  let v8 : BitVec 32 := Scalar.addi c0_i32_4 c128_i32
  let c1_i32 : BitVec 32 := 1#32
  ⟨c0_i32_4, v8, c1_i32⟩
def k0_off1 (k0_t1 : Fin k0_t1_loop.trips) : Fin 2 → Nat :=
  let c0_i32_13 : BitVec 32 := 0#32
  let v20 : Index := Scalar.indexCast c0_i32_13
  let c0_i32_4 : BitVec 32 := 0#32
  let c1_i32 : BitVec 32 := 1#32
  let arg13 : BitVec 32 := Scf.iv c0_i32_4 c1_i32 k0_t1
  let c16_i32 : BitVec 32 := 16#32
  let v19 : BitVec 32 := Scalar.muli arg13 c16_i32
  let v21 : Index := Scalar.indexCast v19
  ![0, v21.toNat]
def k0_off2 (k0_t1 : Fin k0_t1_loop.trips) : Fin 2 → Nat :=
  let c1_i32_15 : BitVec 32 := 1#32
  let v24 : Index := Scalar.indexCast c1_i32_15
  let c0_i32_4 : BitVec 32 := 0#32
  let c1_i32 : BitVec 32 := 1#32
  let arg13 : BitVec 32 := Scf.iv c0_i32_4 c1_i32 k0_t1
  let c16_i32 : BitVec 32 := 16#32
  let v19 : BitVec 32 := Scalar.muli arg13 c16_i32
  let v25 : Index := Scalar.indexCast v19
  ![1, v25.toNat]
def k0_off3 (k0_t1 : Fin k0_t1_loop.trips) : Fin 2 → Nat :=
  let c2_i32 : BitVec 32 := 2#32
  let v31 : Index := Scalar.indexCast c2_i32
  let c0_i32_4 : BitVec 32 := 0#32
  let c1_i32 : BitVec 32 := 1#32
  let arg13 : BitVec 32 := Scf.iv c0_i32_4 c1_i32 k0_t1
  let c16_i32 : BitVec 32 := 16#32
  let v19 : BitVec 32 := Scalar.muli arg13 c16_i32
  let v32 : Index := Scalar.indexCast v19
  ![2, v32.toNat]
def k0_off4 (k0_t1 : Fin k0_t1_loop.trips) : Fin 2 → Nat :=
  let c3_i32 : BitVec 32 := 3#32
  let v38 : Index := Scalar.indexCast c3_i32
  let c0_i32_4 : BitVec 32 := 0#32
  let c1_i32 : BitVec 32 := 1#32
  let arg13 : BitVec 32 := Scf.iv c0_i32_4 c1_i32 k0_t1
  let c16_i32 : BitVec 32 := 16#32
  let v19 : BitVec 32 := Scalar.muli arg13 c16_i32
  let v39 : Index := Scalar.indexCast v19
  ![3, v39.toNat]
def k0_off5 (k0_t1 : Fin k0_t1_loop.trips) : Fin 2 → Nat :=
  let c4_i32 : BitVec 32 := 4#32
  let v45 : Index := Scalar.indexCast c4_i32
  let c0_i32_4 : BitVec 32 := 0#32
  let c1_i32 : BitVec 32 := 1#32
  let arg13 : BitVec 32 := Scf.iv c0_i32_4 c1_i32 k0_t1
  let c16_i32 : BitVec 32 := 16#32
  let v19 : BitVec 32 := Scalar.muli arg13 c16_i32
  let v46 : Index := Scalar.indexCast v19
  ![4, v46.toNat]
def k0_off6 (k0_t1 : Fin k0_t1_loop.trips) : Fin 2 → Nat :=
  let c5_i32 : BitVec 32 := 5#32
  let v52 : Index := Scalar.indexCast c5_i32
  let c0_i32_4 : BitVec 32 := 0#32
  let c1_i32 : BitVec 32 := 1#32
  let arg13 : BitVec 32 := Scf.iv c0_i32_4 c1_i32 k0_t1
  let c16_i32 : BitVec 32 := 16#32
  let v19 : BitVec 32 := Scalar.muli arg13 c16_i32
  let v53 : Index := Scalar.indexCast v19
  ![5, v53.toNat]
def k0_off7 (k0_t1 : Fin k0_t1_loop.trips) : Fin 2 → Nat :=
  let c6_i32 : BitVec 32 := 6#32
  let v59 : Index := Scalar.indexCast c6_i32
  let c0_i32_4 : BitVec 32 := 0#32
  let c1_i32 : BitVec 32 := 1#32
  let arg13 : BitVec 32 := Scf.iv c0_i32_4 c1_i32 k0_t1
  let c16_i32 : BitVec 32 := 16#32
  let v19 : BitVec 32 := Scalar.muli arg13 c16_i32
  let v60 : Index := Scalar.indexCast v19
  ![6, v60.toNat]
def k0_off8 (k0_t1 : Fin k0_t1_loop.trips) : Fin 2 → Nat :=
  let c7_i32 : BitVec 32 := 7#32
  let v66 : Index := Scalar.indexCast c7_i32
  let c0_i32_4 : BitVec 32 := 0#32
  let c1_i32 : BitVec 32 := 1#32
  let arg13 : BitVec 32 := Scf.iv c0_i32_4 c1_i32 k0_t1
  let c16_i32 : BitVec 32 := 16#32
  let v19 : BitVec 32 := Scalar.muli arg13 c16_i32
  let v67 : Index := Scalar.indexCast v19
  ![7, v67.toNat]
def k0_off9 (k0_t1 : Fin k0_t1_loop.trips) : Fin 1 → Nat :=
  let c0_i32_4 : BitVec 32 := 0#32
  let c1_i32 : BitVec 32 := 1#32
  let arg13 : BitVec 32 := Scf.iv c0_i32_4 c1_i32 k0_t1
  let c16_i32 : BitVec 32 := 16#32
  let v19 : BitVec 32 := Scalar.muli arg13 c16_i32
  let v73 : Index := Scalar.indexCast v19
  ![v73.toNat]
def k0_off10 (k0_t1 : Fin k0_t1_loop.trips) : Fin 1 → Nat :=
  let c0_i32_4 : BitVec 32 := 0#32
  let c1_i32 : BitVec 32 := 1#32
  let arg13 : BitVec 32 := Scf.iv c0_i32_4 c1_i32 k0_t1
  let c16_i32 : BitVec 32 := 16#32
  let v19 : BitVec 32 := Scalar.muli arg13 c16_i32
  let v80 : Index := Scalar.indexCast v19
  ![v80.toNat]

def k0_chk1 (i : grid0.Coords) (v72 : IVec S16 32) : Prop :=
  (∀ (k0_h1 : k0_cond1 i = 1#1), ∀ a x, ((![v72] : Fin 1 → IVec S16 32) a x).toNat < S16.size a) ∧
  (∀ (k0_h1 : k0_cond1 i = 1#1), ∀ a x, ((![v72] : Fin 1 → IVec S16 32) a x).toNat < S16.size a)
theorem k0_idx1_inb : ∀ (i : grid0.Coords) (v72 : IVec S16 32) (k0_hw1 : k0_chk1 i v72), ∀ (k0_h1 : k0_cond1 i = 1#1), ∀ a x, ((![v72] : Fin 1 → IVec S16 32) a x).toNat < S16.size a := fun i v72 k0_hw1 k0_h1 => k0_hw1.1 k0_h1
theorem k0_idx2_inb : ∀ (i : grid0.Coords) (v72 : IVec S16 32) (k0_hw1 : k0_chk1 i v72), ∀ (k0_h1 : k0_cond1 i = 1#1), ∀ a x, ((![v72] : Fin 1 → IVec S16 32) a x).toNat < S16.size a := fun i v72 k0_hw1 k0_h1 => k0_hw1.2 k0_h1
@[reducible] def k0_t2_loop : Scf.Loop 32 :=
  let c0_i32_9 : BitVec 32 := 0#32
  let c128_i32_10 : BitVec 32 := 128#32
  let v18 : BitVec 32 := Scalar.addi c0_i32_9 c128_i32_10
  let c1_i32_11 : BitVec 32 := 1#32
  ⟨c0_i32_9, v18, c1_i32_11⟩
def k0_off11 (k0_t2 : Fin k0_t2_loop.trips) : Fin 1 → Nat :=
  let c0_i32_9 : BitVec 32 := 0#32
  let c1_i32_11 : BitVec 32 := 1#32
  let arg13 : BitVec 32 := Scf.iv c0_i32_9 c1_i32_11 k0_t2
  let c16_i32 : BitVec 32 := 16#32
  let v19 : BitVec 32 := Scalar.muli arg13 c16_i32
  let v20 : Index := Scalar.indexCast v19
  ![v20.toNat]

def k0_chk2 (i : grid0.Coords) (v21 : IVec S16 32) : Prop :=
  (∀ (k0_h1 : k0_cond1 i = 1#1), ∀ a x, ((![v21] : Fin 1 → IVec S16 32) a x).toNat < S16.size a)
theorem k0_idx3_inb : ∀ (i : grid0.Coords) (v21 : IVec S16 32) (k0_hw2 : k0_chk2 i v21), ∀ (k0_h1 : k0_cond1 i = 1#1), ∀ a x, ((![v21] : Fin 1 → IVec S16 32) a x).toNat < S16.size a := fun i v21 k0_hw2 k0_h1 => k0_hw2 k0_h1
def k0_off12 (k0_t2 : Fin k0_t2_loop.trips) : Fin 1 → Nat :=
  let c0_i32_9 : BitVec 32 := 0#32
  let c1_i32_11 : BitVec 32 := 1#32
  let arg13 : BitVec 32 := Scf.iv c0_i32_9 c1_i32_11 k0_t2
  let c16_i32 : BitVec 32 := 16#32
  let v19 : BitVec 32 := Scalar.muli arg13 c16_i32
  let v23 : Index := Scalar.indexCast v19
  ![v23.toNat]

def k0_chk3 (i : grid0.Coords) (v29 : IVec S16 32) : Prop :=
  (∀ (k0_h1 : k0_cond1 i = 1#1), ∀ a x, ((![v29] : Fin 1 → IVec S16 32) a x).toNat < S2048.size a)
theorem k0_idx4_inb : ∀ (i : grid0.Coords) (v29 : IVec S16 32) (k0_hw3 : k0_chk3 i v29), ∀ (k0_h1 : k0_cond1 i = 1#1), ∀ a x, ((![v29] : Fin 1 → IVec S16 32) a x).toNat < S2048.size a := fun i v29 k0_hw3 k0_h1 => k0_hw3 k0_h1
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c384_i32 : BitVec 32 := 384#32
  let v2 : BitVec 32 := Scalar.muli v1 c384_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c384_i32 : BitVec 32 := 384#32
  let v2 : BitVec 32 := Scalar.muli v1 c384_i32
  let c0_i32_3_r1 : BitVec 32 := 0#32
  ![v2.toNat, 0]
abbrev grid2 : Pipeline.Grid := ⟨2, ![8, 2], ![false, false]⟩

abbrev pre2 : Pipeline.Prefetch sig := ⟨1, ![main_v29.idx], fun | 0 => main_v29.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def k2_off2 (i : grid2.Coords) : Fin 1 → Nat :=
  let arg0 : BitVec 32 := BitVec.ofNat 32 (i 0).val
  let c1_i32 : BitVec 32 := 1#32
  let v2 : BitVec 32 := Scalar.addi arg0 c1_i32
  let v3 : Index := Scalar.indexCast v2
  ![v3.toNat]
@[reducible] def k2_t1_loop (v1 : BitVec 32) (v4 : BitVec 32) : Scf.Loop 32 :=
  let c0_i32_6 : BitVec 32 := 0#32
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c8_i32 : BitVec 32 := 8#32
  let c0_i32_1 : BitVec 32 := 0#32
  let v11 : BitVec 1 := Scalar.cmpi .sgt c8_i32 c0_i32_1
  let v12 : BitVec 32 := Scalar.extui v11
  let c0_i32_2 : BitVec 32 := 0#32
  let v13 : BitVec 1 := Scalar.cmpi .slt c8_i32 c0_i32_2
  let v14 : BitVec 32 := Scalar.extui v13
  let v15 : BitVec 32 := Scalar.subi v12 v14
  let v16 : BitVec 1 := Scalar.cmpi .ne v10 v15
  let v17 : BitVec 32 := Scalar.remsi v1 c8_i32
  let c0_i32_3 : BitVec 32 := 0#32
  let v18 : BitVec 1 := Scalar.cmpi .ne v17 c0_i32_3
  let v19 : BitVec 1 := Scalar.andi v16 v18
  let v5 : BitVec 32 := Scalar.divsi v1 c8_i32
  let c1_i32_4 : BitVec 32 := 1#32
  let v20 : BitVec 32 := Scalar.subi v5 c1_i32_4
  let v21 : BitVec 32 := Scalar.select v19 v20 v5
  let c8_i32_5 : BitVec 32 := 8#32
  let v22 : BitVec 32 := Scalar.muli v21 c8_i32_5
  let v23 : BitVec 32 := Scalar.subi v4 v22
  let c127_i32 : BitVec 32 := 127#32
  let v24 : BitVec 32 := Scalar.addi v23 c127_i32
  let c128_i32 : BitVec 32 := 128#32
  let v25 : BitVec 32 := Scalar.divsi v24 c128_i32
  let v26 : BitVec 32 := Scalar.subi v25 c0_i32_6
  let c1_i32_8 : BitVec 32 := 1#32
  let v28 : BitVec 32 := Scalar.divsi v26 c1_i32_8
  let v29 : BitVec 32 := Scalar.muli v28 c1_i32_8
  let v30 : BitVec 32 := Scalar.addi c0_i32_6 v29
  let c1_i32_9 : BitVec 32 := 1#32
  ⟨c0_i32_6, v30, c1_i32_9⟩

def k2_off3 (v1 : BitVec 32) (v4 : BitVec 32) (k2_t1 : Fin (k2_t1_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c8_i32 : BitVec 32 := 8#32
  let c0_i32_1 : BitVec 32 := 0#32
  let v11 : BitVec 1 := Scalar.cmpi .sgt c8_i32 c0_i32_1
  let v12 : BitVec 32 := Scalar.extui v11
  let c0_i32_2 : BitVec 32 := 0#32
  let v13 : BitVec 1 := Scalar.cmpi .slt c8_i32 c0_i32_2
  let v14 : BitVec 32 := Scalar.extui v13
  let v15 : BitVec 32 := Scalar.subi v12 v14
  let v16 : BitVec 1 := Scalar.cmpi .ne v10 v15
  let v17 : BitVec 32 := Scalar.remsi v1 c8_i32
  let c0_i32_3 : BitVec 32 := 0#32
  let v18 : BitVec 1 := Scalar.cmpi .ne v17 c0_i32_3
  let v19 : BitVec 1 := Scalar.andi v16 v18
  let v5 : BitVec 32 := Scalar.divsi v1 c8_i32
  let c1_i32_4 : BitVec 32 := 1#32
  let v20 : BitVec 32 := Scalar.subi v5 c1_i32_4
  let v21 : BitVec 32 := Scalar.select v19 v20 v5
  let c8_i32_5 : BitVec 32 := 8#32
  let v22 : BitVec 32 := Scalar.muli v21 c8_i32_5
  let c0_i32_6 : BitVec 32 := 0#32
  let c1_i32_9 : BitVec 32 := 1#32
  let arg11 : BitVec 32 := Scf.iv c0_i32_6 c1_i32_9 k2_t1
  let c128_i32_11 : BitVec 32 := 128#32
  let v33 : BitVec 32 := Scalar.muli arg11 c128_i32_11
  let v34 : BitVec 32 := Scalar.addi v22 v33
  let c1920_i32 : BitVec 32 := 1920#32
  let v35 : BitVec 32 := Scalar.minsi v34 c1920_i32
  let v36 : Index := Scalar.indexCast v35
  let c0 : Index := 0#32
  ![v36.toNat, 0]
def k2_cond1 (i : grid2.Coords) : BitVec 1 :=
  let arg1 : BitVec 32 := BitVec.ofNat 32 (i 1).val
  let c0_i32_30 : BitVec 32 := 0#32
  let v71 : BitVec 1 := Scalar.cmpi .eq arg1 c0_i32_30
  let v72 : BitVec 32 := Scalar.extui v71
  let c0_i32_31 : BitVec 32 := 0#32
  let v73 : BitVec 1 := Scalar.cmpi .ne v72 c0_i32_31
  v73

def k2_off4 (v1 : BitVec 32) (v4 : BitVec 32) (k2_t1 : Fin (k2_t1_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c8_i32 : BitVec 32 := 8#32
  let c0_i32_1 : BitVec 32 := 0#32
  let v11 : BitVec 1 := Scalar.cmpi .sgt c8_i32 c0_i32_1
  let v12 : BitVec 32 := Scalar.extui v11
  let c0_i32_2 : BitVec 32 := 0#32
  let v13 : BitVec 1 := Scalar.cmpi .slt c8_i32 c0_i32_2
  let v14 : BitVec 32 := Scalar.extui v13
  let v15 : BitVec 32 := Scalar.subi v12 v14
  let v16 : BitVec 1 := Scalar.cmpi .ne v10 v15
  let v17 : BitVec 32 := Scalar.remsi v1 c8_i32
  let c0_i32_3 : BitVec 32 := 0#32
  let v18 : BitVec 1 := Scalar.cmpi .ne v17 c0_i32_3
  let v19 : BitVec 1 := Scalar.andi v16 v18
  let v5 : BitVec 32 := Scalar.divsi v1 c8_i32
  let c1_i32_4 : BitVec 32 := 1#32
  let v20 : BitVec 32 := Scalar.subi v5 c1_i32_4
  let v21 : BitVec 32 := Scalar.select v19 v20 v5
  let c8_i32_5 : BitVec 32 := 8#32
  let v22 : BitVec 32 := Scalar.muli v21 c8_i32_5
  let c0_i32_6 : BitVec 32 := 0#32
  let c1_i32_9 : BitVec 32 := 1#32
  let arg11 : BitVec 32 := Scf.iv c0_i32_6 c1_i32_9 k2_t1
  let c128_i32_11 : BitVec 32 := 128#32
  let v33 : BitVec 32 := Scalar.muli arg11 c128_i32_11
  let v34 : BitVec 32 := Scalar.addi v22 v33
  let c1920_i32 : BitVec 32 := 1920#32
  let v35 : BitVec 32 := Scalar.minsi v34 c1920_i32
  let v84 : Index := Scalar.indexCast v35
  let c0_38 : Index := 0#32
  ![v84.toNat, 0]
def k2_cond2 (i : grid2.Coords) : BitVec 1 :=
  let arg1 : BitVec 32 := BitVec.ofNat 32 (i 1).val
  let c0_i32_32 : BitVec 32 := 0#32
  let v74 : BitVec 1 := Scalar.cmpi .ne arg1 c0_i32_32
  let v75 : BitVec 32 := Scalar.extui v74
  let c0_i32_33 : BitVec 32 := 0#32
  let v76 : BitVec 1 := Scalar.cmpi .ne v75 c0_i32_33
  v76

def k2_off5 (v1 : BitVec 32) (v4 : BitVec 32) (k2_t1 : Fin (k2_t1_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c8_i32 : BitVec 32 := 8#32
  let c0_i32_1 : BitVec 32 := 0#32
  let v11 : BitVec 1 := Scalar.cmpi .sgt c8_i32 c0_i32_1
  let v12 : BitVec 32 := Scalar.extui v11
  let c0_i32_2 : BitVec 32 := 0#32
  let v13 : BitVec 1 := Scalar.cmpi .slt c8_i32 c0_i32_2
  let v14 : BitVec 32 := Scalar.extui v13
  let v15 : BitVec 32 := Scalar.subi v12 v14
  let v16 : BitVec 1 := Scalar.cmpi .ne v10 v15
  let v17 : BitVec 32 := Scalar.remsi v1 c8_i32
  let c0_i32_3 : BitVec 32 := 0#32
  let v18 : BitVec 1 := Scalar.cmpi .ne v17 c0_i32_3
  let v19 : BitVec 1 := Scalar.andi v16 v18
  let v5 : BitVec 32 := Scalar.divsi v1 c8_i32
  let c1_i32_4 : BitVec 32 := 1#32
  let v20 : BitVec 32 := Scalar.subi v5 c1_i32_4
  let v21 : BitVec 32 := Scalar.select v19 v20 v5
  let c8_i32_5 : BitVec 32 := 8#32
  let v22 : BitVec 32 := Scalar.muli v21 c8_i32_5
  let c0_i32_6 : BitVec 32 := 0#32
  let c1_i32_9 : BitVec 32 := 1#32
  let arg11 : BitVec 32 := Scf.iv c0_i32_6 c1_i32_9 k2_t1
  let c128_i32_11 : BitVec 32 := 128#32
  let v33 : BitVec 32 := Scalar.muli arg11 c128_i32_11
  let v34 : BitVec 32 := Scalar.addi v22 v33
  let c1920_i32 : BitVec 32 := 1920#32
  let v35 : BitVec 32 := Scalar.minsi v34 c1920_i32
  let v82 : Index := Scalar.indexCast v35
  let c0_36 : Index := 0#32
  ![v82.toNat, 0]
@[reducible] def k2_t2_loop (v1 : BitVec 32) (v4 : BitVec 32) : Scf.Loop 32 :=
  let c0_i32_6 : BitVec 32 := 0#32
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c8_i32 : BitVec 32 := 8#32
  let c0_i32_1 : BitVec 32 := 0#32
  let v11 : BitVec 1 := Scalar.cmpi .sgt c8_i32 c0_i32_1
  let v12 : BitVec 32 := Scalar.extui v11
  let c0_i32_2 : BitVec 32 := 0#32
  let v13 : BitVec 1 := Scalar.cmpi .slt c8_i32 c0_i32_2
  let v14 : BitVec 32 := Scalar.extui v13
  let v15 : BitVec 32 := Scalar.subi v12 v14
  let v16 : BitVec 1 := Scalar.cmpi .ne v10 v15
  let v17 : BitVec 32 := Scalar.remsi v1 c8_i32
  let c0_i32_3 : BitVec 32 := 0#32
  let v18 : BitVec 1 := Scalar.cmpi .ne v17 c0_i32_3
  let v19 : BitVec 1 := Scalar.andi v16 v18
  let v5 : BitVec 32 := Scalar.divsi v1 c8_i32
  let c1_i32_4 : BitVec 32 := 1#32
  let v20 : BitVec 32 := Scalar.subi v5 c1_i32_4
  let v21 : BitVec 32 := Scalar.select v19 v20 v5
  let c8_i32_5 : BitVec 32 := 8#32
  let v22 : BitVec 32 := Scalar.muli v21 c8_i32_5
  let v23 : BitVec 32 := Scalar.subi v4 v22
  let c127_i32 : BitVec 32 := 127#32
  let v24 : BitVec 32 := Scalar.addi v23 c127_i32
  let c128_i32 : BitVec 32 := 128#32
  let v25 : BitVec 32 := Scalar.divsi v24 c128_i32
  let v26 : BitVec 32 := Scalar.subi v25 c0_i32_6
  let c1_i32_8 : BitVec 32 := 1#32
  let v28 : BitVec 32 := Scalar.divsi v26 c1_i32_8
  let v29 : BitVec 32 := Scalar.muli v28 c1_i32_8
  let v30 : BitVec 32 := Scalar.addi c0_i32_6 v29
  let v27 : BitVec 32 := Scalar.addi c0_i32_6 v26
  let c1_i32_10 : BitVec 32 := 1#32
  ⟨v30, v27, c1_i32_10⟩
def k2_off6 (v1 : BitVec 32) (v4 : BitVec 32) (k2_t2 : Fin (k2_t2_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c8_i32 : BitVec 32 := 8#32
  let c0_i32_1 : BitVec 32 := 0#32
  let v11 : BitVec 1 := Scalar.cmpi .sgt c8_i32 c0_i32_1
  let v12 : BitVec 32 := Scalar.extui v11
  let c0_i32_2 : BitVec 32 := 0#32
  let v13 : BitVec 1 := Scalar.cmpi .slt c8_i32 c0_i32_2
  let v14 : BitVec 32 := Scalar.extui v13
  let v15 : BitVec 32 := Scalar.subi v12 v14
  let v16 : BitVec 1 := Scalar.cmpi .ne v10 v15
  let v17 : BitVec 32 := Scalar.remsi v1 c8_i32
  let c0_i32_3 : BitVec 32 := 0#32
  let v18 : BitVec 1 := Scalar.cmpi .ne v17 c0_i32_3
  let v19 : BitVec 1 := Scalar.andi v16 v18
  let v5 : BitVec 32 := Scalar.divsi v1 c8_i32
  let c1_i32_4 : BitVec 32 := 1#32
  let v20 : BitVec 32 := Scalar.subi v5 c1_i32_4
  let v21 : BitVec 32 := Scalar.select v19 v20 v5
  let c8_i32_5 : BitVec 32 := 8#32
  let v22 : BitVec 32 := Scalar.muli v21 c8_i32_5
  let c0_i32_6 : BitVec 32 := 0#32
  let v23 : BitVec 32 := Scalar.subi v4 v22
  let c127_i32 : BitVec 32 := 127#32
  let v24 : BitVec 32 := Scalar.addi v23 c127_i32
  let c128_i32 : BitVec 32 := 128#32
  let v25 : BitVec 32 := Scalar.divsi v24 c128_i32
  let v26 : BitVec 32 := Scalar.subi v25 c0_i32_6
  let c1_i32_8 : BitVec 32 := 1#32
  let v28 : BitVec 32 := Scalar.divsi v26 c1_i32_8
  let v29 : BitVec 32 := Scalar.muli v28 c1_i32_8
  let v30 : BitVec 32 := Scalar.addi c0_i32_6 v29
  let c1_i32_10 : BitVec 32 := 1#32
  let arg11 : BitVec 32 := Scf.iv v30 c1_i32_10 k2_t2
  let c128_i32_11 : BitVec 32 := 128#32
  let v33 : BitVec 32 := Scalar.muli arg11 c128_i32_11
  let v34 : BitVec 32 := Scalar.addi v22 v33
  let c1920_i32 : BitVec 32 := 1920#32
  let v35 : BitVec 32 := Scalar.minsi v34 c1920_i32
  let v36 : Index := Scalar.indexCast v35
  let c0 : Index := 0#32
  ![v36.toNat, 0]
def k2_cond3 (i : grid2.Coords) : BitVec 1 :=
  let arg1 : BitVec 32 := BitVec.ofNat 32 (i 1).val
  let c0_i32_30 : BitVec 32 := 0#32
  let v71 : BitVec 1 := Scalar.cmpi .eq arg1 c0_i32_30
  let v72 : BitVec 32 := Scalar.extui v71
  let c0_i32_31 : BitVec 32 := 0#32
  let v73 : BitVec 1 := Scalar.cmpi .ne v72 c0_i32_31
  v73

def k2_off7 (v1 : BitVec 32) (v4 : BitVec 32) (k2_t2 : Fin (k2_t2_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c8_i32 : BitVec 32 := 8#32
  let c0_i32_1 : BitVec 32 := 0#32
  let v11 : BitVec 1 := Scalar.cmpi .sgt c8_i32 c0_i32_1
  let v12 : BitVec 32 := Scalar.extui v11
  let c0_i32_2 : BitVec 32 := 0#32
  let v13 : BitVec 1 := Scalar.cmpi .slt c8_i32 c0_i32_2
  let v14 : BitVec 32 := Scalar.extui v13
  let v15 : BitVec 32 := Scalar.subi v12 v14
  let v16 : BitVec 1 := Scalar.cmpi .ne v10 v15
  let v17 : BitVec 32 := Scalar.remsi v1 c8_i32
  let c0_i32_3 : BitVec 32 := 0#32
  let v18 : BitVec 1 := Scalar.cmpi .ne v17 c0_i32_3
  let v19 : BitVec 1 := Scalar.andi v16 v18
  let v5 : BitVec 32 := Scalar.divsi v1 c8_i32
  let c1_i32_4 : BitVec 32 := 1#32
  let v20 : BitVec 32 := Scalar.subi v5 c1_i32_4
  let v21 : BitVec 32 := Scalar.select v19 v20 v5
  let c8_i32_5 : BitVec 32 := 8#32
  let v22 : BitVec 32 := Scalar.muli v21 c8_i32_5
  let c0_i32_6 : BitVec 32 := 0#32
  let v23 : BitVec 32 := Scalar.subi v4 v22
  let c127_i32 : BitVec 32 := 127#32
  let v24 : BitVec 32 := Scalar.addi v23 c127_i32
  let c128_i32 : BitVec 32 := 128#32
  let v25 : BitVec 32 := Scalar.divsi v24 c128_i32
  let v26 : BitVec 32 := Scalar.subi v25 c0_i32_6
  let c1_i32_8 : BitVec 32 := 1#32
  let v28 : BitVec 32 := Scalar.divsi v26 c1_i32_8
  let v29 : BitVec 32 := Scalar.muli v28 c1_i32_8
  let v30 : BitVec 32 := Scalar.addi c0_i32_6 v29
  let c1_i32_10 : BitVec 32 := 1#32
  let arg11 : BitVec 32 := Scf.iv v30 c1_i32_10 k2_t2
  let c128_i32_11 : BitVec 32 := 128#32
  let v33 : BitVec 32 := Scalar.muli arg11 c128_i32_11
  let v34 : BitVec 32 := Scalar.addi v22 v33
  let c1920_i32 : BitVec 32 := 1920#32
  let v35 : BitVec 32 := Scalar.minsi v34 c1920_i32
  let v84 : Index := Scalar.indexCast v35
  let c0_38 : Index := 0#32
  ![v84.toNat, 0]
def k2_cond4 (i : grid2.Coords) : BitVec 1 :=
  let arg1 : BitVec 32 := BitVec.ofNat 32 (i 1).val
  let c0_i32_32 : BitVec 32 := 0#32
  let v74 : BitVec 1 := Scalar.cmpi .ne arg1 c0_i32_32
  let v75 : BitVec 32 := Scalar.extui v74
  let c0_i32_33 : BitVec 32 := 0#32
  let v76 : BitVec 1 := Scalar.cmpi .ne v75 c0_i32_33
  v76

def k2_off8 (v1 : BitVec 32) (v4 : BitVec 32) (k2_t2 : Fin (k2_t2_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c8_i32 : BitVec 32 := 8#32
  let c0_i32_1 : BitVec 32 := 0#32
  let v11 : BitVec 1 := Scalar.cmpi .sgt c8_i32 c0_i32_1
  let v12 : BitVec 32 := Scalar.extui v11
  let c0_i32_2 : BitVec 32 := 0#32
  let v13 : BitVec 1 := Scalar.cmpi .slt c8_i32 c0_i32_2
  let v14 : BitVec 32 := Scalar.extui v13
  let v15 : BitVec 32 := Scalar.subi v12 v14
  let v16 : BitVec 1 := Scalar.cmpi .ne v10 v15
  let v17 : BitVec 32 := Scalar.remsi v1 c8_i32
  let c0_i32_3 : BitVec 32 := 0#32
  let v18 : BitVec 1 := Scalar.cmpi .ne v17 c0_i32_3
  let v19 : BitVec 1 := Scalar.andi v16 v18
  let v5 : BitVec 32 := Scalar.divsi v1 c8_i32
  let c1_i32_4 : BitVec 32 := 1#32
  let v20 : BitVec 32 := Scalar.subi v5 c1_i32_4
  let v21 : BitVec 32 := Scalar.select v19 v20 v5
  let c8_i32_5 : BitVec 32 := 8#32
  let v22 : BitVec 32 := Scalar.muli v21 c8_i32_5
  let c0_i32_6 : BitVec 32 := 0#32
  let v23 : BitVec 32 := Scalar.subi v4 v22
  let c127_i32 : BitVec 32 := 127#32
  let v24 : BitVec 32 := Scalar.addi v23 c127_i32
  let c128_i32 : BitVec 32 := 128#32
  let v25 : BitVec 32 := Scalar.divsi v24 c128_i32
  let v26 : BitVec 32 := Scalar.subi v25 c0_i32_6
  let c1_i32_8 : BitVec 32 := 1#32
  let v28 : BitVec 32 := Scalar.divsi v26 c1_i32_8
  let v29 : BitVec 32 := Scalar.muli v28 c1_i32_8
  let v30 : BitVec 32 := Scalar.addi c0_i32_6 v29
  let c1_i32_10 : BitVec 32 := 1#32
  let arg11 : BitVec 32 := Scf.iv v30 c1_i32_10 k2_t2
  let c128_i32_11 : BitVec 32 := 128#32
  let v33 : BitVec 32 := Scalar.muli arg11 c128_i32_11
  let v34 : BitVec 32 := Scalar.addi v22 v33
  let c1920_i32 : BitVec 32 := 1920#32
  let v35 : BitVec 32 := Scalar.minsi v34 c1920_i32
  let v82 : Index := Scalar.indexCast v35
  let c0_36 : Index := 0#32
  ![v82.toNat, 0]

def k2_chk1 (i : grid2.Coords) (v1 : BitVec 32) (v4 : BitVec 32) : Prop :=
  ((k2_t1_loop v1 v4).OK) ∧
  (∀ k2_t1 : Fin (k2_t1_loop v1 v4).trips, ∀ a, (k2_off3 v1 v4 k2_t1) a + S128x768.size a ≤ S2048x768.size a) ∧
  (∀ k2_t1 : Fin (k2_t1_loop v1 v4).trips, ∀ (k2_h1 : k2_cond1 i = 1#1), ∀ a, (k2_off4 v1 v4 k2_t1) a + S128x768.size a ≤ S2048x768.size a) ∧
  (∀ k2_t1 : Fin (k2_t1_loop v1 v4).trips, ∀ (k2_h2 : k2_cond2 i = 1#1), ∀ a, (k2_off5 v1 v4 k2_t1) a + S128x768.size a ≤ S2048x768.size a) ∧
  ((k2_t2_loop v1 v4).OK) ∧
  (∀ k2_t2 : Fin (k2_t2_loop v1 v4).trips, ∀ a, (k2_off6 v1 v4 k2_t2) a + S128x768.size a ≤ S2048x768.size a) ∧
  (∀ k2_t2 : Fin (k2_t2_loop v1 v4).trips, ∀ (k2_h3 : k2_cond3 i = 1#1), ∀ a, (k2_off7 v1 v4 k2_t2) a + S128x768.size a ≤ S2048x768.size a) ∧
  (∀ k2_t2 : Fin (k2_t2_loop v1 v4).trips, ∀ (k2_h4 : k2_cond4 i = 1#1), ∀ a, (k2_off8 v1 v4 k2_t2) a + S128x768.size a ≤ S2048x768.size a)
theorem k2_t1_ok : ∀ (i : grid2.Coords) (v1 : BitVec 32) (v4 : BitVec 32) (k2_hw1 : k2_chk1 i v1 v4), (k2_t1_loop v1 v4).OK := fun i v1 v4 k2_hw1 => k2_hw1.1
theorem k2_off3_inb : ∀ (i : grid2.Coords) (v1 : BitVec 32) (v4 : BitVec 32) (k2_hw1 : k2_chk1 i v1 v4) (k2_t1 : Fin (k2_t1_loop v1 v4).trips), ∀ a, (k2_off3 v1 v4 k2_t1) a + S128x768.size a ≤ S2048x768.size a := fun i v1 v4 k2_hw1 k2_t1 => k2_hw1.2.1 k2_t1
theorem k2_off4_inb : ∀ (i : grid2.Coords) (v1 : BitVec 32) (v4 : BitVec 32) (k2_hw1 : k2_chk1 i v1 v4) (k2_t1 : Fin (k2_t1_loop v1 v4).trips), ∀ (k2_h1 : k2_cond1 i = 1#1), ∀ a, (k2_off4 v1 v4 k2_t1) a + S128x768.size a ≤ S2048x768.size a := fun i v1 v4 k2_hw1 k2_t1 k2_h1 => k2_hw1.2.2.1 k2_t1 k2_h1
theorem k2_off5_inb : ∀ (i : grid2.Coords) (v1 : BitVec 32) (v4 : BitVec 32) (k2_hw1 : k2_chk1 i v1 v4) (k2_t1 : Fin (k2_t1_loop v1 v4).trips), ∀ (k2_h2 : k2_cond2 i = 1#1), ∀ a, (k2_off5 v1 v4 k2_t1) a + S128x768.size a ≤ S2048x768.size a := fun i v1 v4 k2_hw1 k2_t1 k2_h2 => k2_hw1.2.2.2.1 k2_t1 k2_h2
theorem k2_t2_ok : ∀ (i : grid2.Coords) (v1 : BitVec 32) (v4 : BitVec 32) (k2_hw1 : k2_chk1 i v1 v4), (k2_t2_loop v1 v4).OK := fun i v1 v4 k2_hw1 => k2_hw1.2.2.2.2.1
theorem k2_off6_inb : ∀ (i : grid2.Coords) (v1 : BitVec 32) (v4 : BitVec 32) (k2_hw1 : k2_chk1 i v1 v4) (k2_t2 : Fin (k2_t2_loop v1 v4).trips), ∀ a, (k2_off6 v1 v4 k2_t2) a + S128x768.size a ≤ S2048x768.size a := fun i v1 v4 k2_hw1 k2_t2 => k2_hw1.2.2.2.2.2.1 k2_t2
theorem k2_off7_inb : ∀ (i : grid2.Coords) (v1 : BitVec 32) (v4 : BitVec 32) (k2_hw1 : k2_chk1 i v1 v4) (k2_t2 : Fin (k2_t2_loop v1 v4).trips), ∀ (k2_h3 : k2_cond3 i = 1#1), ∀ a, (k2_off7 v1 v4 k2_t2) a + S128x768.size a ≤ S2048x768.size a := fun i v1 v4 k2_hw1 k2_t2 k2_h3 => k2_hw1.2.2.2.2.2.2.1 k2_t2 k2_h3
theorem k2_off8_inb : ∀ (i : grid2.Coords) (v1 : BitVec 32) (v4 : BitVec 32) (k2_hw1 : k2_chk1 i v1 v4) (k2_t2 : Fin (k2_t2_loop v1 v4).trips), ∀ (k2_h4 : k2_cond4 i = 1#1), ∀ a, (k2_off8 v1 v4 k2_t2) a + S128x768.size a ≤ S2048x768.size a := fun i v1 v4 k2_hw1 k2_t2 k2_h4 => k2_hw1.2.2.2.2.2.2.2 k2_t2 k2_h4

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2048x768 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1x768x1536 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1x1536 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x768x1536 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1x1536 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x1536x768 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x1x768 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 1 → Memref sig .tc .vmem S2048x768 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c384_i32 : BitVec 32 := 384#32
  let v2 : BitVec 32 := Scalar.muli v1 c384_i32
  ![v2.toNat]
def k3_off2 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c384_i32 : BitVec 32 := 384#32
  let v2 : BitVec 32 := Scalar.muli v1 c384_i32
  let c0_i32_3_r1 : BitVec 32 := 0#32
  ![v2.toNat, 0]
abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))
-- ==== ReferenceIdeal.lean ====
abbrev S1x2048x768 : Shape := ⟨3, ![1, 2048, 768]⟩
abbrev S768x8 : Shape := ⟨2, ![768, 8]⟩
abbrev S8 : Shape := ⟨1, ![8]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S2048x8 : Shape := ⟨2, ![2048, 8]⟩
abbrev S2048x768 : Shape := ⟨2, ![2048, 768]⟩
abbrev S1x8 : Shape := ⟨2, ![1, 8]⟩
abbrev S2048x1 : Shape := ⟨2, ![2048, 1]⟩
abbrev S_ : Shape := ⟨0, ![]⟩
abbrev S2048 : Shape := ⟨1, ![2048]⟩
abbrev S2048x1x1 : Shape := ⟨3, ![2048, 1, 1]⟩
abbrev S2048x1x2 : Shape := ⟨3, ![2048, 1, 2]⟩
abbrev S2048x8x3072 : Shape := ⟨3, ![2048, 8, 3072]⟩
abbrev S1x8x3072 : Shape := ⟨3, ![1, 8, 3072]⟩
abbrev S8x768x2048 : Shape := ⟨3, ![8, 768, 2048]⟩
abbrev S2048x8x768 : Shape := ⟨3, ![2048, 8, 768]⟩
abbrev S1x8x768 : Shape := ⟨3, ![1, 8, 768]⟩

abbrev nBuf : Space → Nat
  | .hbm => 108
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S768x8, .f32⟩
  | .hbm, ⟨2, _⟩ => ⟨S8, .f32⟩
  | .hbm, ⟨3, _⟩ => ⟨S8x768x3072, .f32⟩
  | .hbm, ⟨4, _⟩ => ⟨S8x3072, .f32⟩
  | .hbm, ⟨5, _⟩ => ⟨S8x768x3072, .f32⟩
  | .hbm, ⟨6, _⟩ => ⟨S8x3072, .f32⟩
  | .hbm, ⟨7, _⟩ => ⟨S8x3072x768, .f32⟩
  | .hbm, ⟨8, _⟩ => ⟨S8x768, .f32⟩
  | .hbm, ⟨9, _⟩ => ⟨S2048x8, .f32⟩
  | .hbm, ⟨10, _⟩ => ⟨S2048x768, .f32⟩
  | .hbm, ⟨11, _⟩ => ⟨S2048x8, .f32⟩
  | .hbm, ⟨12, _⟩ => ⟨S1x8, .f32⟩
  | .hbm, ⟨13, _⟩ => ⟨S2048x8, .f32⟩
  | .hbm, ⟨14, _⟩ => ⟨S2048x8, .f32⟩
  | .hbm, ⟨15, _⟩ => ⟨S2048x8, .f32⟩
  | .hbm, ⟨16, _⟩ => ⟨S2048x1, .f32⟩
  | .hbm, ⟨17, _⟩ => ⟨S2048x1, .i32⟩
  | .hbm, ⟨18, _⟩ => ⟨S_, .f32⟩
  | .hbm, ⟨19, _⟩ => ⟨S2048x8, .f32⟩
  | .hbm, ⟨20, _⟩ => ⟨S2048, .i32⟩
  | .hbm, ⟨21, _⟩ => ⟨S2048x1, .i32⟩
  | .hbm, ⟨22, _⟩ => ⟨S_, .i32⟩
  | .hbm, ⟨23, _⟩ => ⟨S2048x1, .i32⟩
  | .hbm, ⟨24, _⟩ => ⟨S2048x1, .i1⟩
  | .hbm, ⟨25, _⟩ => ⟨S_, .i32⟩
  | .hbm, ⟨26, _⟩ => ⟨S2048x1, .i32⟩
  | .hbm, ⟨27, _⟩ => ⟨S2048x1, .i32⟩
  | .hbm, ⟨28, _⟩ => ⟨S2048x1, .i32⟩
  | .hbm, ⟨29, _⟩ => ⟨S_, .i32⟩
  | .hbm, ⟨30, _⟩ => ⟨S2048x1, .i32⟩
  | .hbm, ⟨31, _⟩ => ⟨S2048x1, .i1⟩
  | .hbm, ⟨32, _⟩ => ⟨S_, .i32⟩
  | .hbm, ⟨33, _⟩ => ⟨S2048x1, .i32⟩
  | .hbm, ⟨34, _⟩ => ⟨S2048x1, .i32⟩
  | .hbm, ⟨35, _⟩ => ⟨S2048x1, .i32⟩
  | .hbm, ⟨36, _⟩ => ⟨S2048x1x1, .i32⟩
  | .hbm, ⟨37, _⟩ => ⟨S2048x1x1, .i32⟩
  | .hbm, ⟨38, _⟩ => ⟨S2048x1x2, .i32⟩
  | .hbm, ⟨39, _⟩ => ⟨S2048x8, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x1, .f32⟩
  | .hbm, ⟨46, _⟩ => ⟨S2048x8, .f32⟩
  | .hbm, ⟨47, _⟩ => ⟨S2048x8, .f32⟩
  | .hbm, ⟨48, _⟩ => ⟨S2048x8, .f32⟩
  | .hbm, ⟨49, _⟩ => ⟨S_, .f32⟩
  | .hbm, ⟨50, _⟩ => ⟨S2048, .f32⟩
  | .hbm, ⟨51, _⟩ => ⟨S2048x1, .f32⟩
  | .hbm, ⟨52, _⟩ => ⟨S2048x8, .f32⟩
  | .hbm, ⟨53, _⟩ => ⟨S2048x8, .f32⟩
  | .hbm, ⟨54, _⟩ => ⟨S_, .f32⟩
  | .hbm, ⟨55, _⟩ => ⟨S2048, .f32⟩
  | .hbm, ⟨56, _⟩ => ⟨S_, .f32⟩
  | .hbm, ⟨57, _⟩ => ⟨S2048, .f32⟩
  | .hbm, ⟨58, _⟩ => ⟨S2048, .f32⟩
  | .hbm, ⟨59, _⟩ => ⟨S2048x1, .f32⟩
  | .hbm, ⟨60, _⟩ => ⟨S2048x8, .f32⟩
  | .hbm, ⟨61, _⟩ => ⟨S2048x8, .f32⟩
  | .hbm, ⟨62, _⟩ => ⟨S2048x8, .f32⟩
  | .hbm, ⟨63, _⟩ => ⟨S_, .f32⟩
  | .hbm, ⟨64, _⟩ => ⟨S2048, .f32⟩
  | .hbm, ⟨65, _⟩ => ⟨S2048x1, .f32⟩
  | .hbm, ⟨66, _⟩ => ⟨S2048x8, .f32⟩
  | .hbm, ⟨67, _⟩ => ⟨S2048x8, .f32⟩
  | .hbm, ⟨68, _⟩ => ⟨S_, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S8, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S2048x8x3072, .f32⟩
  | .hbm, ⟨84, _⟩ => ⟨S1x8x3072, .f32⟩
  | .hbm, ⟨85, _⟩ => ⟨S2048x8x3072, .f32⟩
  | .hbm, ⟨86, _⟩ => ⟨S2048x8x3072, .f32⟩
  | .hbm, ⟨87, _⟩ => ⟨S2048x8x3072, .f32⟩
  | .hbm, ⟨88, _⟩ => ⟨S1x8x3072, .f32⟩
  | .hbm, ⟨89, _⟩ => ⟨S2048x8x3072, .f32⟩
  | .hbm, ⟨90, _⟩ => ⟨S2048x8x3072, .f32⟩
  | .hbm, ⟨91, _⟩ => ⟨S2048x8x3072, .f32⟩
  | .hbm, ⟨92, _⟩ => ⟨S2048x8x3072, .f32⟩
  | .hbm, ⟨93, _⟩ => ⟨S_, .f32⟩
  | .hbm, ⟨94, _⟩ => ⟨S2048x8x3072, .f32⟩
  | .hbm, ⟨95, _⟩ => ⟨S2048x8x3072, .f32⟩
  | .hbm, ⟨96, _⟩ => ⟨S_, .f32⟩
  | .hbm, ⟨97, _⟩ => ⟨S2048x8x3072, .f32⟩
  | .hbm, ⟨98, _⟩ => ⟨S2048x8x3072, .f32⟩
  | .hbm, ⟨99, _⟩ => ⟨S2048x8x3072, .f32⟩
  | .hbm, ⟨100, _⟩ => ⟨S2048x8x3072, .f32⟩
  | .hbm, ⟨101, _⟩ => ⟨S8x768x2048, .f32⟩
  | .hbm, ⟨102, _⟩ => ⟨S2048x8x768, .f32⟩
  | .hbm, ⟨103, _⟩ => ⟨S1x8x768, .f32⟩
  | .hbm, ⟨104, _⟩ => ⟨S2048x8x768, .f32⟩
  | .hbm, ⟨105, _⟩ => ⟨S2048x8x768, .f32⟩
  | .hbm, ⟨106, _⟩ => ⟨S2048x768, .f32⟩
  | .hbm, ⟨107, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_values : Ref sig .tc := ⟨.hbm, 16, rfl⟩
abbrev main_indices : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_cst_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_12 : Ref sig .tc := ⟨.hbm, 77, rfl⟩
abbrev main_v51 : Ref sig .tc := ⟨.hbm, 78, rfl⟩
abbrev main_cst_13 : Ref sig .tc := ⟨.hbm, 79, rfl⟩
abbrev main_v52 : Ref sig .tc := ⟨.hbm, 80, rfl⟩
abbrev main_cst_14 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_call0_v0 : Ref sig .tc := ⟨.hbm, 91, rfl⟩
abbrev main_call0_v1 : Ref sig .tc := ⟨.hbm, 92, rfl⟩
abbrev main_call0_cst : Ref sig .tc := ⟨.hbm, 93, rfl⟩
abbrev main_call0_v2 : Ref sig .tc := ⟨.hbm, 94, rfl⟩
abbrev main_call0_v3 : Ref sig .tc := ⟨.hbm, 95, rfl⟩
abbrev main_call0_cst_0 : Ref sig .tc := ⟨.hbm, 96, rfl⟩
abbrev main_call0_v4 : Ref sig .tc := ⟨.hbm, 97, rfl⟩
abbrev main_call0_v5 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩

abbrev nD : Nat := 1
abbrev τ : Topo := Topo.v7x

variable {F : FTy → Type} [FloatOps F]
-- ==== Proof.Base.lean ====
/-
  The set-up shared by the modules of this proof: the program as the launch theorem sees it (three SparseCore calls and
  one TensorCore pipeline), the resource algebra (the launch handshakes, the pipeline's staging cells, the transfers'
  counters), and the locations of the arrays the SparseCore calls exchange.
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.FrameBody
public import Idealize.ShloMosaic.Lib.LoopRemainder
public import Idealize.ShloMosaic.Lib.ShareLeaves
public import Idealize.ShloMosaic.Lib.Exec
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 3 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UP : Type := URounds (GSem nD τ sig) Unit
abbrev UU : Type := UH × (UP × Counters)

/-- The resources of this proof. -/
abbrev MM (F : FTy → Type) : Type := MT nD τ sig (HIx 3) (Elt F) ℕ UU ℕ

abbrev EH : Emb UH (MM F) := embL
/-- The staging cells' rounds, and what is left for the counters, inside the second component. -/
abbrev EP : Emb UP (MM F) := (Emb.inl : Emb UP (UP × Counters)).trans embR

instance EP_landsIn : (EP (F := F)).LandsIn (upEmb : UEmb _ (MM F)) := by
  unfold EP embR; infer_instance

end Cert.Proof.Moe

end
-- ==== Proof.Sorting.lean ====
/-
  Counting: the tokens sorted by their expert. A token's place is the number of tokens of smaller experts plus the number of
  earlier tokens of its own expert; the places are a rearrangement of the tokens.
-/
module

public import Mathlib.Data.Nat.Count
public import Mathlib.Algebra.Order.BigOperators.Group.Finset
public import Mathlib.Data.Fintype.EquivFin
public import Mathlib.Algebra.BigOperators.Group.Finset.Piecewise

@[expose] public section

namespace Cert.Proof.Moe

/-- How many of the first `n` tokens have the expert `e`. -/
def cnt (be : ℕ → ℕ) (n e : ℕ) : ℕ := Nat.count (fun s => be s = e) n

/-- How many earlier tokens share the token's expert. -/
def rank (be : ℕ → ℕ) (t : ℕ) : ℕ := cnt be t (be t)

/-- How many of the first `n` tokens have an expert below `e`. -/
def start (be : ℕ → ℕ) (n e : ℕ) : ℕ := ∑ i ∈ Finset.range e, cnt be n i

/-- The token's place in the sorted order of `n` tokens. -/
def place (be : ℕ → ℕ) (n t : ℕ) : ℕ := rank be t + start be n (be t)

theorem start_succ (be : ℕ → ℕ) (n e : ℕ) : start be n (e + 1) = start be n e + cnt be n e := Finset.sum_range_succ _ _

theorem start_mono (be : ℕ → ℕ) (n : ℕ) {a b : ℕ} (h : a ≤ b) : start be n a ≤ start be n b :=
  Finset.sum_le_sum_of_subset (Finset.range_mono h)

theorem start_all (be : ℕ → ℕ) (m : ℕ) (hb : ∀ t, be t < m) (n : ℕ) : start be n m = n := by
  induction n with
  | zero => exact Finset.sum_eq_zero fun i _ => Nat.count_zero _
  | succ n ih =>
    have h : ∀ e, cnt be (n + 1) e = cnt be n e + if be n = e then 1 else 0 := fun e => Nat.count_succ _ _
    unfold start at ih ⊢
    simp only [h, Finset.sum_add_distrib, ih, Finset.sum_ite_eq, Finset.mem_range, hb n, if_true]

theorem start_le (be : ℕ → ℕ) (m : ℕ) (hb : ∀ t, be t < m) (n : ℕ) {e : ℕ} (h : e ≤ m) : start be n e ≤ n :=
  (start_mono be n h).trans (start_all be m hb n).le

theorem cnt_le (be : ℕ → ℕ) (n e : ℕ) : cnt be n e ≤ n := Nat.count_le _

theorem rank_lt (be : ℕ → ℕ) {n t : ℕ} (h : t < n) : rank be t < cnt be n (be t) :=
  Nat.count_strict_mono (p := fun s => be s = be t) rfl h

theorem start_le_place (be : ℕ → ℕ) (n t : ℕ) : start be n (be t) ≤ place be n t := Nat.le_add_left _ _

theorem place_lt_start (be : ℕ → ℕ) {n t : ℕ} (h : t < n) : place be n t < start be n (be t + 1) := by
  rw [start_succ]; unfold place; have := rank_lt be h; omega

theorem place_lt (be : ℕ → ℕ) (m : ℕ) (hb : ∀ t, be t < m) {n t : ℕ} (h : t < n) : place be n t < n :=
  (place_lt_start be h).trans_le (start_le be m hb n (hb t))

theorem place_inj (be : ℕ → ℕ) {n s t : ℕ} (hs : s < n) (ht : t < n) (h : place be n s = place be n t) : s = t := by
  have e : be s = be t := by
    rcases Nat.lt_trichotomy (be s) (be t) with l | l | l
    · have h1 := place_lt_start be hs
      have h2 := start_mono be n (show be s + 1 ≤ be t from l)
      have h3 := start_le_place be n t
      omega
    · exact l
    · have h1 := place_lt_start be ht
      have h2 := start_mono be n (show be t + 1 ≤ be s from l)
      have h3 := start_le_place be n s
      omega
  have h1 : rank be s = rank be t := by
    unfold place at h; rw [e] at h; omega
  unfold rank cnt at h1
  rw [e] at h1
  exact Nat.count_injective (p := fun i => be i = be t) e rfl h1

/-- Every place is a token's. -/
theorem place_surj (be : ℕ → ℕ) (m : ℕ) (hb : ∀ t, be t < m) {n p : ℕ} (h : p < n) : ∃ t < n, place be n t = p := by
  have hi : Function.Injective fun t : Fin n => (⟨place be n t.val, place_lt be m hb t.isLt⟩ : Fin n) := fun s t e =>
    Fin.ext (place_inj be s.isLt t.isLt (congrArg Fin.val e))
  obtain ⟨t, ht⟩ := (Finite.injective_iff_surjective.mp hi) ⟨p, h⟩
  exact ⟨t.val, t.isLt, congrArg Fin.val ht⟩

theorem cnt_add (be : ℕ → ℕ) (m n e : ℕ) : cnt be (m + n) e = cnt be m e + cnt (fun s => be (m + s)) n e := Nat.count_add _ _ _

end Cert.Proof.Moe

end
-- ==== Proof.Lanes.lean ====
/-
  Sixteen lanes at a time: what the indexed loads and stores and the running counts of a group of sixteen tokens leave, in
  terms of the counts of the sorted order.
-/
module

public import proofs.«01_k».proof.Proof.Base
public import proofs.«01_k».proof.Proof.Sorting

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The place of a one-axis array at a number. -/
def at1 {n : Nat} (k : Fin n) : (⟨1, ![n]⟩ : Shape).Idx := fun | 0 => k

theorem at1_rowMajor {n : Nat} (k : Fin n) : (((⟨1, ![n]⟩ : Shape).rowMajor (at1 k)).val = k.val) := by
  rw [Shape.rowMajor_val_one]; rfl

theorem at1_self {n : Nat} (x : (⟨1, ![n]⟩ : Shape).Idx) : at1 (x 0) = x := by
  funext a
  match a with
  | 0 => rfl

/-- An indexed load's lane is the base's element at the lane's word. -/
theorem loadIdx_at {n : Nat} {e : EltTy} (f : Vec F ⟨1, ![n]⟩ e) (v : IVec S16 32) (h) (j : S16.Idx) (k : Fin n) (hk : (v j).toNat = k.val) :
    loadIdx (s := ⟨1, ![n]⟩) f (![v] : Fin 1 → IVec S16 32) h j = f (at1 k) := by
  unfold loadIdx
  refine congrArg f (funext fun a => ?_)
  match a with
  | 0 => exact Fin.ext hk

/-- Writes taken in order: a place keeps its value where none of them is its own. -/
theorem foldl_miss {ι α β : Type} (step : (β → α) → ι → β → α) (p : β) (own : ι → Prop) (h0 : ∀ g j, ¬ own j → step g j p = g p) :
    ∀ (l : List ι) (g : β → α), (∀ j ∈ l, ¬ own j) → l.foldl step g p = g p
  | [], _, _ => rfl
  | j :: l, g, h => (foldl_miss step p own h0 l _ fun i hi => h i (List.mem_cons_of_mem _ hi)).trans (h0 g j (h j List.mem_cons_self))

/-- Writes taken in order: a place holds the value that all its own writes carry. -/
theorem foldl_hit {ι α β : Type} (step : (β → α) → ι → β → α) (p : β) (own : ι → Prop) (c : α) (h0 : ∀ g j, ¬ own j → step g j p = g p)
    (h1 : ∀ g j, own j → step g j p = c) : ∀ (l : List ι) (g : β → α), ((∃ j ∈ l, own j) ∨ g p = c) → l.foldl step g p = c
  | [], _, h => h.elim (fun ⟨_, hj, _⟩ => absurd hj List.not_mem_nil) id
  | j :: l, g, h => foldl_hit step p own c h0 h1 l _ (by
      by_cases hj : own j
      · exact .inr (h1 g j hj)
      · rcases h with ⟨i, hi, ho⟩ | h
        · rcases List.mem_cons.mp hi with rfl | hi
          · exact absurd ho hj
          · exact .inl ⟨i, hi, ho⟩
        · exact .inr ((h0 g j hj).trans h))

/-- One lane's write. -/
def laneWrite {n : Nat} {e : EltTy} (v : IVec S16 32) (w : Vec F S16 e) (mask : IVec S16 1) (h : ∀ a x, ((![v] : Fin 1 → IVec S16 32) a x).toNat < (⟨1, ![n]⟩ : Shape).size a)
    (g : Vec F ⟨1, ![n]⟩ e) (j : Fin (![16] 0)) : Vec F ⟨1, ![n]⟩ e :=
  let x : S16.Idx := Shape.ofLane (d := ![16]) j
  if mask x = 1 then
    let i := idxAt (s := ⟨1, ![n]⟩) (![v] : Fin 1 → IVec S16 32) h x
    fun y => if (∀ a, (y a).val = (i a).val) then w x else g y
  else g

theorem storeIdx_eq {n : Nat} {e : EltTy} (f : Vec F ⟨1, ![n]⟩ e) (v : IVec S16 32) (w : Vec F S16 e) (mask : IVec S16 1) (h) :
    storeIdx (s := ⟨1, ![n]⟩) f (![v] : Fin 1 → IVec S16 32) w mask false h = (List.finRange (![16] 0)).foldl (laneWrite v w mask h) f := by
  unfold storeIdx
  refine congrArg (fun st => List.foldl st f _) (funext fun g => funext fun j => ?_)
  unfold laneWrite
  by_cases hm : mask (Shape.ofLane (d := ![16]) j) = 1
  · simp only [hm, if_true]
    funext y
    by_cases ha : ∀ a, (y a).val = (idxAt (s := ⟨1, ![n]⟩) (![v] : Fin 1 → IVec S16 32) h (Shape.ofLane (d := ![16]) j) a).val
    · exact (if_pos ha).trans (Eq.trans (if_neg Bool.false_ne_true) (if_pos ha).symm)
    · exact (if_neg ha).trans (if_neg ha).symm
  · simp only [hm, if_false]

theorem laneWrite_own {n : Nat} {e : EltTy} (v : IVec S16 32) (w : Vec F S16 e) (mask : IVec S16 1) (h) (k : Fin n) (g : Vec F ⟨1, ![n]⟩ e) (j : Fin (![16] 0))
    (hj : mask (Shape.ofLane (d := ![16]) j) = 1 ∧ (v (Shape.ofLane (d := ![16]) j)).toNat = k.val) :
    laneWrite v w mask h g j (at1 k) = w (Shape.ofLane (d := ![16]) j) := by
  unfold laneWrite
  simp only [hj.1, if_true]
  rw [if_pos]
  intro a
  match a with
  | 0 => exact hj.2.symm

theorem laneWrite_other {n : Nat} {e : EltTy} (v : IVec S16 32) (w : Vec F S16 e) (mask : IVec S16 1) (h) (k : Fin n) (g : Vec F ⟨1, ![n]⟩ e) (j : Fin (![16] 0))
    (hj : ¬ (mask (Shape.ofLane (d := ![16]) j) = 1 ∧ (v (Shape.ofLane (d := ![16]) j)).toNat = k.val)) :
    laneWrite v w mask h g j (at1 k) = g (at1 k) := by
  unfold laneWrite
  by_cases hm : mask (Shape.ofLane (d := ![16]) j) = 1
  · simp only [hm, if_true]
    rw [if_neg]
    exact fun ha => hj ⟨hm, (ha 0).symm⟩
  · simp only [hm, if_false]

/-- Where every lane that is stored at a place carries one value, and some lane is, the place holds the value. -/
theorem storeIdx_hit {n : Nat} {e : EltTy} (f : Vec F ⟨1, ![n]⟩ e) (v : IVec S16 32) (w : Vec F S16 e) (mask : IVec S16 1) (h) (k : Fin n) (c : Elt F e)
    (hc : ∀ j, mask j = 1 → (v j).toNat = k.val → w j = c) (he : ∃ j, mask j = 1 ∧ (v j).toNat = k.val) :
    storeIdx (s := ⟨1, ![n]⟩) f (![v] : Fin 1 → IVec S16 32) w mask false h (at1 k) = c := by
  rw [storeIdx_eq]
  refine foldl_hit _ (at1 k) (fun j => mask (Shape.ofLane (d := ![16]) j) = 1 ∧ (v (Shape.ofLane (d := ![16]) j)).toNat = k.val) c
    (fun g j hj => laneWrite_other v w mask h k g j hj) (fun g j hj => (laneWrite_own v w mask h k g j hj).trans (hc _ hj.1 hj.2)) _ f (.inl ?_)
  obtain ⟨j, hm, hj⟩ := he
  have e : (Shape.ofLane (d := ![16]) (j 0) : S16.Idx) = j := by
    funext a
    match a with
    | 0 => rfl
  exact ⟨j 0, List.mem_finRange _, (congrArg mask e).trans hm, (congrArg (fun y => (v y).toNat) e).trans hj⟩

/-- Where no lane is stored at a place, the place keeps its value. -/
theorem storeIdx_miss {n : Nat} {e : EltTy} (f : Vec F ⟨1, ![n]⟩ e) (v : IVec S16 32) (w : Vec F S16 e) (mask : IVec S16 1) (h) (k : Fin n)
    (hc : ∀ j, mask j = 1 → (v j).toNat ≠ k.val) :
    storeIdx (s := ⟨1, ![n]⟩) f (![v] : Fin 1 → IVec S16 32) w mask false h (at1 k) = f (at1 k) := by
  rw [storeIdx_eq]
  exact foldl_miss _ (at1 k) (fun j => mask (Shape.ofLane (d := ![16]) j) = 1 ∧ (v (Shape.ofLane (d := ![16]) j)).toNat = k.val)
    (fun g j hj => laneWrite_other v w mask h k g j hj) _ f (fun j _ hj => hc _ hj.1 hj.2)

/-- The lanes of sixteen tokens' experts, as words. -/
def GroupOf (b : ℕ → ℕ) (v : IVec S16 32) : Prop := ∀ j : S16.Idx, v j = BitVec.ofNat 32 (b (j 0).val)

section Group

variable {b : ℕ → ℕ} {v : IVec S16 32} (hv : GroupOf b v) (hb : ∀ s, b s < 16)

include hv hb

theorem group_toNat (j : S16.Idx) : (v j).toNat = b (j 0).val := by
  rw [hv j, BitVec.toNat_ofNat]; exact Nat.mod_eq_of_lt (by have := hb (j 0).val; omega)

theorem group_eq (i j : S16.Idx) : v j = v i ↔ b (j 0).val = b (i 0).val := by
  constructor
  · intro h
    rw [← group_toNat hv hb j, ← group_toNat hv hb i, h]
  · intro h
    rw [hv, hv, h]

/-- The running count of a lane: how many lanes up to and with it hold its expert. -/
theorem group_counts (j : S16.Idx) : k0_pay5 v j = BitVec.ofNat 32 (cnt b ((j 0).val + 1) (b (j 0).val)) := by
  show (if k0_pay3 j = 1 then BitVec.ofNat 32 (Finset.univ.filter fun i => (S16.rowMajor i).val ≤ (S16.rowMajor j).val ∧ k0_pay3 i = 1 ∧ v i = v j).card else 1) = _
  refine (if_pos (rfl : (k0_pay3 j : BitVec 1) = 1)).trans ?_
  refine congrArg (BitVec.ofNat 32) ?_
  unfold cnt
  rw [Nat.count_eq_card_filter_range]
  have hr : ∀ i : S16.Idx, (S16.rowMajor i).val = (i 0).val := fun i => Shape.rowMajor_val_one (d := ![16]) i
  refine Finset.card_bij (fun i _ => (i 0).val) ?_ ?_ ?_
  · intro i hi
    have h := (Finset.mem_filter.mp hi).2
    rw [hr, hr] at h
    exact Finset.mem_filter.mpr ⟨Finset.mem_range.mpr (Nat.lt_succ_of_le h.1), (group_eq hv hb j i).mp h.2.2⟩
  · intro i _ i' _ h
    rw [← at1_self (n := 16) i, ← at1_self (n := 16) i', Fin.ext h]
  · intro s hs
    have h := Finset.mem_filter.mp hs
    have h1 := Finset.mem_range.mp h.1
    have h2 : s < 16 := lt_of_lt_of_le h1 (j 0).isLt
    refine ⟨at1 (n := 16) ⟨s, h2⟩, Finset.mem_filter.mpr ⟨Finset.mem_univ _, ?_, rfl, (group_eq hv hb j _).mpr h.2⟩, rfl⟩
    rw [hr, hr]
    exact Nat.lt_succ_iff.mp h1

/-- A lane is marked last exactly when no later lane holds its expert: its running count is then the whole group's. -/
theorem group_last (j : S16.Idx) (h : k0_pay4 v j = 1) : cnt b ((j 0).val + 1) (b (j 0).val) = cnt b 16 (b (j 0).val) := by
  have hr : ∀ i : S16.Idx, (S16.rowMajor i).val = (i 0).val := fun i => Shape.rowMajor_val_one (d := ![16]) i
  have h' : ∀ i : S16.Idx, (j 0).val < (i 0).val → b (i 0).val ≠ b (j 0).val := by
    intro i hi e
    unfold k0_pay4 scanCount at h
    simp only at h
    split_ifs at h with hc
    · refine hc.2 i ?_ ⟨rfl, (group_eq hv hb j i).mpr e⟩
      rw [hr, hr]; exact hi
    · exact absurd h (by decide)
  have hm : (j 0).val + 1 ≤ 16 := (j 0).isLt
  obtain ⟨c, hcc⟩ := Nat.exists_eq_add_of_le hm
  conv_rhs => rw [hcc]
  rw [cnt_add b ((j 0).val + 1) c, eq_comm]
  refine Nat.add_eq_left.mpr ?_
  unfold cnt
  rw [Nat.count_eq_card_filter_range, Finset.card_eq_zero, Finset.filter_eq_empty_iff]
  intro s hs e
  have hs' := Finset.mem_range.mp hs
  exact h' (at1 (n := 16) ⟨(j 0).val + 1 + s, by omega⟩) (show (j 0).val < (j 0).val + 1 + s by omega) e

/-- An expert that some lane holds has a marked lane. -/
theorem group_marked {e : ℕ} (h : 0 < cnt b 16 e) : ∃ j : S16.Idx, k0_pay4 v j = 1 ∧ b (j 0).val = e := by
  have hr : ∀ i : S16.Idx, (S16.rowMajor i).val = (i 0).val := fun i => Shape.rowMajor_val_one (d := ![16]) i
  unfold cnt at h
  rw [Nat.count_eq_card_filter_range] at h
  have hne := Finset.card_pos.mp h
  let j := ((Finset.range 16).filter fun s => b s = e).max' hne
  have hj := Finset.mem_filter.mp (Finset.max'_mem _ hne : j ∈ _)
  have hj16 : j < 16 := Finset.mem_range.mp hj.1
  refine ⟨at1 (n := 16) ⟨j, hj16⟩, ?_, hj.2⟩
  unfold k0_pay4 scanCount
  simp only
  rw [if_pos]
  refine ⟨rfl, fun i hi hc => ?_⟩
  rw [hr, hr] at hi
  have h3 : b (i 0).val = e := Eq.trans ((group_eq hv hb (at1 (n := 16) ⟨j, hj16⟩) i).mp hc.2) hj.2
  have h4 : (i 0).val ∈ (Finset.range 16).filter fun s => b s = e := Finset.mem_filter.mpr ⟨Finset.mem_range.mpr (i 0).isLt, h3⟩
  have h2 : (i 0).val ≤ j := Finset.le_max' _ (i 0).val h4
  exact absurd hi (Nat.not_lt.mpr h2)

end Group

/-- The counters hold the counts of the first `n` tokens. -/
def CtrOf (be : ℕ → ℕ) (n : ℕ) (f : Vec F S16 .i32) : Prop := ∀ e : Fin 16, f (at1 e) = BitVec.ofNat 32 (cnt be n e.val)

section Step

variable {be : ℕ → ℕ} {n : ℕ} {v : IVec S16 32} {f : Vec F S16 .i32} (hv : GroupOf (fun s => be (n + s)) v) (hb : ∀ s, be s < 16) (hf : CtrOf be n f)

include hv hb hf

theorem step_load (h) (j : S16.Idx) : loadIdx (s := S16) f (![v] : Fin 1 → IVec S16 32) h j = BitVec.ofNat 32 (cnt be n (be (n + (j 0).val))) := by
  refine (loadIdx_at (n := 16) f v h j ⟨be (n + (j 0).val), hb _⟩ (group_toNat hv (fun _ => hb _) j)).trans ?_
  exact hf ⟨_, hb _⟩

/-- The ranks written for the group. -/
theorem step_rank (h) (j : S16.Idx) : k0_pay6 (F := F) v (loadIdx (s := S16) f (![v] : Fin 1 → IVec S16 32) h) j = BitVec.ofNat 32 (rank be (n + (j 0).val)) := by
  show loadIdx (s := S16) f (![v] : Fin 1 → IVec S16 32) h j + k0_pay5 v j - 1#32 = _
  rw [step_load hv hb hf, group_counts hv (fun _ => hb _)]
  have h1 : cnt (fun s => be (n + s)) ((j 0).val + 1) (be (n + (j 0).val)) = cnt (fun s => be (n + s)) (j 0).val (be (n + (j 0).val)) + 1 := by
    unfold cnt; rw [Nat.count_succ, if_pos rfl]
  rw [h1, ← BitVec.ofNat_add, ← Nat.add_assoc, BitVec.ofNat_add _ 1]
  unfold rank
  rw [cnt_add]
  exact BitVec.add_sub_cancel _ _

/-- The counters after the group. -/
theorem step_ctr (h) : CtrOf be (n + 16) (storeIdx (s := S16) f (![v] : Fin 1 → IVec S16 32) (k0_pay7 (F := F) v (loadIdx (s := S16) f (![v] : Fin 1 → IVec S16 32) h)) (k0_pay4 v) false h) := by
  intro e
  rw [cnt_add]
  by_cases hc : 0 < cnt (fun s => be (n + s)) 16 e.val
  · refine storeIdx_hit (n := 16) f v _ _ h e _ ?_ ?_
    · intro j hm hj
      have hj' : be (n + (j 0).val) = e.val := (group_toNat hv (fun _ => hb _) j).symm.trans hj
      show loadIdx (s := S16) f (![v] : Fin 1 → IVec S16 32) h j + k0_pay5 v j = _
      rw [step_load hv hb hf, group_counts hv (fun _ => hb _), group_last hv (fun _ => hb _) j hm, ← BitVec.ofNat_add, hj']
    · obtain ⟨j, hm, hj⟩ := group_marked hv (fun _ => hb _) hc
      exact ⟨j, hm, (group_toNat hv (fun _ => hb _) j).trans hj⟩
  · have h0 : cnt (fun s => be (n + s)) 16 e.val = 0 := by omega
    refine (storeIdx_miss (n := 16) f v _ _ h e ?_).trans ?_
    · intro j _ hj
      have hj' : be (n + (j 0).val) = e.val := (group_toNat hv (fun _ => hb _) j).symm.trans hj
      unfold cnt at h0
      rw [Nat.count_eq_card_filter_range, Finset.card_eq_zero, Finset.filter_eq_empty_iff] at h0
      exact h0 (Finset.mem_range.mpr (j 0).isLt) hj'
    · rw [h0, Nat.add_zero]; exact hf e

end Step

end Cert.Proof.Moe

end
-- ==== Proof.Experts.lean ====
/-
  The routing task: tile (0, 0) alone takes every token's best expert, counts the experts' tokens, and writes each token's
  place in the sorted order and the token at each place.
-/
module

public import proofs.«01_k».proof.Proof.Lanes
public import Idealize.ShloMosaic.Lib.Pipeline.Value

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The place of the transposed logits at an expert and a token. -/
def at8 (e : Fin 8) (t : Fin 2048) : S8x2048.Idx := fun | 0 => e | 1 => t

/-- The logit of a token for an expert (the last expert's where the number is too large). -/
def logit (X : S8x2048.Idx → Elt F .f32) (t : Fin 2048) (e : ℕ) : Elt F .f32 := X (at8 ⟨min e 7, by omega⟩ t)

/-- The largest logit among the experts `0 … e` and the first expert that has it, as the kernel compares. -/
def best (X : S8x2048.Idx → Elt F .f32) (t : Fin 2048) : ℕ → Elt F .f32 × ℕ
  | 0 => (logit X t 0, 0)
  | e + 1 => if FloatOps.cmpf .ogt (logit X t (e + 1)) (best X t e).1 = 1 then (logit X t (e + 1), e + 1) else best X t e

theorem best_le (X : S8x2048.Idx → Elt F .f32) (t : Fin 2048) (e : ℕ) : (best X t e).2 ≤ e := by
  induction e with
  | zero => exact Nat.le_refl _
  | succ e ih =>
    unfold best
    split_ifs
    · exact Nat.le_refl _
    · exact ih.trans (Nat.le_succ _)

/-- The expert of a token. -/
def expert (X : S8x2048.Idx → Elt F .f32) (t : ℕ) : ℕ := if h : t < 2048 then (best X ⟨t, h⟩ 7).2 else 0

theorem expert_lt (X : S8x2048.Idx → Elt F .f32) (t : ℕ) : expert X t < 8 := by
  unfold expert
  split_ifs
  · exact Nat.lt_succ_of_le (best_le X _ 7)
  · decide

/-- One expert's comparison, in every lane. -/
theorem best_step (X : S8x2048.Idx → Elt F .f32) (t : Fin 2048) (e : ℕ) (x m : Vec F S16 .f32) (b : IVec S16 32) (j : S16.Idx)
    (hx : x j = logit X t (e + 1)) (hm : m j = (best X t e).1) (hb : b j = BitVec.ofNat 32 (best X t e).2) :
    select (cmpf .ogt x m) x m j = (best X t (e + 1)).1
      ∧ select (cmpf .ogt x m) (broadcast S16 (BitVec.ofNat 32 (e + 1))) b j = BitVec.ofNat 32 (best X t (e + 1)).2 := by
  have hc : cmpf .ogt x m j = FloatOps.cmpf .ogt (logit X t (e + 1)) (best X t e).1 := by rw [← hx, ← hm]; rfl
  show (if cmpf .ogt x m j = 1 then x j else m j) = _ ∧ (if cmpf .ogt x m j = 1 then BitVec.ofNat 32 (e + 1) else b j) = _
  rw [hc]
  have hs : best X t (e + 1) = if FloatOps.cmpf .ogt (logit X t (e + 1)) (best X t e).1 = 1 then (logit X t (e + 1), e + 1) else best X t e := rfl
  rw [hs]
  by_cases h : FloatOps.cmpf .ogt (logit X t (e + 1)) (best X t e).1 = 1
  · rw [if_pos h, if_pos h, if_pos h]
    exact ⟨hx, rfl⟩
  · rw [if_neg h, if_neg h, if_neg h]
    exact ⟨hm, hb⟩

/-- The eight rows' loads of a group give the group's experts. -/
theorem group_experts (X : S8x2048.Idx → Elt F .f32) (n : ℕ) (hn : n + 16 ≤ 2048) (l : Fin 8 → Vec F S1x16 .f32)
    (hl : ∀ e (j : S16.Idx), shapeCast S16 (l e) shapeCasts_S1x16_S16 j = logit X ⟨n + (j 0).val, by have : (j 0).val < 16 := (j 0).isLt; omega⟩ e.val) :
    GroupOf (fun s => expert X (n + s)) (k0_pay2 (k0_pay26 (l 0) (l 1) (l 2) (l 3) (l 4) (l 5)) (k0_pay27 (l 0) (l 1) (l 2) (l 3) (l 4) (l 5)) (l 6) (l 7)) := by
  intro j
  have hj : n + (j 0).val < 2048 := by have : (j 0).val < 16 := (j 0).isLt; omega
  have h1 := best_step X ⟨n + (j 0).val, hj⟩ 0 _ _ (broadcast S16 0#32) j (hl 1 j) (hl 0 j) rfl
  have h2 := best_step X ⟨n + (j 0).val, hj⟩ 1 _ _ _ j (hl 2 j) h1.1 h1.2
  have h3 := best_step X ⟨n + (j 0).val, hj⟩ 2 _ _ _ j (hl 3 j) h2.1 h2.2
  have h4 := best_step X ⟨n + (j 0).val, hj⟩ 3 _ _ _ j (hl 4 j) h3.1 h3.2
  have h5 := best_step X ⟨n + (j 0).val, hj⟩ 4 _ _ _ j (hl 5 j) h4.1 h4.2
  have h6 := best_step X ⟨n + (j 0).val, hj⟩ 5 _ _ _ j (hl 6 j) h5.1 h5.2
  have h7 := best_step X ⟨n + (j 0).val, hj⟩ 6 _ _ _ j (hl 7 j) h6.1 h6.2
  have he : expert X (n + (j 0).val) = (best X ⟨n + (j 0).val, hj⟩ 7).2 := dif_pos hj
  exact h7.2.trans (congrArg (BitVec.ofNat 32) he.symm)

/-- A row's load, lane by lane. -/
theorem row_load (X : S8x2048.Idx → Elt F .f32) (e : Fin 8) (n : ℕ) (hn : n + 16 ≤ 2048) (off : Fin 2 → Nat) (h : ∀ a, off a + S1x16.size a ≤ S8x2048.size a)
    (ho : off = ![e.val, n]) (j : S16.Idx) :
    shapeCast S16 (View.ld X (Rect.unit (s := S8x2048) off S1x16.size h)) shapeCasts_S1x16_S16 j
      = logit X ⟨n + (j 0).val, by have : (j 0).val < 16 := (j 0).isLt; omega⟩ e.val := by
  subst ho
  refine (shapeCast_dropUnit_apply (![16] : Fin 1 → Nat) _ _ j).trans ?_
  unfold View.ld logit
  refine congrArg X (funext fun a => Fin.ext ?_)
  match a with
  | 0 =>
    refine ((Rect.unit (s := S8x2048) ![e.val, n] S1x16.size h).idx_apply _ _).trans ?_
    show e.val + 1 * 0 = min e.val 7
    omega
  | 1 =>
    refine ((Rect.unit (s := S8x2048) ![e.val, n] S1x16.size h).idx_apply _ _).trans ?_
    show n + 1 * (j 0).val = n + (j 0).val
    omega

end Cert.Proof.Moe

end
-- ==== Proof.Ffn.lean ====
/-
  The body of the grouped feed-forward kernel, run once at a symbolic grid point: from the windows' staging buffers and
  the table of expert boundaries to the same buffers, the result's updated chunk by chunk.
-/
module

public import proofs.«01_k».proof.Proof.Base

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- Rows `[o, o + 128)` of the token matrix. -/
abbrev rowsRect (o : Fin 2 → Nat) (h : ∀ a, o a + S128x768.size a ≤ S2048x768.size a) : Rect S2048x768 :=
  Rect.unit (s := S2048x768) o S128x768.size h

/-- The expert's first boundary rounded down to a multiple of eight, as the kernel computes it. -/
def astart (v1 : BitVec 32) : BitVec 32 :=
  Scalar.muli (Scalar.select (Scalar.andi (Scalar.cmpi .ne (Scalar.subi (Scalar.extui (Scalar.cmpi .sgt v1 0#32)) (Scalar.extui (Scalar.cmpi .slt v1 0#32)))
      (Scalar.subi (Scalar.extui (Scalar.cmpi .sgt 8#32 0#32)) (Scalar.extui (Scalar.cmpi .slt 8#32 0#32))))
    (Scalar.cmpi .ne (Scalar.remsi v1 8#32) 0#32)) (Scalar.subi (Scalar.divsi v1 8#32) 1#32) (Scalar.divsi v1 8#32)) 8#32

/-- What the windows of one grid point hold: the tokens, the two up-projections' blocks and biases, the
    down-projection's block and its bias. -/
structure Wins (F : FTy → Type) where
  x : S2048x768.Idx → Elt F .f32
  w1 : S1x768x1536.Idx → Elt F .f32
  b1 : S1x1x1536.Idx → Elt F .f32
  w2 : S1x768x1536.Idx → Elt F .f32
  b2 : S1x1x1536.Idx → Elt F .f32
  wp : S1x1536x768.Idx → Elt F .f32
  bp : S1x1x768.Idx → Elt F .f32

/-- The product of one chunk of rows: 128 rows of tokens through the point's half of the expert. -/
def chunkProd (G : Wins F) (o : Fin 2 → Nat) (h : ∀ a, o a + S128x768.size a ≤ S2048x768.size a) : FVec F S128x768 .f32 :=
  k2_pay7 (View.ld G.x (rowsRect o h))
    (View.ld G.w1 (Rect.unit (s := S1x768x1536) ![0, 0, 0] S1x768x1536.size inb_S1x768x1536_S1x768x1536_0_0_0))
    (View.ld G.b1 (Rect.unit (s := S1x1x1536) ![0, 0, 0] S1x1x1536.size inb_S1x1x1536_S1x1x1536_0_0_0))
    (View.ld G.w2 (Rect.unit (s := S1x768x1536) ![0, 0, 0] S1x768x1536.size inb_S1x768x1536_S1x768x1536_0_0_0))
    (View.ld G.b2 (Rect.unit (s := S1x1x1536) ![0, 0, 0] S1x1x1536.size inb_S1x1x1536_S1x1x1536_0_0_0))
    (View.ld G.wp (Rect.unit (s := S1x1536x768) ![0, 0, 0] S1x1536x768.size inb_S1x1536x768_S1x1536x768_0_0_0))

variable (i : grid2.Coords) (v1 v4 : BitVec 32) (hw : k2_chk1 i v1 v4) (G : Wins F)

/-- One chunk's update of the result block, at the first half of the hidden dimension (`cond1`) or the second. -/
def chunk (t : Fin (k2_t1_loop v1 v4).trips) (Y : S2048x768.Idx → Elt F .f32) : S2048x768.Idx → Elt F .f32 :=
  if h1 : k2_cond1 i = 1#1 then
    (rowsRect (k2_off4 v1 v4 t) (k2_off4_inb i v1 v4 hw t h1)).overlay Y
      (k2_pay2 (chunkProd G (k2_off3 v1 v4 t) (k2_off3_inb i v1 v4 hw t)) (k2_pay8 (F := F) v1 v4 (astart v1) 0#32 1#32 t)
        (View.ld Y (rowsRect (k2_off3 v1 v4 t) (k2_off3_inb i v1 v4 hw t)))
        (View.ld G.bp (Rect.unit (s := S1x1x768) ![0, 0, 0] S1x1x768.size inb_S1x1x768_S1x1x768_0_0_0)))
  else if h2 : k2_cond2 i = 1#1 then
    (rowsRect (k2_off5 v1 v4 t) (k2_off5_inb i v1 v4 hw t h2)).overlay Y
      (k2_pay3 (chunkProd G (k2_off3 v1 v4 t) (k2_off3_inb i v1 v4 hw t)) (k2_pay8 (F := F) v1 v4 (astart v1) 0#32 1#32 t)
        (View.ld Y (rowsRect (k2_off3 v1 v4 t) (k2_off3_inb i v1 v4 hw t))))
  else Y

/-- The result block after the first `n` chunks of a grid point. -/
def chunks : Nat → (S2048x768.Idx → Elt F .f32) → (S2048x768.Idx → Elt F .f32)
  | 0, Y => Y
  | n + 1, Y => if h : n < (k2_t1_loop v1 v4).trips then chunk i v1 v4 hw G ⟨n, h⟩ (chunks n Y) else chunks n Y

theorem chunks_succ (t : Fin (k2_t1_loop v1 v4).trips) (Y : S2048x768.Idx → Elt F .f32) :
    chunks i v1 v4 hw G (t.val + 1) Y = chunk i v1 v4 hw G t (chunks i v1 v4 hw G t.val Y) := by
  rw [chunks, dif_pos t.isLt]

/-- The first half's points are exactly those that are not the second's. -/
theorem cond2_of_cond1 (i : grid2.Coords) (h : k2_cond1 i = 1#1) : ¬ k2_cond2 i = 1#1 := by
  revert h; unfold k2_cond1 k2_cond2
  generalize (i 1) = j
  change Fin 2 at j
  revert j; decide

theorem cond2_of_not_cond1 (i : grid2.Coords) (h : ¬ k2_cond1 i = 1#1) : k2_cond2 i = 1#1 := by
  revert h; unfold k2_cond1 k2_cond2
  generalize (i 1) = j
  change Fin 2 at j
  revert j; decide

/-- One write through a view reads back as the block with the rectangle's part replaced. -/
theorem read_writes_one {κ : Kind} {sp : Space} {s : Shape} {e : EltTy} (v : View sig κ sp s e) (f : v.ty.Contents (Elt F)) (r : Rect s)
    (w : r.shape.Idx → Elt F e) : v.read (Elt F) (v.writes (Elt F) f [⟨r, w⟩]) = r.overlay (v.read (Elt F) f) w := by
  funext y
  by_cases hy : y ∈ r.set
  · obtain ⟨x, rfl⟩ := r.exists_idx_of_mem hy
    exact (View.read_writes_cons_emb v f r w [] x).trans (r.overlay_emb _ _ x).symm
  · rw [r.overlay_of_not_mem _ _ hy, View.read_writes_cons_miss v f ⟨r, w⟩ [] y hy]; rfl

section Body

variable (d : Dev nD)
  (arg2 : Memref sig .tc .smem S9 .i32) (harg2 : arg2.IsWhole) (arg3 : Memref sig .tc .vmem S2048x768 .f32) (harg3 : arg3.IsWhole)
  (arg4 : Memref sig .tc .vmem S1x768x1536 .f32) (harg4 : arg4.IsWhole) (arg5 : Memref sig .tc .vmem S1x1x1536 .f32) (harg5 : arg5.IsWhole)
  (arg6 : Memref sig .tc .vmem S1x768x1536 .f32) (harg6 : arg6.IsWhole) (arg7 : Memref sig .tc .vmem S1x1x1536 .f32) (harg7 : arg7.IsWhole)
  (arg8 : Memref sig .tc .vmem S1x1536x768 .f32) (harg8 : arg8.IsWhole) (arg9 : Memref sig .tc .vmem S1x1x768 .f32) (harg9 : arg9.IsWhole)
  (arg10 : Memref sig .tc .vmem S2048x768 .f32) (harg10 : arg10.IsWhole)

/-- Before chunk `k`: the windows as found, the result block after the first `k` chunks. -/
def ffnInv (fx : Buf (Elt F) (arg3.view.loc (d.tc : Thread nD τ))) (f1 : Buf (Elt F) (arg4.view.loc (d.tc : Thread nD τ)))
    (f2 : Buf (Elt F) (arg5.view.loc (d.tc : Thread nD τ))) (f3 : Buf (Elt F) (arg6.view.loc (d.tc : Thread nD τ)))
    (f4 : Buf (Elt F) (arg7.view.loc (d.tc : Thread nD τ))) (f5 : Buf (Elt F) (arg8.view.loc (d.tc : Thread nD τ)))
    (f6 : Buf (Elt F) (arg9.view.loc (d.tc : Thread nD τ))) (Y : S2048x768.Idx → Elt F .f32)
    (k : Nat) (_ : BitVec 32) : sProp (MM F) :=
  iprop((arg3.view.loc (d.tc : Thread nD τ) ↦[arg3.view.set]{fullShare} fx) ∗ (arg4.view.loc (d.tc : Thread nD τ) ↦[arg4.view.set]{fullShare} f1)
    ∗ (arg5.view.loc (d.tc : Thread nD τ) ↦[arg5.view.set]{fullShare} f2) ∗ (arg6.view.loc (d.tc : Thread nD τ) ↦[arg6.view.set]{fullShare} f3)
    ∗ (arg7.view.loc (d.tc : Thread nD τ) ↦[arg7.view.set]{fullShare} f4) ∗ (arg8.view.loc (d.tc : Thread nD τ) ↦[arg8.view.set]{fullShare} f5)
    ∗ (arg9.view.loc (d.tc : Thread nD τ) ↦[arg9.view.set]{fullShare} f6)
    ∗ ∃ f, ⌜arg10.view.read (Elt F) f = chunks i v1 v4 hw G k Y⌝ ∗ (arg10.view.loc (d.tc : Thread nD τ) ↦[arg10.view.set]{fullShare} f))

set_option maxHeartbeats 4000000 in
theorem ffn_trip (fx : Buf (Elt F) (arg3.view.loc (d.tc : Thread nD τ))) (f1 : Buf (Elt F) (arg4.view.loc (d.tc : Thread nD τ)))
    (f2 : Buf (Elt F) (arg5.view.loc (d.tc : Thread nD τ))) (f3 : Buf (Elt F) (arg6.view.loc (d.tc : Thread nD τ)))
    (f4 : Buf (Elt F) (arg7.view.loc (d.tc : Thread nD τ))) (f5 : Buf (Elt F) (arg8.view.loc (d.tc : Thread nD τ)))
    (f6 : Buf (Elt F) (arg9.view.loc (d.tc : Thread nD τ))) (Y : S2048x768.Idx → Elt F .f32)
    (hG : G = ⟨arg3.view.read (Elt F) fx, arg4.view.read (Elt F) f1, arg5.view.read (Elt F) f2, arg6.view.read (Elt F) f3,
      arg7.view.read (Elt F) f4, arg8.view.read (Elt F) f5, arg9.view.read (Elt F) f6⟩)
    (t : Fin (k2_t1_loop v1 v4).trips) (acc : BitVec 32) :
    ffnInv i v1 v4 hw G d arg3 arg4 arg5 arg6 arg7 arg8 arg9 arg10 fx f1 f2 f3 f4 f5 f6 Y t.val acc
      ⊢ wp frame (wpE (defs₀ (F := F)) 𝒱₀ (d.tc : Thread nD τ) none) Set.univ
          (k2_t1_body i arg2 harg2 arg3 harg3 arg4 harg4 arg5 harg5 arg6 harg6 arg7 harg7 arg8 harg8 arg9 harg9 arg10 harg10 v1 v4 hw (astart v1) t acc)
          fun acc' => ffnInv i v1 v4 hw G d arg3 arg4 arg5 arg6 arg7 arg8 arg9 arg10 fx f1 f2 f3 f4 f5 f6 Y (t.val + 1) acc' := by
  unfold ffnInv k2_t1_body
  rw [k2_part1_eq_skeleton]; unfold k2_part1_skel
  iintro ⟨H3, H4, H5, H6, H7, H8, H9, %f, %hf, H10⟩
  by_cases h1 : k2_cond1 i = 1#1
  · have h2 := cond2_of_cond1 i h1
    sl_exec
    sl_step
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; isplitr; swap; · iexact H10
    ipureintro
    rw [chunks_succ, chunk, dif_pos h1, read_writes_one, ← hf, hG]; rfl
  · have h2 := cond2_of_not_cond1 i h1
    sl_exec
    sl_step
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; isplitr; swap; · iexact H10
    ipureintro
    rw [chunks_succ, chunk, dif_neg h1, dif_pos h2, read_writes_one, ← hf, hG]; rfl

/-- The one multi-index of a one-word load. -/
abbrev i0 : S1.Idx := Shape.Idx.first (s := S1) (numel1_S1.symm ▸ Nat.one_pos)

/-- The first of the two boundary words that a grid point reads from the table, -/
def bound1 (off : S9.Idx → Elt F .i32) : BitVec 32 := View.ld off (Rect.unit (s := S9) (k2_off1 i) S1.size (k2_off1_inb i)) i0
/-- and the second. -/
def bound2 (off : S9.Idx → Elt F .i32) : BitVec 32 := View.ld off (Rect.unit (s := S9) (k2_off2 i) S1.size (k2_off2_inb i)) i0

set_option maxHeartbeats 8000000 in
/-- One grid point's body: the windows' buffers are left as found and the result's buffer after all chunks of the point. -/
theorem ffn_body (ft : Buf (Elt F) (arg2.view.loc (d.tc : Thread nD τ))) (fx : Buf (Elt F) (arg3.view.loc (d.tc : Thread nD τ)))
    (f1 : Buf (Elt F) (arg4.view.loc (d.tc : Thread nD τ)))
    (f2 : Buf (Elt F) (arg5.view.loc (d.tc : Thread nD τ))) (f3 : Buf (Elt F) (arg6.view.loc (d.tc : Thread nD τ)))
    (f4 : Buf (Elt F) (arg7.view.loc (d.tc : Thread nD τ))) (f5 : Buf (Elt F) (arg8.view.loc (d.tc : Thread nD τ)))
    (f6 : Buf (Elt F) (arg9.view.loc (d.tc : Thread nD τ))) (f : Buf (Elt F) (arg10.view.loc (d.tc : Thread nD τ)))
    (hv1 : v1 = bound1 i (arg2.view.read (Elt F) ft)) (hv4 : v4 = bound2 i (arg2.view.read (Elt F) ft))
    (hG : G = ⟨arg3.view.read (Elt F) fx, arg4.view.read (Elt F) f1, arg5.view.read (Elt F) f2, arg6.view.read (Elt F) f3,
      arg7.view.read (Elt F) f4, arg8.view.read (Elt F) f5, arg9.view.read (Elt F) f6⟩) :
    iprop((arg2.view.loc (d.tc : Thread nD τ) ↦[arg2.view.set]{fullShare} ft)
      ∗ ffnInv i v1 v4 hw G d arg3 arg4 arg5 arg6 arg7 arg8 arg9 arg10 fx f1 f2 f3 f4 f5 f6 (arg10.view.read (Elt F) f) 0 0#32)
      ⊢ wp frame (wpE (defs₀ (F := F)) 𝒱₀ (d.tc : Thread nD τ) none) Set.univ
          (cc2__ffn_body i arg2 harg2 arg3 harg3 arg4 harg4 arg5 harg5 arg6 harg6 arg7 harg7 arg8 harg8 arg9 harg9 arg10 harg10)
          fun _ => iprop((arg2.view.loc (d.tc : Thread nD τ) ↦[arg2.view.set]{fullShare} ft)
            ∗ ffnInv (F := F) i v1 v4 hw G d arg3 arg4 arg5 arg6 arg7 arg8 arg9 arg10 fx f1 f2 f3 f4 f5 f6 (arg10.view.read (Elt F) f) (k2_t1_loop v1 v4).trips 0#32) := by
  subst hv1 hv4
  simp only [cc2__ffn_body_eq_skeleton]
  unfold cc2__ffn_body_skel
  iintro ⟨Ht, HI⟩
  sl_exec
  sl_for (ffnInv i (bound1 i (arg2.view.read (Elt F) ft)) (bound2 i (arg2.view.read (Elt F) ft)) hw G d arg3 arg4 arg5 arg6 arg7 arg8 arg9 arg10
    fx f1 f2 f3 f4 f5 f6 (arg10.view.read (Elt F) f)) $$ [HI]
  case region =>
    intro t acc
    exact ffn_trip i _ _ hw G d arg2 harg2 arg3 harg3 arg4 harg4 arg5 harg5 arg6 harg6 arg7 harg7 arg8 harg8 arg9 harg9 arg10 harg10
      fx f1 f2 f3 f4 f5 f6 _ hG t acc
  · iexact HI
  iintro %acc HI
  sl_exec
  sl_step
  isplitl [Ht]; · iexact Ht
  iexact HI

end Body

end Cert.Proof.Moe

end
-- ==== Proof.Words.lean ====
/-
  The words of the grouped kernel's index chains read as naturals: an expert's rows are `[lo, hi)`, its chunks start at
  `lo` rounded down to a multiple of eight.
-/
module

public import proofs.«01_k».proof.Proof.Ffn
public import Idealize.ShloMosaic.Lib.Routing.Words
public import Idealize.ShloMosaic.Lib.Pipeline.Value

@[expose] public section

noncomputable section

namespace Cert.Proof.Moe

open Cert.KernelIdeal Cert.KernelIdeal.Gen
open Idealize.ShloMosaic
open Idealize.ShloMosaic.Routing

variable {F : FTy → Type} [FloatOps F]

theorem w_add (a b : Nat) : Scalar.addi (BitVec.ofNat 32 a) (BitVec.ofNat 32 b) = BitVec.ofNat 32 (a + b) :=
  (BitVec.ofNat_add a b).symm

theorem w_mul (a b : Nat) : Scalar.muli (BitVec.ofNat 32 a) (BitVec.ofNat 32 b) = BitVec.ofNat 32 (a * b) :=
  (BitVec.ofNat_mul a b).symm

theorem w_sub {a b : Nat} (h : b ≤ a) : Scalar.subi (BitVec.ofNat 32 a) (BitVec.ofNat 32 b) = BitVec.ofNat 32 (a - b) :=
  ofNat32_sub h

theorem w_div {a b : Nat} (ha : a < 2 ^ 31) (h0 : 0 < b) (hb : b < 2 ^ 31) :
    Scalar.divsi (BitVec.ofNat 32 a) (BitVec.ofNat 32 b) = BitVec.ofNat 32 (a / b) := divsi_word .scalar ha h0 hb

theorem w_slt {a b : Nat} (ha : a < 2 ^ 31) (hb : b < 2 ^ 31) : (BitVec.ofNat 32 a).slt (BitVec.ofNat 32 b) = decide (a < b) :=
  slt_ofNat32 ha hb

theorem w_min {a b : Nat} (ha : a < 2 ^ 31) (hb : b < 2 ^ 31) :
    Scalar.minsi (BitVec.ofNat 32 a) (BitVec.ofNat 32 b) = BitVec.ofNat 32 (min a b) := by
  unfold Scalar.minsi IntOp.minsi
  rw [w_slt ha hb]
  by_cases h : a < b
  · simp [h, Nat.min_eq_left h.le]
  · simp [h, Nat.min_eq_right (not_lt.mp h)]

theorem w_max {a b : Nat} (ha : a < 2 ^ 31) (hb : b < 2 ^ 31) :
    Scalar.maxsi (BitVec.ofNat 32 a) (BitVec.ofNat 32 b) = BitVec.ofNat 32 (max a b) := by
  unfold Scalar.maxsi IntOp.maxsi
  rw [w_slt hb ha]
  by_cases h : b < a
  · simp [h, Nat.max_eq_left h.le]
  · simp [h, Nat.max_eq_right (not_lt.mp h)]

/-- The round-down of a small natural. -/
theorem astart_word {n : Nat} (h : n ≤ 2048) : astart (BitVec.ofNat 32 n) = BitVec.ofNat 32 (n / 8 * 8) := by
  unfold astart
  have hd : Scalar.divsi (BitVec.ofNat 32 n) 8#32 = BitVec.ofNat 32 (n / 8) := w_div (by omega) (by decide) (by decide)
  have hr : Scalar.remsi (BitVec.ofNat 32 n) 8#32 = BitVec.ofNat 32 (n % 8) := remsi_word .scalar (by omega) (by decide) (by decide)
  have hsgt : Scalar.cmpi .sgt (BitVec.ofNat 32 n) 0#32 = BitVec.ofBool (decide (0 < n)) := by
    show BitVec.ofBool ((BitVec.ofNat 32 0).slt (BitVec.ofNat 32 n)) = _
    rw [w_slt (by decide) (by omega)]
  have hslt : Scalar.cmpi .slt (BitVec.ofNat 32 n) 0#32 = 0#1 := by
    show BitVec.ofBool ((BitVec.ofNat 32 n).slt (BitVec.ofNat 32 0)) = _
    rw [w_slt (by omega) (by decide)]; simp
  rw [hd, hr, hsgt, hslt]
  rcases Nat.eq_zero_or_pos n with h0 | h0
  · subst h0; decide
  · have e : Scalar.andi (Scalar.cmpi .ne (Scalar.subi (Scalar.extui (BitVec.ofBool (decide (0 < n)))) (Scalar.extui 0#1))
        (Scalar.subi (Scalar.extui (Scalar.cmpi .sgt 8#32 0#32)) (Scalar.extui (Scalar.cmpi .slt 8#32 0#32))))
        (Scalar.cmpi .ne (BitVec.ofNat 32 (n % 8)) 0#32) = 0#1 := by
      rw [decide_eq_true h0]
      rw [show Scalar.cmpi .ne (Scalar.subi (Scalar.extui (BitVec.ofBool true)) (Scalar.extui 0#1))
        (Scalar.subi (Scalar.extui (Scalar.cmpi .sgt 8#32 0#32)) (Scalar.extui (Scalar.cmpi .slt 8#32 0#32))) = 0#1 from by decide]
      show 0#1 &&& _ = 0#1
      exact BitVec.zero_and
    rw [e]
    exact w_mul _ _

/-- The number of chunks an expert with rows `[lo, hi)` takes. -/
def nChunks (lo hi : Nat) : Nat := (hi - lo / 8 * 8 + 127) / 128

theorem t1_loop_word {lo hi : Nat} (h : lo ≤ hi) (hh : hi ≤ 2048) :
    k2_t1_loop (BitVec.ofNat 32 lo) (BitVec.ofNat 32 hi) = ⟨0#32, BitVec.ofNat 32 (nChunks lo hi), 1#32⟩ := by
  show (⟨0#32, Scalar.addi 0#32 (Scalar.muli (Scalar.divsi (Scalar.subi (Scalar.divsi (Scalar.addi (Scalar.subi (BitVec.ofNat 32 hi)
    (astart (BitVec.ofNat 32 lo))) 127#32) 128#32) 0#32) 1#32) 1#32), 1#32⟩ : Scf.Loop 32) = _
  rw [astart_word (h.trans hh), w_sub (by omega), Scalar.muli_divsi_one, show (127#32 : BitVec 32) = BitVec.ofNat 32 127 from rfl, w_add,
    show (128#32 : BitVec 32) = BitVec.ofNat 32 128 from rfl, w_div (by omega) (by decide) (by decide)]
  rw [show (0#32 : BitVec 32) = BitVec.ofNat 32 0 from rfl, w_sub (Nat.zero_le _), w_add, Nat.sub_zero, Nat.zero_add]
  rfl

theorem t2_loop_word {lo hi : Nat} (h : lo ≤ hi) (hh : hi ≤ 2048) :
    k2_t2_loop (BitVec.ofNat 32 lo) (BitVec.ofNat 32 hi) = ⟨BitVec.ofNat 32 (nChunks lo hi), BitVec.ofNat 32 (nChunks lo hi), 1#32⟩ := by
  show (⟨Scalar.addi 0#32 (Scalar.muli (Scalar.divsi (Scalar.subi (Scalar.divsi (Scalar.addi (Scalar.subi (BitVec.ofNat 32 hi)
    (astart (BitVec.ofNat 32 lo))) 127#32) 128#32) 0#32) 1#32) 1#32), Scalar.addi 0#32 (Scalar.subi (Scalar.divsi (Scalar.addi (Scalar.subi (BitVec.ofNat 32 hi)
    (astart (BitVec.ofNat 32 lo))) 127#32) 128#32) 0#32), 1#32⟩ : Scf.Loop 32) = _
  rw [astart_word (h.trans hh), w_sub (by omega), Scalar.muli_divsi_one, show (127#32 : BitVec 32) = BitVec.ofNat 32 127 from rfl, w_add,
    show (128#32 : BitVec 32) = BitVec.ofNat 32 128 from rfl, w_div (by omega) (by decide) (by decide)]
  rw [show (0#32 : BitVec 32) = BitVec.ofNat 32 0 from rfl, w_sub (Nat.zero_le _), w_add, Nat.sub_zero, Nat.zero_add]
  rfl

theorem nChunks_le {lo hi : Nat} (hh : hi ≤ 2048) : nChunks lo hi ≤ 17 := by unfold nChunks; omega

theorem loop_trips_word {n : Nat} (h : n ≤ 17) : (⟨0#32, BitVec.ofNat 32 n, 1#32⟩ : Scf.Loop 32).trips = n := by
  interval_cases n <;> decide

theorem loop_ok_word {n : Nat} (h : n ≤ 17) : (⟨0#32, BitVec.ofNat 32 n, 1#32⟩ : Scf.Loop 32).OK := by
  interval_cases n <;> decide

theorem loop2_trips_word {n : Nat} (h : n ≤ 17) : (⟨BitVec.ofNat 32 n, BitVec.ofNat 32 n, 1#32⟩ : Scf.Loop 32).trips = 0 := by
  interval_cases n <;> decide

theorem loop2_ok_word {n : Nat} (h : n ≤ 17) : (⟨BitVec.ofNat 32 n, BitVec.ofNat 32 n, 1#32⟩ : Scf.Loop 32).OK := by
  interval_cases n <;> decide

theorem t1_trips {lo hi : Nat} (h : lo ≤ hi) (hh : hi ≤ 2048) :
    (k2_t1_loop (BitVec.ofNat 32 lo) (BitVec.ofNat 32 hi)).trips = nChunks lo hi := by
  rw [t1_loop_word h hh, loop_trips_word (nChunks_le hh)]

/-- Where chunk `t` starts before the clamp. -/
def uStart (lo t : Nat) : Nat := lo / 8 * 8 + 128 * t

/-- Where chunk `t` starts. -/
def cStart (lo t : Nat) : Nat := min (uStart lo t) 1920

theorem cStart_le (lo t : Nat) : cStart lo t + 128 ≤ 2048 := by unfold cStart; omega

theorem cStart_lt (lo t : Nat) : cStart lo t < 1921 := by unfold cStart; omega

theorem uStart_lt {lo t : Nat} (h : lo ≤ 2048) (ht : t < 17) : uStart lo t < 2 ^ 31 := by unfold uStart; omega

theorem ustart_word {lo t : Nat} (h : lo ≤ 2048) :
    Scalar.addi (astart (BitVec.ofNat 32 lo)) (Scalar.muli (Scf.iv 0#32 1#32 t) 128#32) = BitVec.ofNat 32 (uStart lo t) := by
  have e : Scf.iv (0#32 : BitVec 32) 1#32 t = BitVec.ofNat 32 t := by
    unfold Scf.iv; rw [BitVec.mul_one, BitVec.zero_add]
  rw [astart_word h, e, show (128#32 : BitVec 32) = BitVec.ofNat 32 128 from rfl, w_mul, w_add]
  unfold uStart; rw [Nat.mul_comm t]

theorem start_word {lo t : Nat} (h : lo ≤ 2048) (ht : t < 17) :
    Scalar.minsi (Scalar.addi (astart (BitVec.ofNat 32 lo)) (Scalar.muli (Scf.iv 0#32 1#32 t) 128#32)) 1920#32 = BitVec.ofNat 32 (cStart lo t) := by
  rw [ustart_word h, show (1920#32 : BitVec 32) = BitVec.ofNat 32 1920 from rfl, w_min (uStart_lt h ht) (by decide)]; rfl

theorem off3_word {lo hi : Nat} (h : lo ≤ hi) (hh : hi ≤ 2048)
    (t : Fin (k2_t1_loop (BitVec.ofNat 32 lo) (BitVec.ofNat 32 hi)).trips) :
    k2_off3 (BitVec.ofNat 32 lo) (BitVec.ofNat 32 hi) t = ![cStart lo t.val, 0] := by
  have ht : t.val < 17 := lt_of_lt_of_le (lt_of_lt_of_eq t.isLt (t1_trips h hh)) (nChunks_le hh)
  show ![(Scalar.minsi (Scalar.addi (astart (BitVec.ofNat 32 lo)) (Scalar.muli (Scf.iv 0#32 1#32 t.val) 128#32)) 1920#32).toNat, 0] = _
  rw [start_word (h.trans hh) ht, BitVec.toNat_ofNat, Nat.mod_eq_of_lt ((cStart_lt _ _).trans (by decide))]

/-- The facts the body assumes of its two boundary words hold of an expert's rows. -/
theorem chk1_word (i : grid2.Coords) {lo hi : Nat} (h : lo ≤ hi) (hh : hi ≤ 2048) :
    k2_chk1 i (BitVec.ofNat 32 lo) (BitVec.ofNat 32 hi) := by
  have hin : ∀ t : Fin (k2_t1_loop (BitVec.ofNat 32 lo) (BitVec.ofNat 32 hi)).trips,
      ∀ a, (k2_off3 (BitVec.ofNat 32 lo) (BitVec.ofNat 32 hi) t) a + S128x768.size a ≤ S2048x768.size a := by
    intro t a
    rw [off3_word h hh t]
    match a with
    | 0 => exact cStart_le lo t.val
    | 1 => show 0 + 768 ≤ 768; omega
  have h0 : (k2_t2_loop (BitVec.ofNat 32 lo) (BitVec.ofNat 32 hi)).trips = 0 := by
    rw [t2_loop_word h hh, loop2_trips_word (nChunks_le hh)]
  have hel : ∀ t : Fin (k2_t2_loop (BitVec.ofNat 32 lo) (BitVec.ofNat 32 hi)).trips, False := fun t =>
    Nat.not_lt_zero _ (lt_of_lt_of_eq t.isLt h0)
  refine ⟨?_, hin, fun t _ => hin t, fun t _ => hin t, ?_, fun t => (hel t).elim, fun t => (hel t).elim, fun t => (hel t).elim⟩
  · rw [t1_loop_word h hh]; exact loop_ok_word (nChunks_le hh)
  · rw [t2_loop_word h hh]; exact loop2_ok_word (nChunks_le hh)

/-- Row `r` of chunk `t`'s slice is one the chunk updates. -/
def upd (lo hi t r : Nat) : Prop := max lo (uStart lo t) ≤ cStart lo t + r ∧ cStart lo t + r < hi

instance (lo hi t r : Nat) : Decidable (upd lo hi t r) := inferInstanceAs (Decidable (_ ∧ _))

theorem mask_word {lo u c hi : Nat} (hu : u < 2 ^ 31) (hc : c < 2 ^ 31) (hh : hi ≤ 2048) (hl : lo ≤ 2048 := by omega) :
    IntOp.cmpi .sge (BitVec.ofNat 32 c) (BitVec.ofNat 32 (max lo u)) &&& IntOp.cmpi .slt (BitVec.ofNat 32 c) (BitVec.ofNat 32 hi)
      = BitVec.ofBool (decide (max lo u ≤ c ∧ c < hi)) := by
  show BitVec.ofBool ((BitVec.ofNat 32 (max lo u)).sle (BitVec.ofNat 32 c)) &&& BitVec.ofBool ((BitVec.ofNat 32 c).slt (BitVec.ofNat 32 hi)) = _
  rw [sle_ofNat32 (by omega) hc, w_slt hc (by omega)]
  by_cases h1 : max lo u ≤ c <;> by_cases h2 : c < hi <;> simp only [h1, h2] <;> decide

theorem pay8_word {lo hi : Nat} (h : lo ≤ hi) (hh : hi ≤ 2048)
    (t : Fin (k2_t1_loop (BitVec.ofNat 32 lo) (BitVec.ofNat 32 hi)).trips) (j : S128x1.Idx) :
    k2_pay8 (F := F) (BitVec.ofNat 32 lo) (BitVec.ofNat 32 hi) (astart (BitVec.ofNat 32 lo)) 0#32 1#32 t j
      = BitVec.ofBool (decide (upd lo hi t.val (j 0).val)) := by
  have ht : t.val < 17 := lt_of_lt_of_le (lt_of_lt_of_eq t.isLt (t1_trips h hh)) (nChunks_le hh)
  have hu := ustart_word (lo := lo) (t := t.val) (h.trans hh)
  have hs := start_word (lo := lo) (t := t.val) (h.trans hh) ht
  have hj : (j 0).val < 128 := (j 0).isLt
  show (IntOp.cmpi .sge ((Scalar.minsi (Scalar.addi (astart (BitVec.ofNat 32 lo)) (Scalar.muli (Scf.iv 0#32 1#32 t.val) 128#32)) 1920#32)
      + iota .tc S128x1 32 [0] iota_S128x1_d0_w32 j)
      (Scalar.maxsi (BitVec.ofNat 32 lo) (Scalar.addi (astart (BitVec.ofNat 32 lo)) (Scalar.muli (Scf.iv 0#32 1#32 t.val) 128#32))))
    &&& (IntOp.cmpi .slt ((Scalar.minsi (Scalar.addi (astart (BitVec.ofNat 32 lo)) (Scalar.muli (Scf.iv 0#32 1#32 t.val) 128#32)) 1920#32)
      + iota .tc S128x1 32 [0] iota_S128x1_d0_w32 j) (BitVec.ofNat 32 hi)) = _
  have hi0 : iota .tc S128x1 32 [0] iota_S128x1_d0_w32 j = BitVec.ofNat 32 (j 0).val := iota_single_apply _ _ _ _ _ _
  have hul := uStart_lt (h.trans hh) ht
  have hcl := cStart_lt lo t.val
  generalize t.val = t at hs hu hul hcl ⊢
  generalize (j 0).val = r at hj hi0 ⊢
  rw [hs, hu, hi0, w_max (by omega) hul, ← BitVec.ofNat_add]
  exact mask_word hul (by omega) hh

end Cert.Proof.Moe

end
-- ==== Proof.Route.lean ====
/-
  The routing task's run on tile (0, 0): one group of sixteen tokens of each of its two loops, and the whole body.
-/
module

public import proofs.«01_k».proof.Proof.Experts
public import proofs.«01_k».proof.Proof.Ffn
public import proofs.«01_k».proof.Proof.Words

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev c0V (L : grid0.Coords) : Fin τ.nSC := (L 0).castLE hcore0
abbrev j0V (L : grid0.Coords) : Fin τ.nSub := (L 1).castLE hsub0

theorem read_access_whole {s : Shape} {e : EltTy} {κ : Kind} {sp : Space} (m : Memref sig κ sp s e) (f) :
    (m.access (.whole s)).read (Elt F) f = m.view.read (Elt F) f := by
  funext x
  show m.view.read (Elt F) f ((Rect.whole s).emb x) = _
  rw [Rect.emb_whole_apply]

theorem set_access_whole {s : Shape} {e : EltTy} {κ : Kind} {sp : Space} (m : Memref sig κ sp s e) : (m.access (.whole s)).set = m.view.set := by
  show (m.view.slice (Rect.whole s)).set = _
  rw [View.set_slice, Rect.set_whole]; rfl

/-- A group of sixteen in an array of 2048. -/
theorem group_hit (t : ℕ) (ht : 16 * t + 16 ≤ 2048) (off : Fin 1 → Nat) (h : ∀ a, off a + S16.size a ≤ S2048.size a) (ho : off = ![16 * t])
    {e : EltTy} (X : S16.Idx → Elt F e) (G : S2048.Idx → Elt F e) (p : Fin 2048) (j : S16.Idx) (hp : p.val = 16 * t + (j 0).val) :
    Rect.overlay (Rect.unit (s := S2048) off S16.size h) G X (at1 p) = X j := by
  subst ho
  have hx : (Rect.unit (s := S2048) ![16 * t] S16.size h).idx j = at1 p := funext fun a => Fin.ext (by
    match a with
    | 0 =>
      refine ((Rect.unit (s := S2048) ![16 * t] S16.size h).idx_apply _ _).trans ?_
      exact (congrArg (16 * t + ·) (Nat.one_mul _)).trans hp.symm)
  rw [← hx]
  exact Rect.overlay_emb _ _ _ _

theorem group_out (t : ℕ) (ht : 16 * t + 16 ≤ 2048) (off : Fin 1 → Nat) (h : ∀ a, off a + S16.size a ≤ S2048.size a) (ho : off = ![16 * t])
    {e : EltTy} (X : S16.Idx → Elt F e) (G : S2048.Idx → Elt F e) (p : Fin 2048) (hp : p.val < 16 * t ∨ 16 * t + 16 ≤ p.val) :
    Rect.overlay (Rect.unit (s := S2048) off S16.size h) G X (at1 p) = G (at1 p) := by
  subst ho
  refine Rect.overlay_of_not_mem _ _ _ ?_
  rw [Rect.mem_set_unit]
  intro hm
  have h0 := hm 0
  have h1 : 16 * t ≤ p.val ∧ p.val < 16 * t + 16 := h0
  omega

theorem group_ld (t : ℕ) (ht : 16 * t + 16 ≤ 2048) (off : Fin 1 → Nat) (h : ∀ a, off a + S16.size a ≤ S2048.size a) (ho : off = ![16 * t])
    {e : EltTy} (G : S2048.Idx → Elt F e) (j : S16.Idx) :
    View.ld G (Rect.unit (s := S2048) off S16.size h) j = G (at1 ⟨16 * t + (j 0).val, by have : (j 0).val < 16 := (j 0).isLt; omega⟩) := by
  subst ho
  refine congrArg G (funext fun a => Fin.ext ?_)
  match a with
  | 0 =>
    refine ((Rect.unit (s := S2048) ![16 * t] S16.size h).idx_apply _ _).trans ?_
    exact congrArg (16 * t + ·) (Nat.one_mul _)

/-- An array of 2048 whose first `16 t` words are a function's, with the group at `16 t` overwritten by the next sixteen. -/
theorem group_upto (g : ℕ → ℕ) (t : ℕ) (ht : 16 * t + 16 ≤ 2048) (off : Fin 1 → Nat) (h : ∀ a, off a + S16.size a ≤ S2048.size a) (ho : off = ![16 * t])
    (X : S16.Idx → Elt F .i32) (G : S2048.Idx → Elt F .i32) (hX : ∀ j, X j = BitVec.ofNat 32 (g (16 * t + (j 0).val)))
    (hG : ∀ p : Fin 2048, p.val < 16 * t → G (at1 p) = BitVec.ofNat 32 (g p.val)) (p : Fin 2048) (hp : p.val < 16 * (t + 1)) :
    Rect.overlay (Rect.unit (s := S2048) off S16.size h) G X (at1 p) = BitVec.ofNat 32 (g p.val) := by
  by_cases hlt : p.val < 16 * t
  · exact (group_out t ht off h ho X G p (.inl hlt)).trans (hG p hlt)
  · have hj : p.val = 16 * t + ((at1 (n := 16) ⟨p.val - 16 * t, by omega⟩) 0).val := by show p.val = 16 * t + (p.val - 16 * t); omega
    refine (group_hit t ht off h ho X G p (at1 (n := 16) ⟨p.val - 16 * t, by omega⟩) hj).trans ((hX _).trans ?_)
    exact congrArg (fun n => BitVec.ofNat 32 (g n)) hj.symm

section Tile

variable (d : Dev nD) (L : grid0.Coords)
  (arg2 : Memref sig .scVector .hbm S8x2048 .f32) (harg2 : arg2.IsWhole) (arg3 : Memref sig .scVector .hbm S2048 .i32) (harg3 : arg3.IsWhole)
  (arg4 : Memref sig .scVector .hbm S2048 .i32) (harg4 : arg4.IsWhole) (arg5 : Memref sig .scVector .hbm S2048 .i32) (harg5 : arg5.IsWhole)
  (arg6 : Memref sig .scVector .hbm S16 .i32) (harg6 : arg6.IsWhole) (arg7 : Memref sig .scVector .vmem S8x2048 .f32) (harg7 : arg7.IsWhole)
  (arg8 : Memref sig .scVector .vmem S2048 .i32) (harg8 : arg8.IsWhole) (arg9 : Memref sig .scVector .vmem S2048 .i32) (harg9 : arg9.IsWhole)
  (arg10 : Memref sig .scVector .vmem S2048 .i32) (harg10 : arg10.IsWhole) (arg11 : Memref sig .scVector .vmem S16 .i32) (harg11 : arg11.IsWhole)
  (arg12 : Memref sig .scVector .vmem S16 .i32) (harg12 : arg12.IsWhole) (r0 r1 r2 r3 r4 : DmaSems sig S_)

/-- A tile buffer holding an array. -/
abbrev holds {s : Shape} {e : EltTy} {sp : Space} (m : Memref sig .scVector sp s e) (Y : s.Idx → Elt F e) : sProp (MM F) :=
  iprop(∃ f, ⌜m.view.read (Elt F) f = Y⌝ ∗ (m.view.loc (V d (c0V L) (j0V L)) ↦[m.view.set]{fullShare} f))

theorem ld_idx {s t : Shape} {e : EltTy} {Q : Unit → sProp (MM F)} (m : Memref sig .scVector .vmem s e) {idxs : Fin s.rank → IVec t 32}
    {h : ∀ a x, (idxs a x).toNat < s.size a} {hl : m.view.Loads} {k : Vec F t e → Prog (TpuEff nD τ sig (Elt F) Λ₀ (V d (c0V L) (j0V L)).2) Unit} {f} :
    (m.view.loc (V d (c0V L) (j0V L)) ↦[m.view.set]{fullShare} f : sProp (MM F))
      ⊢ iprop(((m.view.loc (V d (c0V L) (j0V L)) ↦[m.view.set]{fullShare} f)
          -∗ wp frame (wpE (defs₀ (F := F)) 𝒱₀ (V d (c0V L) (j0V L)) none) Set.univ (k (loadIdx (m.view.read (Elt F) f) idxs h)) Q)
        -∗ wp frame (wpE (defs₀ (F := F)) 𝒱₀ (V d (c0V L) (j0V L)) none) Set.univ (SparseCore.vectorLoadIdx m idxs h hl >>= k) Q) := by
  have h0 := SparseCore.wp_vectorLoadIdx (defs := defs₀ (F := F)) 𝒱₀ (V d (c0V L) (j0V L)) none Set.univ (Q := Q) (base := m) (idxs := idxs) (h := h) (hl := hl)
    (k := k) (S := m.view.set) (q := fullShare) (f := f) (by rw [set_access_whole])
  rw [read_access_whole] at h0
  exact h0

theorem st_idx {s : Shape} {n : Fin 1 → Nat} {e : EltTy} {Q : Unit → sProp (MM F)} (m : Memref sig .scVector .vmem s e) {idxs : Fin s.rank → IVec ⟨1, n⟩ 32}
    {v : Vec F ⟨1, n⟩ e} {mask : IVec ⟨1, n⟩ 1} {add : Bool}
    {h : ∀ a x, (idxs a x).toNat < s.size a} {hs : (m.access (.whole s)).Stores Finset.univ} {k : PUnit → Prog (TpuEff nD τ sig (Elt F) Λ₀ (V d (c0V L) (j0V L)).2) Unit} {f} :
    (m.view.loc (V d (c0V L) (j0V L)) ↦[m.view.set]{fullShare} f : sProp (MM F))
      ⊢ iprop((holds d L m (storeIdx (m.view.read (Elt F) f) idxs v mask add h)
          -∗ wp frame (wpE (defs₀ (F := F)) 𝒱₀ (V d (c0V L) (j0V L)) none) Set.univ (k ⟨⟩) Q)
        -∗ wp frame (wpE (defs₀ (F := F)) 𝒱₀ (V d (c0V L) (j0V L)) none) Set.univ (SparseCore.vectorStoreIdx m idxs v mask add h hs >>= k) Q) := by
  have h0 := SparseCore.wp_vectorStoreIdx (defs := defs₀ (F := F)) 𝒱₀ (V d (c0V L) (j0V L)) none Set.univ (Q := Q) (base := m) (idxs := idxs) (v := v) (mask := mask) (add := add)
    (h := h) (hs := hs) (k := k) (f := f)
  rw [read_access_whole] at h0
  have hset : (m.access (.whole s)).set = m.view.set := set_access_whole m
  have hp : ∀ g, (m.view.loc (V d (c0V L) (j0V L)) ↦[m.view.set]{fullShare} g : sProp (MM F))
      = ((m.access (.whole s)).loc (V d (c0V L) (j0V L)) ↦[(m.access (.whole s)).set]{fullShare} g) := fun g => by rw [hset]
  iintro H Hk
  ihave H := (Entails.of_eq (hp f)) $$ H
  iapply h0 $$ H
  iintro H2
  ihave H2 := (Entails.of_eq (hp _).symm) $$ H2
  iapply Hk
  iexists ((m.access (.whole s)).write (Elt F) f (storeIdx (m.view.read (Elt F) f) idxs v mask add h) Finset.univ)
  isplitr [H2]
  · ipureintro
    rw [← read_access_whole]
    exact View.read_write_univ _ _
  · iexact H2

/-- Before group `k` of the first loop: the experts and ranks of the tokens before it and the counters over them. -/
def inv1 (X : S8x2048.Idx → Elt F .f32) (k : Nat) (_ : Unit) : sProp (MM F) :=
  iprop(holds d L arg7 X
    ∗ (∃ B, ⌜∀ t : Fin 2048, t.val < 16 * k → B (at1 t) = BitVec.ofNat 32 (expert X t.val)⌝ ∗ holds (F := F) d L arg8 B)
    ∗ (∃ R, ⌜∀ t : Fin 2048, t.val < 16 * k → R (at1 t) = BitVec.ofNat 32 (rank (expert X) t.val)⌝ ∗ holds (F := F) d L arg9 R)
    ∗ (∃ C, ⌜CtrOf (F := F) (expert X) (16 * k) C⌝ ∗ holds (F := F) d L arg12 C))

set_option maxHeartbeats 2000000 in
theorem trip1 (hc : k0_cond1 L = 1#1) (X : S8x2048.Idx → Elt F .f32) (t : Fin k0_t1_loop.trips) (acc : Unit) :
    inv1 d L arg7 arg8 arg9 arg12 X t.val acc
      ⊢ wp frame (wpE (defs₀ (F := F)) 𝒱₀ (V d (c0V L) (j0V L)) none) Set.univ
          (k0_t1_body L arg2 harg2 arg3 harg3 arg4 harg4 arg5 harg5 arg6 harg6 arg7 harg7 arg8 harg8 arg9 harg9 arg10 harg10 arg11 harg11 arg12 harg12 r0 r1 r2 r3 r4 hc t acc)
          fun acc' => inv1 (F := F) d L arg7 arg8 arg9 arg12 X (t.val + 1) acc' := by
  unfold inv1 k0_t1_body
  rw [k0_part1_eq_skeleton]; unfold k0_part1_skel
  iintro ⟨⟨%f7, %h7, H7⟩, ⟨%B, %hB, %f8, %h8, H8⟩, ⟨%R, %hR, %f9, %h9, H9⟩, %C, %hC, %f12, %h12, H12⟩
  sl_exec
  have htr : t.val < 128 := lt_of_lt_of_eq t.isLt (by decide)
  have hg : GroupOf (fun s => expert X (16 * t.val + s)) (trip1.sl.v72 L arg7 hc t f7) := by
    subst h7
    have hb : 16 * t.val + 16 ≤ 2048 := by omega
    refine group_experts _ (16 * t.val) hb
      ![View.ld (arg7.view.read (Elt F) f7) (Rect.unit (s := S8x2048) (k0_off1 t) S1x16.size (k0_off1_inb L t hc)),
        View.ld (arg7.view.read (Elt F) f7) (Rect.unit (s := S8x2048) (k0_off2 t) S1x16.size (k0_off2_inb L t hc)),
        View.ld (arg7.view.read (Elt F) f7) (Rect.unit (s := S8x2048) (k0_off3 t) S1x16.size (k0_off3_inb L t hc)),
        View.ld (arg7.view.read (Elt F) f7) (Rect.unit (s := S8x2048) (k0_off4 t) S1x16.size (k0_off4_inb L t hc)),
        View.ld (arg7.view.read (Elt F) f7) (Rect.unit (s := S8x2048) (k0_off5 t) S1x16.size (k0_off5_inb L t hc)),
        View.ld (arg7.view.read (Elt F) f7) (Rect.unit (s := S8x2048) (k0_off6 t) S1x16.size (k0_off6_inb L t hc)),
        View.ld (arg7.view.read (Elt F) f7) (Rect.unit (s := S8x2048) (k0_off7 t) S1x16.size (k0_off7_inb L t hc)),
        View.ld (arg7.view.read (Elt F) f7) (Rect.unit (s := S8x2048) (k0_off8 t) S1x16.size (k0_off8_inb L t hc))] ?_
    intro e j
    match e with
    | 0 => exact row_load (arg7.view.read (Elt F) f7) 0 (16 * t.val) hb (k0_off1 t) (k0_off1_inb L t hc) (k0_off1_eq t) j
    | 1 => exact row_load (arg7.view.read (Elt F) f7) 1 (16 * t.val) hb (k0_off2 t) (k0_off2_inb L t hc) (k0_off2_eq t) j
    | 2 => exact row_load (arg7.view.read (Elt F) f7) 2 (16 * t.val) hb (k0_off3 t) (k0_off3_inb L t hc) (k0_off3_eq t) j
    | 3 => exact row_load (arg7.view.read (Elt F) f7) 3 (16 * t.val) hb (k0_off4 t) (k0_off4_inb L t hc) (k0_off4_eq t) j
    | 4 => exact row_load (arg7.view.read (Elt F) f7) 4 (16 * t.val) hb (k0_off5 t) (k0_off5_inb L t hc) (k0_off5_eq t) j
    | 5 => exact row_load (arg7.view.read (Elt F) f7) 5 (16 * t.val) hb (k0_off6 t) (k0_off6_inb L t hc) (k0_off6_eq t) j
    | 6 => exact row_load (arg7.view.read (Elt F) f7) 6 (16 * t.val) hb (k0_off7 t) (k0_off7_inb L t hc) (k0_off7_eq t) j
    | 7 => exact row_load (arg7.view.read (Elt F) f7) 7 (16 * t.val) hb (k0_off8 t) (k0_off8_inb L t hc) (k0_off8_eq t) j
  have hb16 : ∀ s, expert X s < 16 := fun s => lt_trans (expert_lt X s) (by decide)
  have hin : ∀ a x, ((![trip1.sl.v72 L arg7 hc t f7] : Fin 1 → IVec S16 32) a x).toNat < S16.size a := by
    intro a x
    match a with
    | 0 => exact lt_of_eq_of_lt (group_toNat hg (fun _ => hb16 _) x) (hb16 _)
  have hchk : k0_chk1 L (trip1.sl.v72 L arg7 hc t f7) := ⟨fun _ => hin, fun _ => hin⟩
  sl_exec
  iapply (ld_idx (F := F) d L arg12) $$ H12
  iintro H12
  sl_exec
  iapply (st_idx (F := F) d L arg12) $$ H12
  iintro ⟨%g12, %hg12, H12⟩
  sl_step
  isplitl [H7]
  · iexists f7; isplitr [H7]; · ipureintro; exact h7
    iexact H7
  isplitl [H8]
  · iexists _; isplitr [H8]
    · ipureintro
      exact group_upto (expert X) t.val (by omega) (k0_off9 t) (k0_off9_inb L t hc) (k0_off9_eq t) _ B hg hB
    · iexists _; isplitr [H8]
      · ipureintro
        rw [read_writes_one, h8]
      · iexact H8
  isplitl [H9]
  · iexists _; isplitr [H9]
    · ipureintro
      exact group_upto (rank (expert X)) t.val (by omega) (k0_off10 t) (k0_off10_inb L t hc) (k0_off10_eq t) _ R
        (step_rank hg hb16 (h12 ▸ hC) hin) hR
    · iexists _; isplitr [H9]
      · ipureintro
        rw [read_writes_one, h9]
      · iexact H9
  iexists _; isplitr [H12]
  · ipureintro
    exact step_ctr hg hb16 (h12 ▸ hC) hin
  · iexists g12; isplitr [H12]; · ipureintro; exact hg12
    iexact H12

/-- Before group `k` of the second loop: the tokens before it hold their places, the rest their ranks, and the
    inverse is written at the places of the tokens before it. -/
def inv2 (X : S8x2048.Idx → Elt F .f32) (k : Nat) (_ : Unit) : sProp (MM F) :=
  iprop((∃ B, ⌜∀ t : Fin 2048, B (at1 t) = BitVec.ofNat 32 (expert X t.val)⌝ ∗ holds (F := F) d L arg8 B)
    ∗ (∃ R, ⌜∀ t : Fin 2048, R (at1 t) = BitVec.ofNat 32 (if t.val < 16 * k then place (expert X) 2048 t.val else rank (expert X) t.val)⌝
        ∗ holds (F := F) d L arg9 R)
    ∗ (∃ Z, ⌜∀ t p : Fin 2048, t.val < 16 * k → place (expert X) 2048 t.val = p.val → Z (at1 p) = BitVec.ofNat 32 t.val⌝
        ∗ holds (F := F) d L arg10 Z)
    ∗ (∃ C, ⌜∀ e : Fin 16, e.val < 8 → C (at1 e) = BitVec.ofNat 32 (start (expert X) 2048 e.val)⌝ ∗ holds (F := F) d L arg11 C))

theorem clip_word (n : ℕ) (hn : n < 2048) : IntOp.minsi 2047#32 (IntOp.maxsi 0#32 (BitVec.ofNat 32 n)) = BitVec.ofNat 32 n := by
  rw [Routing.maxsi_zero_left (by omega)]
  refine (w_min (a := 2047) (b := n) (by decide) (by omega)).trans ?_
  rw [Nat.min_eq_right (by omega)]

set_option maxHeartbeats 2000000 in
theorem trip2 (hc : k0_cond1 L = 1#1) (X : S8x2048.Idx → Elt F .f32) (t : Fin k0_t2_loop.trips) (acc : Unit) :
    inv2 d L arg8 arg9 arg10 arg11 X t.val acc
      ⊢ wp frame (wpE (defs₀ (F := F)) 𝒱₀ (V d (c0V L) (j0V L)) none) Set.univ
          (k0_t2_body L arg2 harg2 arg3 harg3 arg4 harg4 arg5 harg5 arg6 harg6 arg7 harg7 arg8 harg8 arg9 harg9 arg10 harg10 arg11 harg11 arg12 harg12 r0 r1 r2 r3 r4 hc t acc)
          fun acc' => inv2 (F := F) d L arg8 arg9 arg10 arg11 X (t.val + 1) acc' := by
  unfold inv2 k0_t2_body
  iintro ⟨⟨%B, %hB, %f8, %h8, H8⟩, ⟨%R, %hR, %f9, %h9, H9⟩, ⟨%Z, %hZ, %f10, %h10, H10⟩, %C, %hC, %f11, %h11, H11⟩
  have htr : t.val < 128 := lt_of_lt_of_eq t.isLt (by decide)
  have hb : 16 * t.val + 16 ≤ 2048 := by omega
  have hb16 : ∀ s, expert X s < 16 := fun s => lt_trans (expert_lt X s) (by decide)
  have hlane : ∀ j : S16.Idx, 16 * t.val + (j 0).val < 2048 := fun j => by have : (j 0).val < 16 := (j 0).isLt; omega
  obtain ⟨v, hv⟩ : ∃ v : Vec F S16 .i32, v = arg8.view.readAt (Elt F) (Rect.unit (s := S2048) (k0_off11 t) S16.size (k0_off11_inb L t hc)).toLoadRect f8 := ⟨_, rfl⟩
  have hg : GroupOf (fun s => expert X (16 * t.val + s)) v := by
    intro j
    rw [hv]
    exact (group_ld t.val hb (k0_off11 t) (k0_off11_inb L t hc) (k0_off11_eq t) (arg8.view.read (Elt F) f8) j).trans (h8 ▸ hB _)
  have hin : ∀ a x, ((![v] : Fin 1 → IVec S16 32) a x).toNat < S16.size a := by
    intro a x
    match a with
    | 0 => exact lt_of_eq_of_lt (group_toNat hg (fun _ => hb16 _) x) (hb16 _)
  have hchk2 : k0_chk2 L v := fun _ => hin
  obtain ⟨w, hw⟩ : ∃ w : Vec F S16 .i32, w = arg9.view.readAt (Elt F) (Rect.unit (s := S2048) (k0_off12 t) S16.size (k0_off12_inb L t hc)).toLoadRect f9 := ⟨_, rfl⟩
  have hwr : ∀ j : S16.Idx, w j = BitVec.ofNat 32 (rank (expert X) (16 * t.val + (j 0).val)) := by
    intro j
    rw [hw]
    refine (group_ld t.val hb (k0_off12 t) (k0_off12_inb L t hc) (k0_off12_eq t) (arg9.view.read (Elt F) f9) j).trans (h9 ▸ (hR _).trans ?_)
    rw [if_neg (by show ¬ 16 * t.val + (j 0).val < 16 * t.val; omega)]
  have hpl : ∀ j : S16.Idx, k0_pay9 (F := F) (loadIdx (s := S16) (arg11.view.read (Elt F) f11) (![v] : Fin 1 → IVec S16 32) hin) w j
      = BitVec.ofNat 32 (place (expert X) 2048 (16 * t.val + (j 0).val)) := by
    intro j
    show IntOp.minsi 2047#32 (IntOp.maxsi 0#32 (w j + loadIdx (s := S16) (arg11.view.read (Elt F) f11) (![v] : Fin 1 → IVec S16 32) hin j)) = _
    have h0 : loadIdx (s := S16) (arg11.view.read (Elt F) f11) (![v] : Fin 1 → IVec S16 32) hin j
        = BitVec.ofNat 32 (start (expert X) 2048 (expert X (16 * t.val + (j 0).val))) := by
      refine (loadIdx_at (n := 16) _ v hin j ⟨expert X (16 * t.val + (j 0).val), hb16 _⟩ (group_toNat hg (fun _ => hb16 _) j)).trans ?_
      exact h11 ▸ hC _ (expert_lt X _)
    rw [h0, hwr, ← BitVec.ofNat_add]
    exact clip_word _ (place_lt (expert X) 8 (expert_lt X) (hlane j))
  have hin3 : ∀ a x, ((![k0_pay9 (F := F) (loadIdx (s := S16) (arg11.view.read (Elt F) f11) (![v] : Fin 1 → IVec S16 32) hin) w] : Fin 1 → IVec S16 32) a x).toNat < S2048.size a := by
    intro a x
    match a with
    | 0 =>
      show (k0_pay9 (F := F) _ w x).toNat < 2048
      rw [hpl, BitVec.toNat_ofNat]
      have := place_lt (expert X) 8 (expert_lt X) (hlane x)
      omega
  have hto : ∀ j : S16.Idx, (k0_pay9 (F := F) (loadIdx (s := S16) (arg11.view.read (Elt F) f11) (![v] : Fin 1 → IVec S16 32) hin) w j).toNat
      = place (expert X) 2048 (16 * t.val + (j 0).val) := by
    intro j
    rw [hpl, BitVec.toNat_ofNat]
    have := place_lt (expert X) 8 (expert_lt X) (hlane j)
    omega
  have hchk3 : k0_chk3 L (k0_pay9 (F := F) (loadIdx (s := S16) (arg11.view.read (Elt F) f11) (![v] : Fin 1 → IVec S16 32) hin) w) := fun _ => hin3
  subst hv
  subst hw
  sl_exec
  iapply (ld_idx (F := F) d L arg11) $$ H11
  iintro H11
  sl_exec
  iapply (st_idx (F := F) d L arg10) $$ H10
  iintro ⟨%g10, %hg10, H10⟩
  sl_step
  isplitl [H8]
  · iexists B; isplitr [H8]
    · ipureintro; exact hB
    · iexists f8; isplitr [H8]
      · ipureintro; exact h8
      · iexact H8
  isplitl [H9]
  · iexists _; isplitr [H9]
    swap
    · iexists _; isplitr [H9]
      swap
      · iexact H9
      · ipureintro
        exact read_writes_one _ _ _ _
    · ipureintro
      intro p
      by_cases hp : p.val < 16 * (t.val + 1)
      · rw [if_pos hp]
        refine group_upto (place (expert X) 2048) t.val hb (k0_off12 t) (k0_off12_inb L t hc) (k0_off12_eq t) _ _ hpl ?_ p hp
        intro q hq
        rw [h9, hR, if_pos hq]
      · rw [if_neg hp]
        refine (group_out t.val hb (k0_off12 t) (k0_off12_inb L t hc) (k0_off12_eq t) _ _ p (.inr (by omega))).trans ?_
        rw [h9, hR, if_neg (by omega)]
  isplitl [H10]
  · iexists _; isplitr [H10]
    swap
    · iexists g10; isplitr [H10]
      · ipureintro; exact hg10
      · iexact H10
    · ipureintro
      intro q p hq hp
      have hval : ∀ j : S16.Idx, (k0_pay10 t j) = BitVec.ofNat 32 (16 * t.val + (j 0).val) := by
        intro j
        show Scalar.muli (Scf.iv 0#32 1#32 t.val) 16#32 + iota .scVector S16 32 [0] iota_S16_d0_w32_scVector j = _
        rw [iota_single_apply]
        have hi : Scf.iv 0#32 1#32 t.val = BitVec.ofNat 32 t.val := by
          generalize t.val = n at htr
          revert n; decide
        rw [hi]
        exact (congrArg (· + _) (BitVec.ofNat_mul t.val 16).symm).trans ((BitVec.ofNat_add _ _).symm.trans (by rw [Nat.mul_comm]))
      by_cases hlt : q.val < 16 * t.val
      · refine (storeIdx_miss (n := 2048) _ _ _ _ hin3 p ?_).trans ?_
        · intro j _ he
          have he := (hto j).symm.trans (he.trans hp.symm)
          have := place_inj (expert X) (hlane j) q.isLt he
          omega
        · rw [h10]; exact hZ q p hlt hp
      · refine storeIdx_hit (n := 2048) _ _ _ _ hin3 p _ ?_ ?_
        · intro j _ he
          have he := (hto j).symm.trans (he.trans hp.symm)
          rw [hval, place_inj (expert X) (hlane j) q.isLt he]
        · refine ⟨at1 (n := 16) ⟨q.val - 16 * t.val, by omega⟩, rfl, ?_⟩
          refine (hto _).trans (Eq.trans ?_ hp)
          refine congrArg (place (expert X) 2048) ?_
          show 16 * t.val + (q.val - 16 * t.val) = q.val
          omega
  iexists C; isplitr [H11]
  · ipureintro; exact hC
  · iexists f11; isplitr [H11]
    · ipureintro; exact h11
    · iexact H11

end Tile

end Cert.Proof.Moe

end
-- ==== Proof.RouteBody.lean ====
/-
  The routing task as a whole: what it leaves in the four arrays it writes.
-/
module

public import proofs.«01_k».proof.Proof.Route

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The scan's sums: one past each lane, the sum of the words up to it. -/
theorem scan_sums (v : IVec S16 32) (g : ℕ → ℕ) (hv : ∀ e : Fin 16, v (at1 e) = BitVec.ofNat 32 (g e.val)) (j : Fin 16) :
    scan (d := ![16]) .sum v (at1 j) = BitVec.ofNat 32 (∑ i ∈ Finset.range (j.val + 1), g i) := by
  have hl : ((List.finRange 16).filter fun k => decide (0 < k.val ∧ k.val ≤ j.val)).map (fun k => k.val) = (List.range j.val).map (· + 1) := by
    revert j; decide
  have h0 : ∀ k : Fin 16, v (Shape.ofLane (d := ![16]) k) = BitVec.ofNat 32 (g k.val) := fun k => by
    rw [← hv k]; refine congrArg v (funext fun a => ?_)
    match a with | 0 => rfl
  have hf : ∀ (w : Fin 16 → BitVec 32), (∀ k, w k = BitVec.ofNat 32 (g k.val)) → ∀ (l : List (Fin 16)) (r : BitVec 32), l.foldl (fun r k => r + w k) r
      = (l.map (fun k => k.val)).foldl (fun r k => r + BitVec.ofNat 32 (g k)) r := by
    intro w h0 l
    induction l with
    | nil => intro r; rfl
    | cons a l ih => intro r; simp only [List.foldl_cons, List.map_cons]; rw [ih, h0]
  refine (hf (fun k => v (Shape.ofLane (d := ![16]) k)) h0 _ _).trans ?_
  refine (congrArg (fun l => List.foldl (fun r k => r + BitVec.ofNat 32 (g k)) _ l) hl).trans ?_
  have hz : v (Shape.ofLane (d := ![16]) ⟨0, (by decide)⟩) = BitVec.ofNat 32 (g 0) := h0 0
  refine (congrArg (fun z => List.foldl (fun r k => r + BitVec.ofNat 32 (g k)) z ((List.range j.val).map (· + 1))) hz).trans ?_
  generalize j.val = n
  induction n with
  | zero => simp
  | succ n ih =>
    rw [List.range_succ, List.map_append, List.foldl_append, ih, Finset.sum_range_succ _ (n + 1)]
    simp [BitVec.ofNat_add]

/-- The starts written by the routing task, from the counters. -/
theorem starts_word (be : ℕ → ℕ) (v : Vec F S16 .i32) (hv : CtrOf be 2048 v) (hb : ∀ t, be t < 8) (e : Fin 16) :
    k0_pay8 v (at1 e) = BitVec.ofNat 32 (start be 2048 (min e.val 8)) := by
  have hc : k0_pay8 v (at1 e) = if e.val < 8 then scan (d := ![16]) .sum v (at1 e) - v (at1 e) else 2048#32 := by
    show (if IntOp.cmpi .slt (iota .scVector S16 32 [0] iota_S16_d0_w32_scVector (at1 e)) 8#32 = 1 then scan (d := ![16]) .sum v (at1 e) - v (at1 e) else 2048#32) = _
    rw [iota_single_apply]
    have hd : (IntOp.cmpi .slt (BitVec.ofNat 32 e.val) 8#32 = 1) = (e.val < 8) := by revert e; decide
    exact if_congr (Iff.of_eq hd) rfl rfl
  rw [hc]
  by_cases h : e.val < 8
  · rw [if_pos h, Nat.min_eq_left h.le, scan_sums v (cnt be 2048) hv, hv e, Finset.sum_range_succ]
    rw [BitVec.ofNat_add, BitVec.add_sub_cancel]; rfl
  · rw [if_neg h, Nat.min_eq_right (by omega), start_all be 8 hb]

open Classical in
/-- The token whose place is `p`. -/
def token (be : ℕ → ℕ) (p : ℕ) : ℕ := if h : ∃ t < 2048, place be 2048 t = p then h.choose else 0

theorem token_place (be : ℕ → ℕ) {t : ℕ} (ht : t < 2048) : token be (place be 2048 t) = t := by
  have h : ∃ s < 2048, place be 2048 s = place be 2048 t := ⟨t, ht, rfl⟩
  have h1 : token be (place be 2048 t) = h.choose := dif_pos h
  rw [h1]
  exact place_inj be h.choose_spec.1 ht h.choose_spec.2

theorem token_lt (be : ℕ → ℕ) (p : ℕ) : token be p < 2048 := by
  unfold token
  split
  · next h => exact h.choose_spec.1
  · decide

/-- The four arrays the routing task leaves. -/
def topiOf (X : S8x2048.Idx → Elt F .f32) : S2048.Idx → Elt F .i32 := fun x => BitVec.ofNat 32 (expert X (x 0).val)
def destOf (X : S8x2048.Idx → Elt F .f32) : S2048.Idx → Elt F .i32 := fun x => BitVec.ofNat 32 (place (expert X) 2048 (x 0).val)
def srcOf (X : S8x2048.Idx → Elt F .f32) : S2048.Idx → Elt F .i32 := fun x => BitVec.ofNat 32 (token (expert X) (x 0).val)
def startOf (X : S8x2048.Idx → Elt F .f32) : S16.Idx → Elt F .i32 := fun x => BitVec.ofNat 32 (start (expert X) 2048 (min (x 0).val 8))

/-- The whole of an array of sixteen. -/
theorem full16 {e : EltTy} (h : ∀ a, (![0] : Fin 1 → Nat) a + S16.size a ≤ S16.size a) (G X : S16.Idx → Elt F e) :
    Rect.overlay (Rect.unit (s := S16) ![0] S16.size h) G X = X := by
  funext y
  have hx : (Rect.unit (s := S16) ![0] S16.size h).idx y = y := funext fun a => Fin.ext (by
    match a with
    | 0 =>
      refine ((Rect.unit (s := S16) ![0] S16.size h).idx_apply _ _).trans ?_
      exact (congrArg (0 + ·) (Nat.one_mul _)).trans (Nat.zero_add _))
  have := Rect.overlay_emb (Rect.unit (s := S16) ![0] S16.size h) G X y
  exact (congrArg _ hx.symm).trans this

theorem ld16 {e : EltTy} (h : ∀ a, (![0] : Fin 1 → Nat) a + S16.size a ≤ S16.size a) (G : S16.Idx → Elt F e) :
    View.ld G (Rect.unit (s := S16) ![0] S16.size h) = G := by
  funext y
  refine congrArg G (funext fun a => Fin.ext ?_)
  match a with
  | 0 =>
    refine ((Rect.unit (s := S16) ![0] S16.size h).idx_apply _ _).trans ?_
    exact (congrArg (0 + ·) (Nat.one_mul _)).trans (Nat.zero_add _)

section Tile

variable (d : Dev nD) (L : grid0.Coords)
  (arg2 : Memref sig .scVector .hbm S8x2048 .f32) (harg2 : arg2.IsWhole) (arg3 : Memref sig .scVector .hbm S2048 .i32) (harg3 : arg3.IsWhole)
  (arg4 : Memref sig .scVector .hbm S2048 .i32) (harg4 : arg4.IsWhole) (arg5 : Memref sig .scVector .hbm S2048 .i32) (harg5 : arg5.IsWhole)
  (arg6 : Memref sig .scVector .hbm S16 .i32) (harg6 : arg6.IsWhole) (arg7 : Memref sig .scVector .vmem S8x2048 .f32) (harg7 : arg7.IsWhole)
  (arg8 : Memref sig .scVector .vmem S2048 .i32) (harg8 : arg8.IsWhole) (arg9 : Memref sig .scVector .vmem S2048 .i32) (harg9 : arg9.IsWhole)
  (arg10 : Memref sig .scVector .vmem S2048 .i32) (harg10 : arg10.IsWhole) (arg11 : Memref sig .scVector .vmem S16 .i32) (harg11 : arg11.IsWhole)
  (arg12 : Memref sig .scVector .vmem S16 .i32) (harg12 : arg12.IsWhole) (r0 r1 r2 r3 r4 : DmaSems sig S_)

set_option maxRecDepth 200000 in
set_option maxHeartbeats 2000000 in
theorem route_tile (hc : k0_cond1 L = 1#1) (q : PosShare TreeShare) (X : S8x2048.Idx → Elt F .f32)
    (f2 : Buf (Elt F) (arg2.view.loc (V d (c0V L) (j0V L)))) (f3 : Buf (Elt F) (arg3.view.loc (V d (c0V L) (j0V L))))
    (f4 : Buf (Elt F) (arg4.view.loc (V d (c0V L) (j0V L)))) (f5 : Buf (Elt F) (arg5.view.loc (V d (c0V L) (j0V L))))
    (f6 : Buf (Elt F) (arg6.view.loc (V d (c0V L) (j0V L)))) (f7 : Buf (Elt F) (arg7.view.loc (V d (c0V L) (j0V L))))
    (f8 : Buf (Elt F) (arg8.view.loc (V d (c0V L) (j0V L)))) (f9 : Buf (Elt F) (arg9.view.loc (V d (c0V L) (j0V L))))
    (f10 : Buf (Elt F) (arg10.view.loc (V d (c0V L) (j0V L)))) (f11 : Buf (Elt F) (arg11.view.loc (V d (c0V L) (j0V L))))
    (f12 : Buf (Elt F) (arg12.view.loc (V d (c0V L) (j0V L)))) (hX : arg2.view.read (Elt F) f2 = X)
    (O : CellTallies nD τ sig (HIx 3)) (W : Waits sig (HIx 3)) (hO : ∀ g, O g none = 0) :
    iprop(levAts (K (F := F)).L (K (F := F)).lev
        ∗ (arg2.view.loc (V d (c0V L) (j0V L)) ↦[arg2.view.set]{q} f2)
        ∗ (arg3.view.loc (V d (c0V L) (j0V L)) ↦[arg3.view.set]{fullShare} f3) ∗ (arg4.view.loc (V d (c0V L) (j0V L)) ↦[arg4.view.set]{fullShare} f4)
        ∗ (arg5.view.loc (V d (c0V L) (j0V L)) ↦[arg5.view.set]{fullShare} f5) ∗ (arg6.view.loc (V d (c0V L) (j0V L)) ↦[arg6.view.set]{fullShare} f6)
        ∗ (arg7.view.loc (V d (c0V L) (j0V L)) ↦[arg7.view.set]{fullShare} f7) ∗ (arg8.view.loc (V d (c0V L) (j0V L)) ↦[arg8.view.set]{fullShare} f8)
        ∗ (arg9.view.loc (V d (c0V L) (j0V L)) ↦[arg9.view.set]{fullShare} f9) ∗ (arg10.view.loc (V d (c0V L) (j0V L)) ↦[arg10.view.set]{fullShare} f10)
        ∗ (arg11.view.loc (V d (c0V L) (j0V L)) ↦[arg11.view.set]{fullShare} f11) ∗ (arg12.view.loc (V d (c0V L) (j0V L)) ↦[arg12.view.set]{fullShare} f12)
        ∗ semVal (V d (c0V L) (j0V L), .dma r0.sem) 0 ∗ semVal (V d (c0V L) (j0V L), .dma r1.sem) 0 ∗ semVal (V d (c0V L) (j0V L), .dma r2.sem) 0
        ∗ semVal (V d (c0V L) (j0V L), .dma r3.sem) 0 ∗ semVal (V d (c0V L) (j0V L), .dma r4.sem) 0
        ∗ owes (V d (c0V L) (j0V L)) O W : sProp (MM F))
      ⊢ wp frame (wpE (defs₀ (F := F)) 𝒱₀ (V d (c0V L) (j0V L)) none) Set.univ
          (cc0__route_body_skel L arg2 harg2 arg3 harg3 arg4 harg4 arg5 harg5 arg6 harg6 arg7 harg7 arg8 harg8 arg9 harg9 arg10 harg10 arg11 harg11 arg12 harg12 r0 r1 r2 r3 r4)
          fun _ => iprop((arg2.view.loc (V d (c0V L) (j0V L)) ↦[arg2.view.set]{q} f2)
            ∗ holds (F := F) d L arg3 (topiOf X) ∗ holds (F := F) d L arg4 (destOf X) ∗ holds (F := F) d L arg5 (srcOf X) ∗ holds (F := F) d L arg6 (startOf X)
            ∗ (∃ f, arg7.view.loc (V d (c0V L) (j0V L)) ↦[arg7.view.set]{fullShare} f) ∗ (∃ f, arg8.view.loc (V d (c0V L) (j0V L)) ↦[arg8.view.set]{fullShare} f)
            ∗ (∃ f, arg9.view.loc (V d (c0V L) (j0V L)) ↦[arg9.view.set]{fullShare} f) ∗ (∃ f, arg10.view.loc (V d (c0V L) (j0V L)) ↦[arg10.view.set]{fullShare} f)
            ∗ (∃ f, arg11.view.loc (V d (c0V L) (j0V L)) ↦[arg11.view.set]{fullShare} f) ∗ (∃ f, arg12.view.loc (V d (c0V L) (j0V L)) ↦[arg12.view.set]{fullShare} f)
            ∗ semVal (V d (c0V L) (j0V L), .dma r0.sem) 0 ∗ semVal (V d (c0V L) (j0V L), .dma r1.sem) 0 ∗ semVal (V d (c0V L) (j0V L), .dma r2.sem) 0
            ∗ semVal (V d (c0V L) (j0V L), .dma r3.sem) 0 ∗ semVal (V d (c0V L) (j0V L), .dma r4.sem) 0
            ∗ ∃ W', ⌜∀ p ∈ W', p ∈ W ∨ p.2 = none⌝ ∗ owes (V d (c0V L) (j0V L)) O W') := by
  unfold cc0__route_body_skel
  iintro ⟨#Hlv, H2, H3, H4, H5, H6, H7, H8, H9, H10, H11, H12, HsA, HsB, HsC, HsD, HsE, HO⟩
  ihave Hmw := (show levAts (K (F := F)).L (K (F := F)).lev ⊢ Transfers.MayWaits (V d (c0V L) (j0V L)) (default : HIx 3) O from
    (K (F := F)).mayWaits_none (thr := V d (c0V L) (j0V L)) hO) $$ Hlv
  have hn8 : (0 : ℕ) < S8x2048.numel := by decide
  have hn1 : (0 : ℕ) < S2048.numel := by decide
  have hn2 : (0 : ℕ) < S16.numel := by decide
  sl_exec (disch := first | exact View.amount_pos _ _ hn8 | exact View.amount_pos _ _ hn1 | exact View.amount_pos _ _ hn2)
  sl_for (inv1 (F := F) d L arg7 arg8 arg9 arg12 X) $$ [H7 H8 H9 H12]
  case region =>
    intro t acc
    exact trip1 (F := F) d L arg2 harg2 arg3 harg3 arg4 harg4 arg5 harg5 arg6 harg6 arg7 harg7 arg8 harg8 arg9 harg9 arg10 harg10 arg11 harg11 arg12 harg12 r0 r1 r2 r3 r4 hc X t acc
  · unfold inv1
    isplitl [H7]
    · iexists _; isplitr; swap; · iexact H7
      ipureintro
      exact (View.read_writes_whole _ _ _).trans hX
    isplitl [H8]
    · iexists (arg8.view.read (Elt F) f8); isplitr
      · ipureintro; exact fun t h => absurd h (Nat.not_lt_zero _)
      · iexists f8; isplitr
        · ipureintro; rfl
        · iexact H8
    isplitl [H9]
    · iexists (arg9.view.read (Elt F) f9); isplitr
      · ipureintro; exact fun t h => absurd h (Nat.not_lt_zero _)
      · iexists f9; isplitr
        · ipureintro; rfl
        · iexact H9
    iexists k0_pay1; isplitr
    · ipureintro; exact fun e => (congrArg (BitVec.ofNat 32) (Nat.count_zero _)).symm
    · iexists _; isplitr; swap; · iexact H12
      ipureintro
      exact (read_writes_one _ _ _ _).trans (full16 _ _ _)
  iintro %acc HI
  unfold inv1
  icases HI with ⟨⟨%g7, %h7, H7⟩, ⟨%B, %hB, %g8, %h8, H8⟩, ⟨%R, %hR, %g9, %h9, H9⟩, %C, %hC, %g12, %h12, H12⟩
  have ht1 : Scf.trips k0_t1_loop.lb k0_t1_loop.ub k0_t1_loop.st = 128 := by decide
  have ht2 : Scf.trips k0_t2_loop.lb k0_t2_loop.ub k0_t2_loop.st = 128 := by decide
  have hstart : ∀ e : Fin 16, k0_pay8 C (at1 e) = BitVec.ofNat 32 (start (expert X) 2048 (min e.val 8)) :=
    starts_word (expert X) C (by rw [ht1] at hC; exact hC) (expert_lt X)
  sl_exec (disch := first | exact View.amount_pos _ _ hn8 | exact View.amount_pos _ _ hn1 | exact View.amount_pos _ _ hn2)
  sl_for (inv2 (F := F) d L arg8 arg9 arg10 arg11 X) $$ [H8 H9 H10 H11]
  case region =>
    intro t acc
    exact trip2 (F := F) d L arg2 harg2 arg3 harg3 arg4 harg4 arg5 harg5 arg6 harg6 arg7 harg7 arg8 harg8 arg9 harg9 arg10 harg10 arg11 harg11 arg12 harg12 r0 r1 r2 r3 r4 hc X t acc
  · unfold inv2
    isplitl [H8]
    · iexists B; isplitr
      · ipureintro; exact fun t => hB t (lt_of_lt_of_eq t.isLt (by rw [ht1]))
      · iexists g8; isplitr
        · ipureintro; exact h8
        · iexact H8
    isplitl [H9]
    · iexists R; isplitr
      · ipureintro; exact fun t => (hR t (lt_of_lt_of_eq t.isLt (by rw [ht1]))).trans (by rw [if_neg (Nat.not_lt_zero _)])
      · iexists g9; isplitr
        · ipureintro; exact h9
        · iexact H9
    isplitl [H10]
    · iexists (arg10.view.read (Elt F) f10); isplitr
      · ipureintro; exact fun t p h => absurd h (Nat.not_lt_zero _)
      · iexists f10; isplitr
        · ipureintro; rfl
        · iexact H10
    iexists (k0_pay8 C); isplitr
    · ipureintro
      intro e he
      exact (hstart e).trans (by rw [Nat.min_eq_left he.le])
    · iexists _; isplitr; swap; · iexact H11
      ipureintro
      refine (read_writes_one _ _ _ _).trans ((full16 _ _ _).trans ?_)
      exact congrArg k0_pay8 ((ld16 _ (arg12.view.read (Elt F) g12)).trans h12)
  iintro %acc2 HI
  unfold inv2
  icases HI with ⟨⟨%B2, %hB2, %k8, %h82, H8⟩, ⟨%R2, %hR2, %k9, %h92, H9⟩, ⟨%Z2, %hZ2, %k10, %h102, H10⟩, %C2, %hC2, %k11, %h112, H11⟩
  sl_exec (disch := first | exact View.amount_pos _ _ hn8 | exact View.amount_pos _ _ hn1 | exact View.amount_pos _ _ hn2)
  sl_step
  isplitl [H2]; · iexact H2
  isplitl [H3]
  · iexists _; isplitr; swap; · iexact H3
    ipureintro
    refine (View.read_writes_whole _ _ _).trans (h8.trans (funext fun x => ?_))
    rw [← at1_self (n := 2048) x]
    exact hB (x 0) (lt_of_lt_of_eq (x 0).isLt (by rw [ht1]; rfl))
  isplitl [H4]
  · iexists _; isplitr; swap; · iexact H4
    ipureintro
    refine (View.read_writes_whole _ _ _).trans (h92.trans (funext fun x => ?_))
    rw [← at1_self (n := 2048) x]
    exact (hR2 (x 0)).trans (by rw [if_pos (lt_of_lt_of_eq (x 0).isLt (by rw [ht2]; rfl))]; rfl)
  isplitl [H5]
  · iexists _; isplitr; swap; · iexact H5
    ipureintro
    refine (View.read_writes_whole _ _ _).trans (h102.trans (funext fun x => ?_))
    rw [← at1_self (n := 2048) x]
    obtain ⟨t, ht, hp⟩ := place_surj (expert X) 8 (expert_lt X) (n := 2048) (p := (x 0).val) (x 0).isLt
    refine (hZ2 ⟨t, ht⟩ (x 0) (by rw [ht2]; exact ht) hp).trans ?_
    show BitVec.ofNat 32 t = BitVec.ofNat 32 (token (expert X) (x 0).val)
    rw [← hp, token_place _ ht]
  isplitl [H6]
  · iexists _; isplitr; swap; · iexact H6
    ipureintro
    refine (View.read_writes_whole _ _ _).trans ?_
    refine Eq.trans (b := k0_pay8 C) ?_ (funext fun x => ?_)
    · refine (read_writes_one _ _ _ _).trans ((full16 _ _ _).trans ?_)
      exact congrArg k0_pay8 ((ld16 _ (arg12.view.read (Elt F) g12)).trans h12)
    · rw [← at1_self (n := 16) x]
      exact hstart (x 0)
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [HsA]; · iexact HsA
  isplitl [HsB]; · iexact HsB
  isplitl [HsC]; · iexact HsC
  isplitl [HsD]; · iexact HsD
  isplitl [HsE]; · iexact HsE
  iexists _
  isplitr; swap; · iexact HO
  ipureintro
  intro p hp
  simp only [Finset.mem_insert] at hp
  rcases hp with rfl | rfl | rfl | rfl | rfl | hp
  all_goals first | exact Or.inl hp | exact Or.inr rfl

end Tile

end Cert.Proof.Moe

end
-- ==== Proof.Gather.lean ====
/-
  One tile's task in the two row gathers: it fetches its 384 row numbers, transfers those rows of the table, and copies them
  out to its block of the result. The two calls print the same body, so the run is written once over the buffers.
-/
module

public import proofs.«01_k».proof.Proof.Lanes

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The row of a table that a word names, kept inside the table. -/
def rowAt (w : BitVec 32) : Fin 12288 := ⟨min w.toNat 12287, by omega⟩

/-- The place of the table at a row and a lane. -/
def at2 (r : Fin 12288) (l : Fin 128) : S12288x128.Idx := fun | 0 => r | 1 => l

/-- The rows of a table that a list of words names. -/
def gathered (T : S12288x128.Idx → Elt F .f32) (I : S12288.Idx → Elt F .i32) : S12288x128.Idx → Elt F .f32 :=
  fun x => T (at2 (rowAt (I (at1 (n := 12288) (x 0)))) (x 1))

theorem rows_size : S12288x128.size gathers_S12288x128_S384x128.axis = 12288 := rfl

theorem block_pos : 0 < S384x128.numel := by decide +kernel

section Tile

variable (d : Dev nD) (L : grid1.Coords)

abbrev cV (L : grid1.Coords) : Fin τ.nSC := (L 0).castLE hcore1
abbrev jV (L : grid1.Coords) : Fin τ.nSub := (L 1).castLE hsub1
abbrev iRect (L : grid1.Coords) : Rect S12288 := Rect.unit (s := S12288) (k1_off1 L) S384.size (k1_off1_inb L)
abbrev oRect (L : grid1.Coords) : Rect S12288x128 := Rect.unit (s := S12288x128) (k1_off2 L) S384x128.size (k1_off2_inb L)
abbrev tRect : Rect S12288x128 := Rect.unit (s := S12288x128) ![0, 0] S12288x128.size inb_S12288x128_S12288x128_0_0

variable (tV : Memref sig .scVector .hbm S12288x128 .f32) (iV : Memref sig .scVector .hbm S12288 .i32) (oV : Memref sig .scVector .hbm S12288x128 .f32)
  (sV : Memref sig .scVector .vmem S384 .i32) (rV : Memref sig .scVector .vmem S384x128 .f32)

abbrev iSl : Memref sig .scVector .hbm S384 .i32 := iV.slice (iRect L) (fun _ => rfl)
abbrev oSl : Memref sig .scVector .hbm S384x128 .f32 := oV.slice (oRect L) (fun _ => rfl)
abbrev tSl : Memref sig .scVector .hbm S12288x128 .f32 := tV.slice tRect (fun _ => rfl)

/-- Row by row, what the transfer moves is the table's named rows. -/
theorem payload_at (T T' : S12288x128.Idx → Elt F .f32) (I : S12288.Idx → Elt F .i32) (B : S384.Idx → Elt F .i32)
    (hT : ∀ y, T' y = T (tRect.idx y)) (hB : ∀ y, B y = I ((iRect L).idx y)) {hn}
    (hin : ∀ x, (B x).toNat < S12288x128.size gathers_S12288x128_S384x128.axis) (hI : ∀ x, (I x).toNat < 12288) (x : S384x128.Idx) :
    SparseCore.gatherPayload gathers_S12288x128_S384x128 T' (SparseCore.rows (si := S384) B hn hin) x = gathered T I ((oRect L).idx x) := by
  unfold SparseCore.gatherPayload gathered
  rw [hT]
  refine congrArg T (funext fun a => Fin.ext ?_)
  have e0 : ∀ y : S12288x128.Idx, ∀ a, (tRect.idx y a).val = (y a).val := fun y a => by
    rw [tRect.idx_apply]
    match a with
    | 0 => exact (congrArg (0 + ·) (Nat.one_mul _)).trans (Nat.zero_add _)
    | 1 => exact (congrArg (0 + ·) (Nat.one_mul _)).trans (Nat.zero_add _)
  rw [e0]
  match a with
  | 0 =>
    have hj : S384.rowMajor.symm (Fin.cast hn.symm (x 0)) = at1 (n := 384) (x 0) := by
      rw [Equiv.symm_apply_eq]
      exact Fin.ext (at1_rowMajor (n := 384) (x 0)).symm
    have h1 : ((gathers_S12288x128_S384x128.idx (SparseCore.rows (si := S384) B hn hin) x) 0).val = (B (at1 (n := 384) (x 0))).toNat := by
      refine (congrArg Fin.val (Shape.Gathers.idx_axis gathers_S12288x128_S384x128 (SparseCore.rows (si := S384) B hn hin) x)).trans ?_
      exact congrArg (fun j => (B j).toNat) hj
    refine h1.trans ?_
    have h3 : ((iRect L).idx (at1 (n := 384) (x 0))) = at1 (n := 12288) ((oRect L).idx x 0) := by
      funext b
      match b with
      | 0 =>
        apply Fin.ext
        refine ((iRect L).idx_apply _ _).trans (Eq.trans ?_ ((oRect L).idx_apply x 0).symm)
        have h4 : (iRect L).off 0 = (oRect L).off 0 := by
          show k1_off1 L 0 = k1_off2 L 0
          rw [k1_off1_eq, k1_off2_eq]; rfl
        exact congrArg (· + 1 * (x 0).val) h4
    rw [hB, h3]
    have h2 := hI (at1 (n := 12288) ((oRect L).idx x 0))
    exact (Nat.min_eq_left (by omega)).symm
  | 1 =>
    refine Eq.trans ?_ ((oRect L).idx_apply x 1).symm
    refine (Shape.Gathers.idx_of_ne gathers_S12288x128_S384x128 _ x 1 (by decide)).trans ?_
    have h4 : (oRect L).off 1 = 0 := congrFun (k1_off2_eq L) 1
    rw [h4]
    exact ((congrArg (0 + ·) (Nat.one_mul _)).trans (Nat.zero_add _)).symm

set_option maxRecDepth 200000 in
set_option maxHeartbeats 400000 in
theorem gather_tile (ht : tV.IsWhole) (hi : iV.IsWhole) (ho : oV.IsWhole) (hs : sV.IsWhole) (hr : rV.IsWhole) (sA sB sC : DmaSems sig S_)
    (qt qi : PosShare TreeShare)
    (fT : Buf (Elt F) (tV.view.loc (V d (cV L) (jV L)))) (fI : Buf (Elt F) (iV.view.loc (V d (cV L) (jV L)))) (fO : Buf (Elt F) (oV.view.loc (V d (cV L) (jV L))))
    (fs : Buf (Elt F) (sV.view.loc (V d (cV L) (jV L)))) (fr : Buf (Elt F) (rV.view.loc (V d (cV L) (jV L))))
    (hN : ∀ h : S12288x128.Gathers 0 S384x128, ∑ j, (rV.slice (S384x128.rowRect h.axis' j) (S384x128.stride_rowRect h.axis' j)).view.dmaCredit
      = rV.view.dmaCredit)
    (hI : ∀ x, (iV.view.read (Elt F) fI x).toNat < 12288)
    (O : CellTallies nD τ sig (HIx 3)) (W : Waits sig (HIx 3)) (hO : ∀ g, O g none = 0) :
    iprop(levAts (K (F := F)).L (K (F := F)).lev
        ∗ ((tSl tV).view.loc (V d (cV L) (jV L)) ↦[(tSl tV).view.set]{qt} fT)
        ∗ ((iSl L iV).view.loc (V d (cV L) (jV L)) ↦[(iSl L iV).view.set]{qi} fI)
        ∗ ((oSl L oV).view.loc (V d (cV L) (jV L)) ↦[(oSl L oV).view.set]{fullShare} fO)
        ∗ (sV.view.loc (V d (cV L) (jV L)) ↦[sV.view.set]{fullShare} fs)
        ∗ (rV.view.loc (V d (cV L) (jV L)) ↦[rV.view.set]{fullShare} fr)
        ∗ semVal (V d (cV L) (jV L), .dma sA.sem) 0 ∗ semVal (V d (cV L) (jV L), .dma sB.sem) 0 ∗ semVal (V d (cV L) (jV L), .dma sC.sem) 0
        ∗ owes (V d (cV L) (jV L)) O W : sProp (MM F))
      ⊢ wp frame (wpE (defs₀ (F := F)) 𝒱₀ (V d (cV L) (jV L)) none) Set.univ
          (cc1__gather_rows_body_skel L tV ht iV hi oV ho sV hs rV hr sB sA sC)
          fun _ => iprop(((tSl tV).view.loc (V d (cV L) (jV L)) ↦[(tSl tV).view.set]{qt} fT)
            ∗ ((iSl L iV).view.loc (V d (cV L) (jV L)) ↦[(iSl L iV).view.set]{qi} fI)
            ∗ (∃ f, ⌜∀ x, (oSl L oV).view.read (Elt F) f x = gathered (tV.view.read (Elt F) fT) (iV.view.read (Elt F) fI) ((oRect L).idx x)⌝
                ∗ (oSl L oV).view.loc (V d (cV L) (jV L)) ↦[(oSl L oV).view.set]{fullShare} f)
            ∗ (∃ f, sV.view.loc (V d (cV L) (jV L)) ↦[sV.view.set]{fullShare} f)
            ∗ (∃ f, rV.view.loc (V d (cV L) (jV L)) ↦[rV.view.set]{fullShare} f)
            ∗ semVal (V d (cV L) (jV L), .dma sA.sem) 0 ∗ semVal (V d (cV L) (jV L), .dma sB.sem) 0 ∗ semVal (V d (cV L) (jV L), .dma sC.sem) 0
            ∗ ∃ W', ⌜∀ p ∈ W', p ∈ W ∨ p.2 = none⌝ ∗ owes (V d (cV L) (jV L)) O W') := by
  unfold cc1__gather_rows_body_skel
  iintro ⟨#Hlv, Ht, Hi, Ho, Hs, Hr, HsemA, HsemB, HsemC, HO⟩
  ihave Hmw := (show levAts (K (F := F)).L (K (F := F)).lev ⊢ Transfers.MayWaits (V d (cV L) (jV L)) (default : HIx 3) O from
    (K (F := F)).mayWaits_none (thr := V d (cV L) (jV L)) hO) $$ Hlv
  sl_exec
  have hread : sV.view.read (Elt F) (sV.view.writes (Elt F) sV.view.junk [⟨Rect.whole S384, gather_tile.sl.dma0 d L iV fI⟩])
      = (iSl L iV).view.read (Elt F) fI := by
    exact View.read_writes_whole sV.view _ _
  have hin : ∀ x, (sV.view.read (Elt F) (sV.view.writes (Elt F) sV.view.junk [⟨Rect.whole S384, gather_tile.sl.dma0 d L iV fI⟩]) x).toNat
      < S12288x128.size gathers_S12288x128_S384x128.axis := by
    intro x
    rw [hread]
    exact lt_of_lt_of_eq (hI ((iRect L).idx x)) rows_size.symm
  iapply (SparseCore.wp_indirectGatherLocal countersEmb 𝒱₀ (V d (cV L) (jV L)) none (hg := gathers_S12288x128_S384x128) (default : HIx 3)
      rV.view.dmaCredit (hN _) block_pos hin) $$ [Ht Hr Hs HsemB]
  · isplitl [Ht]; · iexact Ht
    isplitl [Hr]; · iexact Hr
    isplitl [Hs]; · iexact Hs
    iexact HsemB
  iintro Hfl
  sl_exec
  iapply (Transfers.wp_waitLocalO countersEmb 𝒱₀ (V d (cV L) (jV L)) none (default : HIx 3) (rfl : rV.view.dmaCredit = _)) $$ [Hfl HO]
  · isplitl [Hfl]; · iexact Hfl
    isplitl [HO]; · iexact HO
    iapply (Transfers.MayWaits.elim (SemLoc.dma sB.sem)) $$ Hmw
  iintro ⟨⟨Hr, Ht, Hs⟩, HsemB, HO⟩
  sl_exec (disch := exact View.amount_pos _ _ block_pos)
  sl_step
  have hval : ∀ x, (oSl L oV).view.read (Elt F) ((oSl L oV).view.writes (Elt F) fO [⟨Rect.whole S384x128, gather_tile.sl.dma0_1 d L tV iV sV rV fT fI fr hin⟩]) x
      = gathered (tV.view.read (Elt F) fT) (iV.view.read (Elt F) fI) ((oRect L).idx x) := by
    intro x
    rw [View.read_writes_whole]
    refine (congrFun (View.read_write_univ _ _) x).trans ?_
    exact payload_at L (tV.view.read (Elt F) fT) _ _ _ (fun y => rfl) (fun y => congrFun hread y) hin hI x
  isplitl [Ht]; · iexact Ht
  isplitl [Hi]; · iexact Hi
  isplitl [Ho]
  · iexists _
    isplitr
    · ipureintro; exact hval
    iexact Ho
  isplitl [Hs]; · iexists _; iexact Hs
  isplitl [Hr]; · iexists _; iexact Hr
  isplitl [HsemA]; · iexact HsemA
  isplitl [HsemB]; · iexact HsemB
  isplitl [HsemC]; · iexact HsemC
  iexists _
  isplitr
  swap
  · iexact HO
  ipureintro
  intro p hp
  rcases Finset.mem_insert.mp hp with hp | hp
  · exact .inr (hp ▸ rfl)
  rcases Finset.mem_insert.mp hp with hp | hp
  · exact .inr (hp ▸ rfl)
  rcases Finset.mem_insert.mp hp with hp | hp
  · exact .inr (hp ▸ rfl)
  exact .inl hp

end Tile

end Cert.Proof.Moe

end
-- ==== Proof.Payload.lean ====
/-
  What the three SparseCore calls take from the TensorCore and bring back, from the contents of the arrays when they start.
-/
module

public import proofs.«01_k».proof.Proof.RouteBody
public import proofs.«01_k».proof.Proof.Gather

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## What the three calls exchange -/

section Payloads

/-- The contents of the TensorCore's arrays when a call starts, on every device. -/
abbrev Vals (F : FTy → Type) : Type := Dev nD → Valuation τ sig (Elt F)

/-- The location of one of the TensorCore's arrays. -/
abbrev tloc (d : Dev nD) (b : Ref sig .tc) : Loc nD τ sig := (SparseCore.T d).loc b

/-- The task number of a tile, from its core and its subcore. -/
def wid (c i : ℕ) : Fin 32 := ⟨(2 * i + c) % 32, Nat.mod_lt _ (by decide)⟩

theorem odiv : 32 ∣ S12288x128.size 0 := ⟨384, rfl⟩

/-- The block of the result that task `w` writes. -/
abbrev outSet (w : Fin 32) : Finset S12288x128.Idx := (Rect.part (s := S12288x128) (a₀ := 0) odiv w).set

/-- One of the TensorCore's arrays, whole, at the contents of `A`. -/
abbrev pts (A : Vals F) (d : Dev nD) (b : Ref sig .tc) : sProp (MM F) :=
  tloc d b ↦{fullShare} A d (Proc.devRef .tc b)

/-- The same with the contents given. -/
abbrev ptsAt (d : Dev nD) (b : Ref sig .tc) (f : Buf (Elt F) (tloc d b)) : sProp (MM F) :=
  tloc d b ↦{fullShare} f

/-- Routing takes the logits and the arrays of its results; only the first tile holds anything. -/
def goR (A : Vals F) (d : Dev nD) (c i : ℕ) : sProp (MM F) :=
  if c = 0 ∧ i = 0 then
    iprop(pts A d main_v26 ∗ pts A d main_v27_0 ∗ pts A d main_v27_1 ∗ pts A d main_v27_2 ∗ pts A d main_v27_3)
  else iprop(emp)

def tdR (A : Vals F) (d : Dev nD) (c i : ℕ) : sProp (MM F) :=
  if c = 0 ∧ i = 0 then
    iprop(pts A d main_v26 ∗ ptsAt (F := F) d main_v27_0 (topiOf (F := F) (A d (Proc.devRef .tc main_v26)))
      ∗ ptsAt (F := F) d main_v27_1 (destOf (F := F) (A d (Proc.devRef .tc main_v26)))
      ∗ ptsAt (F := F) d main_v27_2 (srcOf (F := F) (A d (Proc.devRef .tc main_v26)))
      ∗ ptsAt (F := F) d main_v27_3 (startOf (F := F) (A d (Proc.devRef .tc main_v26))))
  else iprop(emp)

/-- A row gather's task takes a share of the table and of the row numbers, and its block of the result. -/
def goG1 (A : Vals F) (d : Dev nD) (c i : ℕ) : sProp (MM F) :=
  iprop((tloc d main_v39 ↦{ShareLeaves.leaf 5 fullShare (wid c i)} A d (Proc.devRef .tc main_v39))
    ∗ (tloc d main_v38 ↦{ShareLeaves.leaf 5 fullShare (wid c i)} A d (Proc.devRef .tc main_v38))
    ∗ (tloc d main_v40 ↦[outSet (wid c i)]{fullShare} A d (Proc.devRef .tc main_v40)))

def tdG1 (A : Vals F) (d : Dev nD) (c i : ℕ) : sProp (MM F) :=
  iprop((tloc d main_v39 ↦{ShareLeaves.leaf 5 fullShare (wid c i)} A d (Proc.devRef .tc main_v39))
    ∗ (tloc d main_v38 ↦{ShareLeaves.leaf 5 fullShare (wid c i)} A d (Proc.devRef .tc main_v38))
    ∗ (tloc d main_v40 ↦[outSet (wid c i)]{fullShare} gathered (F := F) (A d (Proc.devRef .tc main_v39)) (A d (Proc.devRef .tc main_v38))))

instance goG1_storable (A : Vals F) (d : Dev nD) (c i : ℕ) : BI.Storable (upEmb : UEmb _ (MM F)) (goG1 A d c i) := by
  unfold goG1; infer_instance
instance tdG1_storable (A : Vals F) (d : Dev nD) (c i : ℕ) : BI.Storable (upEmb : UEmb _ (MM F)) (tdG1 A d c i) := by
  unfold tdG1; infer_instance

/-- The second row gather's task takes a share of the table and of the row numbers, and its block of the result. -/
def goG3 (A : Vals F) (d : Dev nD) (c i : ℕ) : sProp (MM F) :=
  iprop((tloc d main_v55 ↦{ShareLeaves.leaf 5 fullShare (wid c i)} A d (Proc.devRef .tc main_v55))
    ∗ (tloc d main_v54 ↦{ShareLeaves.leaf 5 fullShare (wid c i)} A d (Proc.devRef .tc main_v54))
    ∗ (tloc d main_v56 ↦[outSet (wid c i)]{fullShare} A d (Proc.devRef .tc main_v56)))

def tdG3 (A : Vals F) (d : Dev nD) (c i : ℕ) : sProp (MM F) :=
  iprop((tloc d main_v55 ↦{ShareLeaves.leaf 5 fullShare (wid c i)} A d (Proc.devRef .tc main_v55))
    ∗ (tloc d main_v54 ↦{ShareLeaves.leaf 5 fullShare (wid c i)} A d (Proc.devRef .tc main_v54))
    ∗ (tloc d main_v56 ↦[outSet (wid c i)]{fullShare} gathered (F := F) (A d (Proc.devRef .tc main_v55)) (A d (Proc.devRef .tc main_v54))))

instance goG3_storable (A : Vals F) (d : Dev nD) (c i : ℕ) : BI.Storable (upEmb : UEmb _ (MM F)) (goG3 A d c i) := by
  unfold goG3; infer_instance
instance tdG3_storable (A : Vals F) (d : Dev nD) (c i : ℕ) : BI.Storable (upEmb : UEmb _ (MM F)) (tdG3 A d c i) := by
  unfold tdG3; infer_instance

instance goR_storable (A : Vals F) (d : Dev nD) (c i : ℕ) : BI.Storable (upEmb : UEmb _ (MM F)) (goR A d c i) := by
  unfold goR; split <;> infer_instance
instance tdR_storable (A : Vals F) (d : Dev nD) (c i : ℕ) : BI.Storable (upEmb : UEmb _ (MM F)) (tdR A d c i) := by
  unfold tdR; split <;> infer_instance

/-- What each call's tasks take and bring back, from the contents when it starts. -/
def P (A0 A1 A2 : Vals F) : (K (F := F)).Pay (nD := nD) (Val := Elt F) (Name := ℕ) (U := UU) where
  st := fun q d c => match q with
    | 0 => bigSep Finset.univ fun i : Fin ((K (F := F)).nSub 0) => goR A0 d c.val i.val
    | 1 => bigSep Finset.univ fun i : Fin ((K (F := F)).nSub 1) => goG1 A1 d c.val i.val
    | 2 => bigSep Finset.univ fun i : Fin ((K (F := F)).nSub 2) => goG3 A2 d c.val i.val
  dn := fun q d c => match q with
    | 0 => bigSep Finset.univ fun i : Fin ((K (F := F)).nSub 0) => tdR A0 d c.val i.val
    | 1 => bigSep Finset.univ fun i : Fin ((K (F := F)).nSub 1) => tdG1 A1 d c.val i.val
    | 2 => bigSep Finset.univ fun i : Fin ((K (F := F)).nSub 2) => tdG3 A2 d c.val i.val
  go := fun q d c i => match q with
    | 0 => goR A0 d c.val i.val
    | 1 => goG1 A1 d c.val i.val
    | 2 => goG3 A2 d c.val i.val
  td := fun q d c i => match q with
    | 0 => tdR A0 d c.val i.val
    | 1 => tdG1 A1 d c.val i.val
    | 2 => tdG3 A2 d c.val i.val
  x := fun _ _ => iprop(emp)

instance P_storable (A0 A1 A2 : Vals F) : (P A0 A1 A2).IsStorable where
  st q d c := match q with
    | 0 => (inferInstance : BI.Storable (upEmb : UEmb _ (MM F)) (bigSep Finset.univ fun i : Fin ((K (F := F)).nSub 0) => goR A0 d c.val i.val))
    | 1 => (inferInstance : BI.Storable (upEmb : UEmb _ (MM F)) (bigSep Finset.univ fun i : Fin ((K (F := F)).nSub 1) => goG1 A1 d c.val i.val))
    | 2 => (inferInstance : BI.Storable (upEmb : UEmb _ (MM F)) (bigSep Finset.univ fun i : Fin ((K (F := F)).nSub 2) => goG3 A2 d c.val i.val))
  dn q d c := match q with
    | 0 => (inferInstance : BI.Storable (upEmb : UEmb _ (MM F)) (bigSep Finset.univ fun i : Fin ((K (F := F)).nSub 0) => tdR A0 d c.val i.val))
    | 1 => (inferInstance : BI.Storable (upEmb : UEmb _ (MM F)) (bigSep Finset.univ fun i : Fin ((K (F := F)).nSub 1) => tdG1 A1 d c.val i.val))
    | 2 => (inferInstance : BI.Storable (upEmb : UEmb _ (MM F)) (bigSep Finset.univ fun i : Fin ((K (F := F)).nSub 2) => tdG3 A2 d c.val i.val))
  go q d c i := match q with
    | 0 => (inferInstance : BI.Storable (upEmb : UEmb _ (MM F)) (goR A0 d c.val i.val))
    | 1 => (inferInstance : BI.Storable (upEmb : UEmb _ (MM F)) (goG1 A1 d c.val i.val))
    | 2 => (inferInstance : BI.Storable (upEmb : UEmb _ (MM F)) (goG3 A2 d c.val i.val))
  td q d c i := match q with
    | 0 => (inferInstance : BI.Storable (upEmb : UEmb _ (MM F)) (tdR A0 d c.val i.val))
    | 1 => (inferInstance : BI.Storable (upEmb : UEmb _ (MM F)) (tdG1 A1 d c.val i.val))
    | 2 => (inferInstance : BI.Storable (upEmb : UEmb _ (MM F)) (tdG3 A2 d c.val i.val))

end Payloads

theorem split0 (A0 A1 A2 : Vals F) : (K (F := F)).VecSplit' (P A0 A1 A2) 0 := by
  intro d c
  show (bigSep Finset.univ fun i : Fin ((K (F := F)).nSub 0) => goR A0 d c.val i.val) ⊢ |={Set.univ}=> iprop(
      (bigSep Finset.univ fun i : Fin ((K (F := F)).nSub 0) => goR A0 d c.val i.val)
      ∗ ((bigSep Finset.univ fun i : Fin ((K (F := F)).nSub 0) => tdR A0 d c.val i.val)
          -∗ (bigSep Finset.univ fun i : Fin ((K (F := F)).nSub 0) => tdR A0 d c.val i.val)))
  iintro H; imodintro
  isplitl [H]; · iexact H
  iintro H; iexact H
theorem split1 (A0 A1 A2 : Vals F) : (K (F := F)).VecSplit' (P A0 A1 A2) 1 := by
  intro d c
  show (bigSep Finset.univ fun i : Fin ((K (F := F)).nSub 1) => goG1 A1 d c.val i.val) ⊢ |={Set.univ}=> iprop(
      (bigSep Finset.univ fun i : Fin ((K (F := F)).nSub 1) => goG1 A1 d c.val i.val)
      ∗ ((bigSep Finset.univ fun i : Fin ((K (F := F)).nSub 1) => tdG1 A1 d c.val i.val)
          -∗ (bigSep Finset.univ fun i : Fin ((K (F := F)).nSub 1) => tdG1 A1 d c.val i.val)))
  iintro H; imodintro
  isplitl [H]; · iexact H
  iintro H; iexact H

theorem split2 (A0 A1 A2 : Vals F) : (K (F := F)).VecSplit' (P A0 A1 A2) 2 := by
  intro d c
  show (bigSep Finset.univ fun i : Fin ((K (F := F)).nSub 2) => goG3 A2 d c.val i.val) ⊢ |={Set.univ}=> iprop(
      (bigSep Finset.univ fun i : Fin ((K (F := F)).nSub 2) => goG3 A2 d c.val i.val)
      ∗ ((bigSep Finset.univ fun i : Fin ((K (F := F)).nSub 2) => tdG3 A2 d c.val i.val)
          -∗ (bigSep Finset.univ fun i : Fin ((K (F := F)).nSub 2) => tdG3 A2 d c.val i.val)))
  iintro H; imodintro
  isplitl [H]; · iexact H
  iintro H; iexact H

end Cert.Proof.Moe

end
-- ==== Proof.FfnRegion.lean ====
/-
  The TensorCore call as a region of @main: the relational proof data of its pipeline (what each window's buffer holds
  at each grid point), the body obligation, and what the result array holds at the end.
-/
module

public import proofs.«01_k».proof.Proof.Words
public import Idealize.ShloMosaic.Lib.Pipeline.RegionArraysT

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (pin arrRef arrRefs tblRefs RDat owesWithin)

variable {F : FTy → Type} [FloatOps F]

/-! ## The table of expert boundaries -/

/-- The table holds the boundaries `o 0 ≤ o 1 ≤ … ≤ o 8` of a partition of the rows. -/
structure OffOk (off : S9.Idx → Elt F .i32) (o : Nat → Nat) : Prop where
  word : ∀ e : S9.Idx, off e = BitVec.ofNat 32 (o (e 0).val)
  mono : ∀ e, e < 8 → o e ≤ o (e + 1)
  zero : o 0 = 0
  last : o 8 = 2048

namespace OffOk

variable {off : S9.Idx → Elt F .i32} {o : Nat → Nat} (h : OffOk off o)
include h

theorem le_of_le {a b : Nat} (hab : a ≤ b) (hb : b ≤ 8) : o a ≤ o b := by
  induction b, hab using Nat.le_induction with
  | base => exact le_rfl
  | succ n hn ih => exact (ih (by omega)).trans (h.mono n (by omega))

theorem le_2048 {a : Nat} (ha : a ≤ 8) : o a ≤ 2048 := h.last ▸ h.le_of_le ha le_rfl

end OffOk

/-- The two boundary words that a grid point reads. -/
theorem bound1_ok {off : S9.Idx → Elt F .i32} {o : Nat → Nat} (h : OffOk off o) (i : grid2.Coords) :
    bound1 (F := F) i off = BitVec.ofNat 32 (o (i 0).val) := by
  unfold bound1
  refine (h.word _).trans ?_
  congr 2
  show (k2_off1 i) 0 + 0 = (i 0).val
  unfold k2_off1
  generalize (i 0) = j
  change Fin 8 at j
  revert j; decide

theorem bound2_ok {off : S9.Idx → Elt F .i32} {o : Nat → Nat} (h : OffOk off o) (i : grid2.Coords) :
    bound2 (F := F) i off = BitVec.ofNat 32 (o ((i 0).val + 1)) := by
  unfold bound2
  refine (h.word _).trans ?_
  congr 2
  show (k2_off2 i) 0 + 0 = (i 0).val + 1
  unfold k2_off2
  generalize (i 0) = j
  change Fin 8 at j
  revert j; decide

/-! ## The chunks act on each element of the result block by itself -/

theorem overlay_congr {s : Shape} (r : Rect s) {α : Type} {X X' : s.Idx → α} {G G' : r.shape.Idx → α} (j : s.Idx)
    (hX : X j = X' j) (hG : ∀ x, r.emb x = j → G x = G' x) : r.overlay X G j = r.overlay X' G' j := by
  by_cases hj : j ∈ r.set
  · obtain ⟨x, rfl⟩ := r.exists_idx_of_mem hj
    exact (r.overlay_emb X G x).trans ((hG x rfl).trans (r.overlay_emb X' G' x).symm)
  · rw [r.overlay_of_not_mem _ _ hj, r.overlay_of_not_mem _ _ hj]; exact hX

/-- The mask's element and the bias's element beside an element of a chunk. -/
def mIdx (x : S128x768.Idx) : S128x1.Idx := fun | 0 => x 0 | 1 => ⟨0, by decide⟩
def bIdx (x : S128x768.Idx) : S1x1x768.Idx := fun | 0 => ⟨0, by decide⟩ | 1 => ⟨0, by decide⟩ | 2 => x 1

theorem mask_at (m : IVec S128x1 1) (x : S128x768.Idx) :
    broadcastTo S128x768 m broadcasts_S128x1_S128x768 x = m (mIdx x) := by
  refine broadcastTo_apply m broadcasts_S128x1_S128x768 x (mIdx x) ?_
  intro a; match a with
  | 0 => rfl
  | 1 => rfl

theorem bias_at (v77 : Vec F S1x1x768 .f32) (x : S128x768.Idx) :
    broadcastTo S128x768 (shapeCast S1x768 v77 shapeCasts_S1x1x768_S1x768) broadcasts_S1x768_S128x768 x = v77 (bIdx x) := by
  let k : S1x768.Idx := fun | 0 => ⟨0, by decide⟩ | 1 => x 1
  refine (broadcastTo_apply _ broadcasts_S1x768_S128x768 x k ?_).trans ?_
  · intro a; match a with
    | 0 => rfl
    | 1 => rfl
  · refine shapeCast_apply v77 _ k (bIdx x) ?_
    rw [Shape.rowMajor_val_three, Shape.rowMajor_val_two]; rfl

theorem pay2_at (v58 : FVec F S128x768 .f32) (m : IVec S128x1 1) (v69 : Vec F S128x768 .f32) (v77 : Vec F S1x1x768 .f32) (x : S128x768.Idx) :
    k2_pay2 v58 m v69 v77 x = if m (mIdx x) = 1#1 then FloatOps.addf (v58 x) (v77 (bIdx x)) else v69 x := by
  unfold k2_pay2 k2_pay1
  simp only [select, addf, mask_at, shapeCast_self]
  rw [bias_at]; rfl

theorem pay3_at (v58 : FVec F S128x768 .f32) (m : IVec S128x1 1) (v69 : Vec F S128x768 .f32) (x : S128x768.Idx) :
    k2_pay3 v58 m v69 x = FloatOps.addf (v69 x) (if m (mIdx x) = 1#1 then v58 x else Scalar.ofBits .f32 0x00000000#32) := by
  unfold k2_pay3 k2_pay1
  simp only [select, addf, mask_at, shapeCast_self]
  rfl

section Chunk

variable (i : grid2.Coords) {lo hi : Nat} (h : lo ≤ hi) (hh : hi ≤ 2048)
  (hw : k2_chk1 i (BitVec.ofNat 32 lo) (BitVec.ofNat 32 hi)) (G : Wins F)
  (t : Fin (k2_t1_loop (BitVec.ofNat 32 lo) (BitVec.ofNat 32 hi)).trips) (Y : S2048x768.Idx → Elt F .f32)

/-- Chunk `t`'s product. -/
abbrev prodAt : FVec F S128x768 .f32 :=
  chunkProd G (k2_off3 (BitVec.ofNat 32 lo) (BitVec.ofNat 32 hi) t) (k2_off3_inb i _ _ hw t)

include h hh

/-- An element outside chunk `t`'s rows is left alone. -/
theorem chunk_out (j : S2048x768.Idx) (hj : ¬ (cStart lo t.val ≤ (j 0).val ∧ (j 0).val < cStart lo t.val + 128)) :
    chunk i (BitVec.ofNat 32 lo) (BitVec.ofNat 32 hi) hw G t Y j = Y j := by
  have key : ∀ (o : Fin 2 → Nat) (ho : ∀ a, o a + S128x768.size a ≤ S2048x768.size a) (X : S128x768.Idx → Elt F .f32),
      o = ![cStart lo t.val, 0] → (rowsRect o ho).overlay Y X j = Y j := by
    intro o ho X e
    refine Rect.overlay_of_not_mem _ _ _ fun hm => hj ?_
    have := (Rect.mem_set_unit.mp hm) 0
    subst e; exact this
  unfold chunk
  split
  · exact key _ _ _ (off3_word h hh t)
  · split
    · exact key _ _ _ (off3_word h hh t)
    · rfl

/-- An element of chunk `t`'s rows: overwritten at the first half, added to at the second. -/
theorem chunk_in (j : S2048x768.Idx) (x : S128x768.Idx) (h0 : (j 0).val = cStart lo t.val + (x 0).val) (h1 : (j 1).val = (x 1).val) :
    chunk i (BitVec.ofNat 32 lo) (BitVec.ofNat 32 hi) hw G t Y j
      = if k2_cond1 i = 1#1 then (if upd lo hi t.val (x 0).val then FloatOps.addf (prodAt i hw G t x) (G.bp (bIdx x)) else Y j)
        else FloatOps.addf (Y j) (if upd lo hi t.val (x 0).val then prodAt i hw G t x else Scalar.ofBits .f32 0x00000000#32) := by
  have emb : ∀ (o : Fin 2 → Nat) (ho : ∀ a, o a + S128x768.size a ≤ S2048x768.size a),
      o = ![cStart lo t.val, 0] → (rowsRect o ho).emb x = j := by
    intro o ho e
    subst e
    funext a; apply Fin.ext
    match a with
    | 0 => show cStart lo t.val + 1 * (x 0).val = (j 0).val; omega
    | 1 => show 0 + 1 * (x 1).val = (j 1).val; omega
  have key : ∀ (o : Fin 2 → Nat) (ho : ∀ a, o a + S128x768.size a ≤ S2048x768.size a) (X : S128x768.Idx → Elt F .f32),
      o = ![cStart lo t.val, 0] → (rowsRect o ho).overlay Y X j = X x := by
    intro o ho X e
    have := Rect.overlay_emb (rowsRect o ho) Y X x
    rwa [emb o ho e] at this
  have hld : View.ld Y (rowsRect (k2_off3 (BitVec.ofNat 32 lo) (BitVec.ofNat 32 hi) t) (k2_off3_inb i _ _ hw t)) x = Y j :=
    congrArg Y (emb _ _ (off3_word h hh t))
  have hbp : View.ld G.bp (Rect.unit (s := S1x1x768) ![0, 0, 0] S1x1x768.size inb_S1x1x768_S1x1x768_0_0_0) (bIdx x) = G.bp (bIdx x) := by
    refine congrArg G.bp (funext fun a => Fin.ext ?_)
    match a with
    | 0 => rfl
    | 1 => rfl
    | 2 => show 0 + 1 * (x 1).val = (x 1).val; omega
  have hm : ∀ p : Prop, [Decidable p] → (BitVec.ofBool (decide p) = 1#1) = p := by
    intro p _; by_cases hp : p <;> simp [hp]
  unfold chunk
  by_cases hc : k2_cond1 i = 1#1
  · rw [dif_pos hc, if_pos hc]
    refine (key _ _ _ (off3_word h hh t)).trans ?_
    rw [pay2_at, pay8_word h hh, hld, hbp]
    simp only [hm]
    rfl
  · rw [dif_neg hc, if_neg hc, dif_pos (cond2_of_not_cond1 i hc)]
    refine (key _ _ _ (off3_word h hh t)).trans ?_
    rw [pay3_at, pay8_word h hh, hld]
    simp only [hm]
    rfl

omit h hh in
/-- Whether an element of the block lies in chunk `t`'s rows, and which element of the chunk it is. -/
theorem chunk_cases (j : S2048x768.Idx) (n : Nat) :
    (¬ (cStart lo n ≤ (j 0).val ∧ (j 0).val < cStart lo n + 128))
      ∨ ∃ x : S128x768.Idx, (j 0).val = cStart lo n + (x 0).val ∧ (j 1).val = (x 1).val := by
  by_cases hj : cStart lo n ≤ (j 0).val ∧ (j 0).val < cStart lo n + 128
  · right
    have hx : (j 0).val - cStart lo n < 128 := by omega
    exact ⟨fun | 0 => ⟨(j 0).val - cStart lo n, hx⟩ | 1 => j 1, (Nat.add_sub_cancel' hj.1).symm, rfl⟩
  · exact .inl hj

/-- A chunk's effect on an element depends on that element alone. -/
theorem chunk_congr (Y' : S2048x768.Idx → Elt F .f32) (j : S2048x768.Idx) (e : Y j = Y' j) :
    chunk i (BitVec.ofNat 32 lo) (BitVec.ofNat 32 hi) hw G t Y j = chunk i (BitVec.ofNat 32 lo) (BitVec.ofNat 32 hi) hw G t Y' j := by
  rcases chunk_cases (lo := lo) j t.val with hj | ⟨x, h0, h1⟩
  · rw [chunk_out i h hh hw G t Y j hj, chunk_out i h hh hw G t Y' j hj, e]
  · rw [chunk_in i h hh hw G t Y j x h0 h1, chunk_in i h hh hw G t Y' j x h0 h1, e]

theorem chunks_congr (Y' : S2048x768.Idx → Elt F .f32) (j : S2048x768.Idx) (e : Y j = Y' j) (n : Nat) :
    chunks i (BitVec.ofNat 32 lo) (BitVec.ofNat 32 hi) hw G n Y j = chunks i (BitVec.ofNat 32 lo) (BitVec.ofNat 32 hi) hw G n Y' j := by
  induction n with
  | zero => exact e
  | succ n ih =>
    rw [chunks, chunks]
    split
    · exact chunk_congr i h hh hw G _ _ _ j ih
    · exact ih

/-- At the first half, an element of the expert's rows is written afresh. -/
theorem chunks_fresh (Y' : S2048x768.Idx → Elt F .f32) (j : S2048x768.Idx) (hc : k2_cond1 i = 1#1) (hlo : lo ≤ (j 0).val) (hhi : (j 0).val < hi)
    (n : Nat) (hn : ((j 0).val - lo / 8 * 8) / 128 < n) :
    chunks i (BitVec.ofNat 32 lo) (BitVec.ofNat 32 hi) hw G n Y j = chunks i (BitVec.ofNat 32 lo) (BitVec.ofNat 32 hi) hw G n Y' j := by
  have hT : (k2_t1_loop (BitVec.ofNat 32 lo) (BitVec.ofNat 32 hi)).trips = nChunks lo hi := t1_trips h hh
  have hq : ((j 0).val - lo / 8 * 8) / 128 < nChunks lo hi := by unfold nChunks; omega
  induction n with
  | zero => exact absurd hn (Nat.not_lt_zero _)
  | succ n ih =>
    rw [chunks, chunks]
    split
    · next hlt =>
      by_cases he : ((j 0).val - lo / 8 * 8) / 128 = n
      · have hj : (j 0).val < 2048 := (j 0).isLt
        rcases chunk_cases (lo := lo) j n with hj' | ⟨x, h0, h1⟩
        · exfalso; apply hj'; unfold cStart uStart; omega
        · rw [chunk_in i h hh hw G ⟨n, hlt⟩ _ j x h0 h1, chunk_in i h hh hw G ⟨n, hlt⟩ _ j x h0 h1, if_pos hc, if_pos hc]
          have hu : upd lo hi n (x 0).val := by
            unfold upd; rw [← h0]; refine ⟨?_, hhi⟩; unfold uStart; omega
          rw [if_pos hu, if_pos hu]
      · exact chunk_congr i h hh hw G _ _ _ j (ih (by omega))
    · next hlt => rw [hT] at hlt; exact ih (by omega)

end Chunk

end Cert.Proof.Moe

end
-- ==== Proof.FfnSeg.lean ====
/-
  The TensorCore call as a region of @main: its pipeline's relational proof data over the contents of @main's buffers at
  its entry, the body obligation, and the region from those buffers to the same with the result array filled in.
-/
module

public import proofs.«01_k».proof.Proof.FfnRegion

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (pin arrRef arrRefs tblRefs RDat owesWithin prefHeld ucRefs)

variable {F : FTy → Type} [FloatOps F]

/-! ## The proof data -/

/-- The table's contents at entry, as the pipeline is pinned at them. -/
def admOf (V : Valuation τ sig (Elt F)) : (p : Fin 1) → (pcfgs (F := F) p).Adm :=
  fun | 0 => ⟨fun k => V (Proc.devRef .tc (pre2.ref k)), trivial⟩ | ⟨_ + 1, h⟩ => absurd h (Nat.not_lt.2 (Nat.le_add_left _ _))

/-- The table of boundaries at entry. -/
abbrev offOf (V : Valuation τ sig (Elt F)) : S9.Idx → Elt F .i32 := V (Proc.devRef .tc main_v29)

/-- The pipeline at those contents. -/
abbrev cfgV (V : Valuation τ sig (Elt F)) : Pipeline.Cfg sig Λ₀ := pin (pcfgs (F := F)) (admOf V) 0

/-- The windows' arrays at entry. -/
abbrev arrV (V : Valuation τ sig (Elt F)) (w : Fin (cfgV V).W) : ((cfgV V).win w).arr.view.ty.Contents (Elt F) :=
  V (Proc.devRef .tc (arrRef (cfgV V).spec w))

/-- The blocks that the windows hold at a grid point. -/
def winsAt (V : Valuation τ sig (Elt F)) (t : Fin (cfgV V).N) : Wins F where
  x := (((cfgV V).win 0).blk t).view.read (Elt F) (arrV V 0)
  w1 := (((cfgV V).win 1).blk t).view.read (Elt F) (arrV V 1)
  b1 := (((cfgV V).win 2).blk t).view.read (Elt F) (arrV V 2)
  w2 := (((cfgV V).win 3).blk t).view.read (Elt F) (arrV V 3)
  b2 := (((cfgV V).win 4).blk t).view.read (Elt F) (arrV V 4)
  wp := (((cfgV V).win 5).blk t).view.read (Elt F) (arrV V 5)
  bp := (((cfgV V).win 6).blk t).view.read (Elt F) (arrV V 6)

/-- The boundary words read at every grid point are admissible. -/
def OffChk (V : Valuation τ sig (Elt F)) : Prop := ∀ i : grid2.Coords, k2_chk1 i (bound1 (F := F) i (offOf V)) (bound2 (F := F) i (offOf V))

theorem offChk {V : Valuation τ sig (Elt F)} {o : Nat → Nat} (h : OffOk (offOf V) o) : OffChk V := fun i => by
  have hi : (i 0).val < 8 := (i 0).isLt
  rw [bound1_ok h, bound2_ok h]
  exact chk1_word i (h.mono _ hi) (h.le_2048 (by omega))

/-- A grid point's effect on the result block. -/
def ptStep (V : Valuation τ sig (Elt F)) (hV : OffChk V) (t : Fin (cfgV V).N) (Y : S2048x768.Idx → Elt F .f32) : S2048x768.Idx → Elt F .f32 :=
  chunks ((cfgV V).grid.coords t) (bound1 (F := F) ((cfgV V).grid.coords t) (offOf V)) (bound2 (F := F) ((cfgV V).grid.coords t) (offOf V)) (hV _) (winsAt V t)
    (k2_t1_loop (bound1 (F := F) ((cfgV V).grid.coords t) (offOf V)) (bound2 (F := F) ((cfgV V).grid.coords t) (offOf V))).trips Y

/-- The result block after the first `n` grid points. -/
def ptSteps (V : Valuation τ sig (Elt F)) (hV : OffChk V) : Nat → (S2048x768.Idx → Elt F .f32) → (S2048x768.Idx → Elt F .f32)
  | 0, Y => Y
  | n + 1, Y => if h : n < (cfgV V).N then ptStep V hV ⟨n, h⟩ (ptSteps V hV n Y) else ptSteps V hV n Y

/-- What the body leaves in a window's buffer, given what it found there. -/
def aft (V : Valuation τ sig (Elt F)) (hV : OffChk V) : (w : Fin (cfgV V).W) → Fin (cfgV V).N →
    (((cfgV V).win w).block.Idx → Elt F ((cfgV V).win w).elt) → (((cfgV V).win w).block.Idx → Elt F ((cfgV V).win w).elt) → Prop
  | 0 => fun _ Y X => X = Y
  | 1 => fun _ Y X => X = Y
  | 2 => fun _ Y X => X = Y
  | 3 => fun _ Y X => X = Y
  | 4 => fun _ Y X => X = Y
  | 5 => fun _ Y X => X = Y
  | 6 => fun _ Y X => X = Y
  | 7 => fun t Y X => X = ptStep V hV t Y
  | ⟨_ + 8, h⟩ => absurd h (Nat.not_lt.2 (Nat.le_add_left _ _))

/-- The pairs a core's waits may have recorded by its third SparseCore call. -/
def recd (d : Dev nD) : Set (SemLoc sig × HIx 3) := {p | (K (F := F)).lev (T d, p.1) p.2 ≤ 16}

/-- The relational proof data. -/
def rdat (V : Valuation τ sig (Elt F)) (hV : OffChk V) (d : Dev nD) : RDat τ (Elt F) (HIx 3) ℕ UU ℕ (cfgV V) d where
  A w := arrV V w
  after := aft V hV
  Φ _ := prefHeld pre2 d (fun _ => fullShare) (admOf V 0).1
  q _ := fullShare
  owed _ := (K (F := F)).Otc d 2
  recorded _ := recd (F := F) d

def rdats (V : Valuation τ sig (Elt F)) (hV : OffChk V) : (p : Fin 1) → (d : Dev nD) → RDat τ (Elt F) (HIx 3) ℕ UU ℕ (pin (pcfgs (F := F)) (admOf V) p) d
  | 0 => fun d => rdat V hV d
  | ⟨_ + 1, h⟩ => absurd h (Nat.not_lt.2 (Nat.le_add_left _ _))

/-! ## What the body finds -/

instance : ∀ e, Nonempty (Elt F e) := fun e => inferInstance

theorem finds_in (V : Valuation τ sig (Elt F)) (hV : OffChk V) (d : Dev nD) (w : Fin (cfgV V).W) (hw : ((cfgV V).win w).isOut = false)
    (hk : ∀ t Y X, aft V hV w t Y X → X = Y) (t : Fin (cfgV V).N) (Y) (h : (rdat V hV d).Finds w t Y) :
    ∃ g, Y = (rdat V hV d).fetched w t g :=
  (rdat V hV d).finds_in_eq_fetched w hw (fun _ _ _ => rfl) hk t Y h

theorem finds_wins (V : Valuation τ sig (Elt F)) (hV : OffChk V) (d : Dev nD) (t : Fin (cfgV V).N)
    (Y : (w : Fin (cfgV V).W) → ((cfgV V).win w).block.Idx → Elt F ((cfgV V).win w).elt) (h : ∀ w, (rdat V hV d).Finds w t (Y w)) :
    winsAt V t = ⟨Y 0, Y 1, Y 2, Y 3, Y 4, Y 5, Y 6⟩ := by
  obtain ⟨_, e0⟩ := finds_in V hV d 0 rfl (fun _ _ _ h => h) t _ (h 0)
  obtain ⟨_, e1⟩ := finds_in V hV d 1 rfl (fun _ _ _ h => h) t _ (h 1)
  obtain ⟨_, e2⟩ := finds_in V hV d 2 rfl (fun _ _ _ h => h) t _ (h 2)
  obtain ⟨_, e3⟩ := finds_in V hV d 3 rfl (fun _ _ _ h => h) t _ (h 3)
  obtain ⟨_, e4⟩ := finds_in V hV d 4 rfl (fun _ _ _ h => h) t _ (h 4)
  obtain ⟨_, e5⟩ := finds_in V hV d 5 rfl (fun _ _ _ h => h) t _ (h 5)
  obtain ⟨_, e6⟩ := finds_in V hV d 6 rfl (fun _ _ _ h => h) t _ (h 6)
  rw [e0, e1, e2, e3, e4, e5, e6]
  rfl

/-! ## The body obligation -/

/-- The table, whole, as the invariant holds it. -/
theorem prefHeld_eq (V : Valuation τ sig (Elt F)) (d : Dev nD) :
    (prefHeld pre2 d (fun _ => fullShare) (admOf V 0).1 : sProp (MM F))
      = iprop((Memref.whole main_v29 : Memref sig .tc .smem S9 .i32).view.loc (d.tc : Thread nD τ)
          ↦[(Memref.whole main_v29 : Memref sig .tc .smem S9 .i32).view.set]{fullShare} (offOf V : Buf (Elt F) _)) := by
  unfold prefHeld
  rw [bigSep_univ_eq_bigSepL [(0 : Fin 1)] (by decide) (by decide)]
  rfl

set_option maxHeartbeats 4000000 in
theorem body_obl (V : Valuation τ sig (Elt F)) (hV : OffChk V) (d : Dev nD) :
    (rdat V hV d).BodyObligation (defs₀ (F := F)) 𝒱₀ none Set.univ := by
  intro t Y hY
  have hG := finds_wins V hV d t Y hY
  rw [bigSep_W2, bigSep_W2]
  rw [show (rdat V hV d).Φ t.castSucc = prefHeld pre2 d (fun _ => fullShare) (admOf V 0).1 from rfl,
    show (rdat V hV d).Φ t.succ = prefHeld pre2 d (fun _ => fullShare) (admOf V 0).1 from rfl,
    show (rdat V hV d).owesAt none t.succ = (rdat V hV d).owesAt none t.castSucc from rfl, prefHeld_eq]
  change _ ⊢ wp _ _ _ (cc2__ffn_body (grid2.coords t) (Memref.whole main_v29) (Memref.isWhole_whole _) (spec2_0.stage ((cfgV V).slots t 0)) (hstage2_0 (((cfgV V).slots t 0).cast nbuf2_0))
    (spec2_1.stage ((cfgV V).slots t 1)) (hstage2_1 (((cfgV V).slots t 1).cast nbuf2_1)) (spec2_2.stage ((cfgV V).slots t 2)) (hstage2_2 (((cfgV V).slots t 2).cast nbuf2_2))
    (spec2_3.stage ((cfgV V).slots t 3)) (hstage2_3 (((cfgV V).slots t 3).cast nbuf2_3)) (spec2_4.stage ((cfgV V).slots t 4)) (hstage2_4 (((cfgV V).slots t 4).cast nbuf2_4))
    (spec2_5.stage ((cfgV V).slots t 5)) (hstage2_5 (((cfgV V).slots t 5).cast nbuf2_5)) (spec2_6.stage ((cfgV V).slots t 6)) (hstage2_6 (((cfgV V).slots t 6).cast nbuf2_6))
    (spec2_7.stage ((cfgV V).slots t 7)) (hstage2_7 (((cfgV V).slots t 7).cast nbuf2_7))) _
  unfold owns
  iintro ⟨Ht, HO, ⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩⟩
  iapply wp_wand $$ [Ht H0 H1 H2 H3 H4 H5 H6 H7]
  · iapply (ffn_body (F := F) (grid2.coords t) _ _ (hV _) (winsAt V t) d (Memref.whole main_v29) (Memref.isWhole_whole _)
      (spec2_0.stage ((cfgV V).slots t 0)) (hstage2_0 (((cfgV V).slots t 0).cast nbuf2_0))
      (spec2_1.stage ((cfgV V).slots t 1)) (hstage2_1 (((cfgV V).slots t 1).cast nbuf2_1)) (spec2_2.stage ((cfgV V).slots t 2)) (hstage2_2 (((cfgV V).slots t 2).cast nbuf2_2))
      (spec2_3.stage ((cfgV V).slots t 3)) (hstage2_3 (((cfgV V).slots t 3).cast nbuf2_3)) (spec2_4.stage ((cfgV V).slots t 4)) (hstage2_4 (((cfgV V).slots t 4).cast nbuf2_4))
      (spec2_5.stage ((cfgV V).slots t 5)) (hstage2_5 (((cfgV V).slots t 5).cast nbuf2_5)) (spec2_6.stage ((cfgV V).slots t 6)) (hstage2_6 (((cfgV V).slots t 6).cast nbuf2_6))
      (spec2_7.stage ((cfgV V).slots t 7)) (hstage2_7 (((cfgV V).slots t 7).cast nbuf2_7))
      (offOf V) f0 f1 f2 f3 f4 f5 f6 f7 rfl rfl (by rw [hG, ← h0, ← h1, ← h2, ← h3, ← h4, ← h5, ← h6]))
    unfold ffnInv
    isplitl [Ht]; · iexact Ht
    isplitl [H0]; · iexact H0
    isplitl [H1]; · iexact H1
    isplitl [H2]; · iexact H2
    isplitl [H3]; · iexact H3
    isplitl [H4]; · iexact H4
    isplitl [H5]; · iexact H5
    isplitl [H6]; · iexact H6
    iexists f7; isplitr; swap; · iexact H7
    ipureintro; rfl
  iintro %_ ⟨Ht, HI⟩
  unfold ffnInv
  icases HI with ⟨H0, H1, H2, H3, H4, H5, H6, %f, %hf, H7⟩
  isplitl [Ht]; · iexact Ht
  isplitl [HO]; · iexact HO
  isplitl [H0]
  · iexists (Y 0); isplitr
    · ipureintro; exact (rfl : (Y 0) = Y 0)
    · iexists f0; isplitr
      · ipureintro; exact h0
      · iexact H0
  isplitl [H1]
  · iexists (Y 1); isplitr
    · ipureintro; exact (rfl : (Y 1) = Y 1)
    · iexists f1; isplitr
      · ipureintro; exact h1
      · iexact H1
  isplitl [H2]
  · iexists (Y 2); isplitr
    · ipureintro; exact (rfl : (Y 2) = Y 2)
    · iexists f2; isplitr
      · ipureintro; exact h2
      · iexact H2
  isplitl [H3]
  · iexists (Y 3); isplitr
    · ipureintro; exact (rfl : (Y 3) = Y 3)
    · iexists f3; isplitr
      · ipureintro; exact h3
      · iexact H3
  isplitl [H4]
  · iexists (Y 4); isplitr
    · ipureintro; exact (rfl : (Y 4) = Y 4)
    · iexists f4; isplitr
      · ipureintro; exact h4
      · iexact H4
  isplitl [H5]
  · iexists (Y 5); isplitr
    · ipureintro; exact (rfl : (Y 5) = Y 5)
    · iexists f5; isplitr
      · ipureintro; exact h5
      · iexact H5
  isplitl [H6]
  · iexists (Y 6); isplitr
    · ipureintro; exact (rfl : (Y 6) = Y 6)
    · iexists f6; isplitr
      · ipureintro; exact h6
      · iexact H6
  iexists (ptStep V hV t (Y 7)); isplitr
  · ipureintro; exact (rfl : ptStep V hV t (Y 7) = ptStep V hV t (Y 7))
  · iexists f; isplitr
    · ipureintro; rw [← h7]; exact hf
    · iexact H7

end Cert.Proof.Moe

end
-- ==== Proof.FfnSum.lean ====
/-
  What the result array holds after the TensorCore call: the sixteen grid points applied in turn to whatever the block's
  buffer held, which no longer matters at the end, since every row is some expert's and is written afresh there.
-/
module

public import proofs.«01_k».proof.Proof.FfnSeg

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (pin arrRef arrRefs tblRefs RDat owesWithin prefHeld ucRefs)

variable {F : FTy → Type} [FloatOps F]

theorem coords_expert (t : Fin grid2.N) : (grid2.coords t 0).val = t.val / 2 := by
  revert t; decide

theorem coords_first (t : Fin grid2.N) : k2_cond1 (grid2.coords t) = 1#1 ↔ t.val % 2 = 0 := by
  revert t; decide

section

variable {V : Valuation τ sig (Elt F)} {o : Nat → Nat} (h : OffOk (offOf V) o) (hV : OffChk V)

include h in
/-- A grid point's effect at the boundaries as numbers. -/
theorem ptStep_word (t : Fin (cfgV V).N) (Y : S2048x768.Idx → Elt F .f32) :
    ∃ hw, ptStep V hV t Y = chunks (grid2.coords t) (BitVec.ofNat 32 (o (t.val / 2))) (BitVec.ofNat 32 (o (t.val / 2 + 1))) hw (winsAt V t)
      (nChunks (o (t.val / 2)) (o (t.val / 2 + 1))) Y := by
  have hN : t.val < 16 := lt_of_lt_of_eq t.isLt N_2
  have hlo : o (t.val / 2) ≤ o (t.val / 2 + 1) := h.mono _ (by omega)
  have hhi : o (t.val / 2 + 1) ≤ 2048 := h.le_2048 (by omega)
  have key : ∀ (v1 v4 : BitVec 32) (e1 : v1 = BitVec.ofNat 32 (o (t.val / 2))) (e4 : v4 = BitVec.ofNat 32 (o (t.val / 2 + 1)))
      (hw : k2_chk1 (grid2.coords t) v1 v4), ∃ hw', chunks (grid2.coords t) v1 v4 hw (winsAt V t) (k2_t1_loop v1 v4).trips Y
        = chunks (grid2.coords t) (BitVec.ofNat 32 (o (t.val / 2))) (BitVec.ofNat 32 (o (t.val / 2 + 1))) hw' (winsAt V t)
          (nChunks (o (t.val / 2)) (o (t.val / 2 + 1))) Y := by
    intro v1 v4 e1 e4 hw
    subst e1 e4
    exact ⟨hw, by rw [t1_trips hlo hhi]⟩
  exact key _ _ ((bound1_ok h _).trans (by rw [← coords_expert])) ((bound2_ok h _).trans (by rw [← coords_expert])) (hV _)

include h in
theorem ptStep_congr (t : Fin (cfgV V).N) (Y Y' : S2048x768.Idx → Elt F .f32) (j : S2048x768.Idx) (e : Y j = Y' j) :
    ptStep V hV t Y j = ptStep V hV t Y' j := by
  have hN : t.val < 16 := lt_of_lt_of_eq t.isLt N_2
  obtain ⟨hw, e1⟩ := ptStep_word h hV t Y
  obtain ⟨_, e2⟩ := ptStep_word h hV t Y'
  rw [e1, e2]
  exact chunks_congr _ (h.mono _ (by omega)) (h.le_2048 (by omega)) _ _ Y Y' j e _

include h in
theorem ptStep_fresh (t : Fin (cfgV V).N) (Y Y' : S2048x768.Idx → Elt F .f32) (j : S2048x768.Idx) (ht : t.val % 2 = 0)
    (hlo : o (t.val / 2) ≤ (j 0).val) (hhi : (j 0).val < o (t.val / 2 + 1)) : ptStep V hV t Y j = ptStep V hV t Y' j := by
  have hN : t.val < 16 := lt_of_lt_of_eq t.isLt N_2
  obtain ⟨hw, e1⟩ := ptStep_word h hV t Y
  obtain ⟨_, e2⟩ := ptStep_word h hV t Y'
  rw [e1, e2]
  exact chunks_fresh _ (h.mono _ (by omega)) (h.le_2048 (by omega)) _ _ Y Y' j ((coords_first t).mpr ht) hlo hhi _ (by unfold nChunks; omega)

include h in
theorem ptSteps_congr (Y Y' : S2048x768.Idx → Elt F .f32) (j : S2048x768.Idx) (n k : Nat)
    (e : ptSteps V hV n Y j = ptSteps V hV n Y' j) : ptSteps V hV (n + k) Y j = ptSteps V hV (n + k) Y' j := by
  induction k with
  | zero => exact e
  | succ k ih =>
    show ptSteps V hV ((n + k) + 1) Y j = ptSteps V hV ((n + k) + 1) Y' j
    rw [ptSteps, ptSteps]
    split
    · exact ptStep_congr h hV _ _ _ j ih
    · exact ih

omit V h hV in
/-- Every row is some expert's. -/
theorem row_expert {off : S9.Idx → Elt F .i32} (h : OffOk off o) (r : Nat) (hr : r < 2048) : ∃ e, e < 8 ∧ o e ≤ r ∧ r < o (e + 1) := by
  have h8 : r < o 8 := h.last ▸ hr
  have hex : ∃ n, r < o n := ⟨8, h8⟩
  classical
  have hn := Nat.find_spec hex
  have hle : Nat.find hex ≤ 8 := Nat.find_min' hex h8
  have hpos : Nat.find hex ≠ 0 := fun e => by rw [e, h.zero] at hn; omega
  refine ⟨Nat.find hex - 1, by omega, ?_, by rwa [Nat.sub_add_cancel (by omega)]⟩
  have := Nat.find_min hex (m := Nat.find hex - 1) (by omega)
  omega

include h in
/-- The result does not depend on what the block's buffer held. -/
theorem ptSteps_indep (Y Y' : S2048x768.Idx → Elt F .f32) : ptSteps V hV 16 Y = ptSteps V hV 16 Y' := by
  funext j
  obtain ⟨e, he, hlo, hhi⟩ := row_expert h (j 0).val (j 0).isLt
  have hN : 2 * e < (cfgV V).N := lt_of_lt_of_eq (by omega : 2 * e < 16) N_2.symm
  have : ptSteps V hV (2 * e + 1) Y j = ptSteps V hV (2 * e + 1) Y' j := by
    rw [ptSteps, ptSteps, dif_pos hN, dif_pos hN]
    have e2 : 2 * e / 2 = e := by omega
    exact ptStep_fresh h hV ⟨2 * e, hN⟩ _ _ j (by show 2 * e % 2 = 0; omega) (by show o (2 * e / 2) ≤ _; rw [e2]; exact hlo) (by show _ < o (2 * e / 2 + 1); rw [e2]; exact hhi)
  have := ptSteps_congr h hV Y Y' j (2 * e + 1) (16 - (2 * e + 1)) this
  rwa [Nat.add_sub_cancel' (by omega)] at this

end

/-- The result array after the call. -/
def ffnOut (V : Valuation τ sig (Elt F)) (hV : OffChk V) : S2048x768.Idx → Elt F .f32 := ptSteps V hV 16 (V (Proc.devRef .tc main_v45))

theorem ptSteps_step (V : Valuation τ sig (Elt F)) (hV : OffChk V) (n : Nat) (hn : n < (cfgV V).N) (Y : S2048x768.Idx → Elt F .f32) :
    ptSteps V hV (n + 1) Y = ptStep V hV ⟨n, hn⟩ (ptSteps V hV n Y) := by
  rw [ptSteps, dif_pos hn]

theorem fetch7 (V : Valuation τ sig (Elt F)) (t : Fin (cfgV V).N) : ((cfgV V).win 7).fetch t = false := by
  have : ((cfgV V).win 7).isOut = true := rfl
  unfold Pipeline.Window.fetch
  rw [this]; rfl

theorem flush7 (V : Valuation τ sig (Elt F)) (t : Fin (cfgV V).N) : ((cfgV V).win 7).flush t = true ↔ t.val = 15 := by
  have h1 : ((cfgV V).win 7).isOut = true := rfl
  have hi : ∀ t t', ((cfgV V).win 7).index t = ((cfgV V).win 7).index t' := fun _ _ => rfl
  have hN : (cfgV V).grid.N = 16 := N_2
  have := t.isLt
  unfold Pipeline.Window.flush
  rw [h1, Bool.true_and, Bool.or_eq_true, decide_eq_true_iff, decide_eq_true_iff]
  constructor
  · rintro (e | ⟨_, e⟩)
    · omega
    · exact absurd (hi _ _) e
  · intro e; left; omega

theorem leaves7 (V : Valuation τ sig (Elt F)) (hV : OffChk V) (d : Dev nD) (n : Nat) (hn : n < (cfgV V).N)
    (X) (hX : (rdat V hV d).Leaves 7 ⟨n, hn⟩ X) : ∃ Y, X = ptSteps V hV (n + 1) Y := by
  induction n generalizing X with
  | zero =>
    obtain ⟨Y, -, hY⟩ := hX
    exact ⟨Y, hY.trans (ptSteps_step V hV 0 hn Y).symm⟩
  | succ n ih =>
    obtain ⟨Y, hf, hY⟩ := hX
    rcases ((rdat V hV d).finds_of_pos (fetch7 V _) (Nat.succ_ne_zero n) Y).mp hf with hfl | hl
    · have := (flush7 V _).mp hfl
      have hN : n + 1 < 16 := lt_of_lt_of_eq hn N_2
      simp at this; omega
    · obtain ⟨Y0, e⟩ := ih (by omega) Y hl
      exact ⟨Y0, hY.trans ((congrArg (ptStep V hV ⟨n + 1, hn⟩) e).trans (ptSteps_step V hV (n + 1) hn Y0).symm)⟩

end Cert.Proof.Moe

end
-- ==== Proof.FfnCall.lean ====
/-
  The TensorCore call from @main's buffers to the same with the result array filled in, as a region of @main.
-/
module

public import proofs.«01_k».proof.Proof.FfnSum

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (pin arrRef arrRefs tblRefs RDat owesWithin prefHeld ucRefs)

variable {F : FTy → Type} [FloatOps F]

/-! ## The result array at the end -/

/-- The window on the result is the whole array. -/
theorem blk7_read (V : Valuation τ sig (Elt F)) (t : Fin (cfgV V).N) (G : S2048x768.Idx → Elt F .f32) :
    (((cfgV V).win 7).blk t).view.read (Elt F) G = G := by
  funext j
  refine congrArg G (funext fun a => Fin.ext ?_)
  revert a
  show ∀ a : Fin 2, _
  intro a
  fin_cases a
  · show 0 * 2048 + 1 * (j (0 : Fin 2)).val = (j (0 : Fin 2)).val; omega
  · show 0 * 768 + 1 * (j (1 : Fin 2)).val = (j (1 : Fin 2)).val; omega

theorem blk7_write (V : Valuation τ sig (Elt F)) (t : Fin (cfgV V).N) (G X : S2048x768.Idx → Elt F .f32) :
    (((cfgV V).win 7).blk t).view.write (Elt F) G X Finset.univ = X := by
  have := blk7_read V t ((((cfgV V).win 7).blk t).view.write (Elt F) G X Finset.univ)
  rw [← this]
  exact View.read_write_univ _ _

theorem arrAt7 (V : Valuation τ sig (Elt F)) (hV : OffChk V) {o : Nat → Nat} (h : OffOk (offOf V) o) (d : Dev nD)
    (G) (hG : (rdat V hV d).ArrAt 7 16 G) : G = ffnOut V hV := by
  have h15 : 15 < (cfgV V).N := lt_of_lt_of_eq (by omega : 15 < 16) N_2.symm
  unfold RDat.ArrAt at hG
  rw [dif_pos h15, if_pos ((flush7 V ⟨15, h15⟩).mpr rfl)] at hG
  obtain ⟨G₀, X, -, hX, e⟩ := hG
  obtain ⟨Y, eX⟩ := leaves7 V hV d 15 h15 X hX
  rw [e]
  refine (blk7_write V _ _ _).trans ?_
  refine Eq.trans ?_ (ptSteps_indep h hV Y _)
  exact eX

theorem upd_self (V : Valuation τ sig (Elt F)) (b : DevRef τ sig) (X : b.ty.Contents (Elt F)) : (Function.update V b X : Valuation τ sig (Elt F)) b = X :=
  Function.update_self (β := fun b : DevRef τ sig => b.ty.Contents (Elt F)) b X V

theorem upd_ne (V : Valuation τ sig (Elt F)) (b : DevRef τ sig) (X : b.ty.Contents (Elt F)) (b' : DevRef τ sig) (h : b' ≠ b) :
    (Function.update V b X : Valuation τ sig (Elt F)) b' = V b' :=
  Function.update_of_ne (β := fun b : DevRef τ sig => b.ty.Contents (Elt F)) h X V

/-- @main's buffers after the call. -/
abbrev ffnV (V : Valuation τ sig (Elt F)) (hV : OffChk V) : Valuation τ sig (Elt F) :=
  Function.update V (Proc.devRef .tc main_v45) (ffnOut V hV)

theorem arrAt_after (V : Valuation τ sig (Elt F)) (hV : OffChk V) {o : Nat → Nat} (h : OffOk (offOf V) o) (d : Dev nD)
    (w : Fin (cfgV V).W) (G) (hG : (rdat V hV d).ArrAt w 16 G) : G = ffnV V hV (Proc.devRef .tc (arrRef (cfgV V).spec w)) := by
  revert G hG w
  show ∀ w : Fin 8, _
  intro w
  by_cases hw : w = 7
  · subst hw; intro G hG
    refine (arrAt7 V hV h d G hG).trans ?_
    exact (upd_self V (Proc.devRef .tc main_v45) (ffnOut V hV)).symm
  · intro G hG
    have hin : (spec2 w).isOut = false := by clear hG G; revert w; decide
    have hG' : G = (rdat V hV d).A w := (congrFun ((rdat V hV d).ArrAt_in w hin 16) G).mp hG
    rw [hG']
    refine (upd_ne V (Proc.devRef .tc main_v45) (ffnOut V hV) _ ?_).symm
    intro e
    exact hw (winFacts2.arr_inj (Proc.devRef_injective _ e))

/-! ## The region -/

theorem share_full (V : Valuation τ sig (Elt F)) (hV : OffChk V) (d : Dev nD) (w : Fin (cfgV V).W) : (rdat V hV d).share w = fullShare := by
  unfold RDat.share
  split <;> rfl

/-- The arrays at some contents are the buffers behind them held at a valuation with those contents. -/
theorem arrays_held (V V' : Valuation τ sig (Elt F)) (hV : OffChk V) (d : Dev nD)
    (G : (w : Fin (cfgV V).W) → Buf (Elt F) (((cfgV V).spec w).arr.view.loc (d.tc : Thread nD τ)))
    (hG : ∀ w, G w = V' (Proc.devRef .tc (arrRef (cfgV V).spec w))) :
    (rdat V hV d).arrays G = StableHlo.held (d.tc : Thread nD τ) (arrRefs spec2) V' := by
  unfold RDat.arrays StableHlo.held arrRefs
  rw [bigSep_map, show Finset.univ.image (arrRef spec2) = Finset.univ.map ⟨arrRef spec2, winFacts2.arr_inj⟩ from (Finset.map_eq_image ⟨arrRef spec2, winFacts2.arr_inj⟩ Finset.univ).symm,
    bigSep_map]
  refine bigSep_congr fun w _ => ?_
  rw [(show ((cfgV V).spec w).arr.IsWhole from arr_whole2 w).set_eq_univ, share_full, hG]
  rfl

/-- So are the arrays as the write-backs leave them. -/
theorem arraysAt_held (V : Valuation τ sig (Elt F)) (hV : OffChk V) {o : Nat → Nat} (h : OffOk (offOf V) o) (d : Dev nD) :
    (rdat V hV d).arraysAt 16 ⊢ StableHlo.held (d.tc : Thread nD τ) (arrRefs spec2) (ffnV V hV) := by
  rw [← arrays_held V (ffnV V hV) hV d (fun w => ffnV V hV (Proc.devRef .tc (arrRef (cfgV V).spec w))) (fun _ => rfl)]
  unfold RDat.arraysAt RDat.arrays
  refine bigSep_mono fun w _ => ?_
  show (_ : sProp (MM F)) ⊢ _
  iintro ⟨%G, %hG, H⟩
  rw [arrAt_after V hV h d w G hG]
  iexact H

theorem tbl_held (V V' : Valuation τ sig (Elt F)) (d : Dev nD) (h : V' (Proc.devRef .tc main_v29) = V (Proc.devRef .tc main_v29)) :
    (prefHeld pre2 d (fun _ => fullShare) (admOf V 0).1 : sProp (MM F)) = StableHlo.held (d.tc : Thread nD τ) (tblRefs pre2) V' :=
  Pipeline.prefHeld_held pre2 preFacts2.inj d _ V' (fun k => by
    revert k; show ∀ k : Fin 1, _; intro k; fin_cases k; exact h.symm)

/-- What of the core's `owes` the call passes on. -/
def owesAt16 (d : Dev nD) : sProp (MM F) :=
  iprop(∃ W, ⌜(K (F := F)).WBelow (T d) W 16⌝ ∗ owes (T d) ((K (F := F)).Otc d 2) W)

/-- The three parts of @main's buffers that the call tells apart. -/
theorem held_parts (V : Valuation τ sig (Elt F)) (d : Dev nD) :
    (StableHlo.held (d.tc : Thread nD τ) (ucRefs τ sig) V : sProp (MM F))
      = iprop(StableHlo.held (d.tc : Thread nD τ) (arrRefs spec2) V ∗ StableHlo.held (d.tc : Thread nD τ) (tblRefs pre2) V
        ∗ StableHlo.held (d.tc : Thread nD τ) ((ucRefs τ sig \ arrRefs spec2) \ tblRefs pre2) V) := by
  rw [StableHlo.held_sub_split _ (Pipeline.arrRefs_sub_ucRefs spec2 winFacts2.arr_unscoped)]
  congr 1
  exact StableHlo.held_sub_split _ (Pipeline.tblRefs_sub_ucRefs_sdiff spec2 pre2 preFacts2.unscoped preFacts2.disj) V

theorem wbelow_bound (V : Valuation τ sig (Elt F)) (hV : OffChk V) (d : Dev nD) (n : Fin ((cfgV V).N + 1)) (W : Waits sig (HIx 3))
    (h : ∀ p ∈ W, p ∈ (rdat V hV d).bound none n) : (K (F := F)).WBelow (T d) W 16 := by
  intro p hp
  rcases h p hp with h | ⟨w, s, e⟩
  · exact h
  · rw [e]; exact Nat.zero_le _

theorem otc_none (d : Dev nD) (n : Nat) : ∀ g, (K (F := F)).Otc d n g none = 0 := by
  intro g
  by_contra hne
  have := (K (F := F)).lev_of_Otc_pos (Nat.pos_of_ne_zero hne)
  rw [SparseCore.Cfg.lev_none] at this
  omega

theorem rest_held (V : Valuation τ sig (Elt F)) (hV : OffChk V) (d : Dev nD) :
    (StableHlo.held (d.tc : Thread nD τ) ((ucRefs τ sig \ arrRefs spec2) \ tblRefs pre2) (ffnV V hV) : sProp (MM F))
      = StableHlo.held (d.tc : Thread nD τ) ((ucRefs τ sig \ arrRefs spec2) \ tblRefs pre2) V := by
  refine StableHlo.held_congr _ fun b hb => upd_ne V (Proc.devRef .tc main_v45) (ffnOut V hV) b ?_
  rintro rfl
  refine (Finset.mem_sdiff.mp (Finset.mem_sdiff.mp hb).1).2 ?_
  exact Finset.mem_map.mpr ⟨main_v45, Finset.mem_image.mpr ⟨7, Finset.mem_univ _, rfl⟩, rfl⟩

/-- The TensorCore call's region. -/
def ffnSeg (V : Valuation τ sig (Elt F)) (hV : OffChk V) {o : Nat → Nat} (h : OffOk (offOf V) o) :
    Pipeline.RDat.RegionSeg (pcfgs (F := F)) (admOf V) (rdats V hV) (none : HIx 3) (defs₀ (F := F)) 𝒱₀ (K (F := F)).L (K (F := F)).lev 0 where
  win := launch2.to₀.win
  block_pos := block_pos2
  stage_whole := stage_whole2
  K := PEmpty
  osem k := k.elim
  ho := Pipeline.OwnSemFacts.none _
  hbody d := body_obl V hV d
  hwaits d := Pipeline.RDat.cellsWaits_intro _ _ _ _ _ fun w s t => (K (F := F)).mayWait_none _ (otc_none d 2)
  pre d := iprop(StableHlo.held (d.tc : Thread nD τ) (ucRefs τ sig) V ∗ owesAt16 d)
  post d := iprop(StableHlo.held (d.tc : Thread nD τ) (ucRefs τ sig) (ffnV V hV) ∗ owesAt16 d)
  X d := iprop(emp)
  Y d := prefHeld pre2 d (fun _ => fullShare) (admOf V 0).1
  Z d := StableHlo.held (d.tc : Thread nD τ) ((ucRefs τ sig \ arrRefs spec2) \ tblRefs pre2) V
  hentry d := by
    rw [Pipeline.ownSems0_none, held_parts V d]
    show _ ⊢ |={Set.univ}=> iprop((rdat V hV d).arrays (rdat V hV d).A ∗ prefHeld pre2 d (fun _ => fullShare) (admOf V 0).1
        ∗ (rdat V hV d).owesAt none 0 ∗ emp ∗ _)
    rw [arrays_held V V hV d (rdat V hV d).A (fun _ => rfl), tbl_held V V d rfl]
    iintro ⟨⟨⟨Ha, Ht, HZ⟩, HO⟩, -, -⟩
    imodintro
    isplitl [Ha]; · iexact Ha
    isplitl [Ht]; · iexact Ht
    isplitl [HO]
    · unfold owesAt16 RDat.owesAt owesWithin
      icases HO with ⟨%W, %hW, HO⟩
      iexists W; isplitr
      · ipureintro; exact fun p hp => Or.inl (hW p hp)
      iexact HO
    isplitr; · iempintro
    iexact HZ
  hin d := by
    show _ ⊢ prefHeld pre2 d (fun _ => fullShare) (admOf V 0).1
    iintro ⟨-, H, -⟩
    iexact H
  hout d := by
    show prefHeld pre2 d (fun _ => fullShare) (admOf V 0).1 ⊢ _
    rw [Pipeline.ownSems0_none, show (Pipeline.scopedRest (pin (pcfgs (F := F)) (admOf V) 0).spec d : sProp (MM F)) = BI.emp from scopedRest2_eq ..]
    iintro H
    isplitl [H]; · iexact H
    isplitr <;> iempintro
  hexit d := by
    show iprop((rdat V hV d).arraysAt (cfgV V).N ∗ (rdat V hV d).owesAt none (Fin.last (cfgV V).N) ∗ prefHeld pre2 d (fun _ => fullShare) (admOf V 0).1 ∗ _) ⊢ _
    rw [show (rdat V hV d).arraysAt (cfgV V).N = (rdat V hV d).arraysAt 16 from congrArg _ N_2, held_parts (ffnV V hV) d, tbl_held V (ffnV V hV) d (upd_ne V (Proc.devRef .tc main_v45) (ffnOut V hV) (Proc.devRef .tc main_v29) (by decide))]
    iintro ⟨Ha, HO, Ht, HZ⟩
    imodintro
    isplitr [HO]
    · isplitl [Ha]; · iapply (arraysAt_held V hV h d) $$ Ha
      isplitl [Ht]; · iexact Ht
      rw [rest_held V hV d]
      iexact HZ
    · unfold owesAt16 RDat.owesAt owesWithin
      icases HO with ⟨%W, %hW, HO⟩
      iexists W; isplitr
      · ipureintro; exact wbelow_bound V hV d _ W hW
      iexact HO

end Cert.Proof.Moe

end
-- ==== Proof.Host.lean ====
/-
  The host operations of @main around its four calls.
-/
module

public import proofs.«01_k».proof.Proof.Payload
public import proofs.«01_k».proof.Proof.FfnCall

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The host operations of @main, in the stretches the four calls cut them into -/

/-- The operations up to the routing call. -/
abbrev ops1 : List (HloOp τ sig (Elt F)) :=
  [ StableHlo.reshape main_arg0 main_v0 (rfl : (.f32 : EltTy) = .f32) shapeCasts_S1x2048x768_S2048x768,
    StableHlo.binary main_v0 main_arg1 main_v1 ((fun l r => Host.dotGeneral dot_S2048x768_S768x8_S2048x8_1_0_0_1_n_n none l r) : (⟨S2048x768, .f32⟩ : BufTy).Contents (Elt F) → (⟨S768x8, .f32⟩ : BufTy).Contents (Elt F) → (⟨S2048x8, .f32⟩ : BufTy).Contents (Elt F)),
    StableHlo.unary main_arg2 main_v2 (broadcastInDim S1x8 ![1] bcast_S8_S1x8_1 : (⟨S8, .f32⟩ : BufTy).Contents (Elt F) → (⟨S1x8, .f32⟩ : BufTy).Contents (Elt F)),
    StableHlo.unary main_v2 main_v3 (broadcastInDim S2048x8 ![0, 1] bcast_S1x8_S2048x8_0_1 : (⟨S1x8, .f32⟩ : BufTy).Contents (Elt F) → (⟨S2048x8, .f32⟩ : BufTy).Contents (Elt F)),
    StableHlo.binary main_arg9 main_v3 main_v4 (mulf : (⟨S2048x8, .f32⟩ : BufTy).Contents (Elt F) → (⟨S2048x8, .f32⟩ : BufTy).Contents (Elt F) → (⟨S2048x8, .f32⟩ : BufTy).Contents (Elt F)),
    StableHlo.binary main_v1 main_v4 main_v5 (addf : (⟨S2048x8, .f32⟩ : BufTy).Contents (Elt F) → (⟨S2048x8, .f32⟩ : BufTy).Contents (Elt F) → (⟨S2048x8, .f32⟩ : BufTy).Contents (Elt F)),
    StableHlo.nullary main_cst (constant S_ .f32 0xFF800000#32),
    StableHlo.binary main_v1 main_cst main_v6 ((fun x v => Host.reduce FloatOps.maximumf x v reducesTo_S2048x8_S2048_d1 h_S_) : (⟨S2048x8, .f32⟩ : BufTy).Contents (Elt F) → (⟨S_, .f32⟩ : BufTy).Contents (Elt F) → (⟨S2048, .f32⟩ : BufTy).Contents (Elt F)),
    StableHlo.nullary main_cst_0 (constant S_ .f32 0xFF800000#32),
    StableHlo.unary main_cst_0 main_v7 (broadcastInDim S2048 ![] bcast_S_S2048 : (⟨S_, .f32⟩ : BufTy).Contents (Elt F) → (⟨S2048, .f32⟩ : BufTy).Contents (Elt F)),
    StableHlo.binary main_v7 main_v6 main_v8 (maximumf : (⟨S2048, .f32⟩ : BufTy).Contents (Elt F) → (⟨S2048, .f32⟩ : BufTy).Contents (Elt F) → (⟨S2048, .f32⟩ : BufTy).Contents (Elt F)),
    StableHlo.unary main_v8 main_v9 (broadcastInDim S2048x1 ![0] bcast_S2048_S2048x1_0 : (⟨S2048, .f32⟩ : BufTy).Contents (Elt F) → (⟨S2048x1, .f32⟩ : BufTy).Contents (Elt F)),
    StableHlo.unary main_v9 main_v10 (broadcastInDim S2048x8 ![0, 1] bcast_S2048x1_S2048x8_0_1 : (⟨S2048x1, .f32⟩ : BufTy).Contents (Elt F) → (⟨S2048x8, .f32⟩ : BufTy).Contents (Elt F)),
    StableHlo.binary main_v1 main_v10 main_v11 (subf : (⟨S2048x8, .f32⟩ : BufTy).Contents (Elt F) → (⟨S2048x8, .f32⟩ : BufTy).Contents (Elt F) → (⟨S2048x8, .f32⟩ : BufTy).Contents (Elt F)),
    StableHlo.unary main_v11 main_v12 (Host.exp : (⟨S2048x8, .f32⟩ : BufTy).Contents (Elt F) → (⟨S2048x8, .f32⟩ : BufTy).Contents (Elt F)),
    StableHlo.nullary main_cst_1 (constant S_ .f32 0x00000000#32),
    StableHlo.binary main_v12 main_cst_1 main_v13 ((fun x v => Host.reduceAdd x v reducesTo_S2048x8_S2048_d1 h_S_) : (⟨S2048x8, .f32⟩ : BufTy).Contents (Elt F) → (⟨S_, .f32⟩ : BufTy).Contents (Elt F) → (⟨S2048, .f32⟩ : BufTy).Contents (Elt F)),
    StableHlo.unary main_v13 main_v14 (broadcastInDim S2048x1 ![0] bcast_S2048_S2048x1_0 : (⟨S2048, .f32⟩ : BufTy).Contents (Elt F) → (⟨S2048x1, .f32⟩ : BufTy).Contents (Elt F)),
    StableHlo.unary main_v14 main_v15 (broadcastInDim S2048x8 ![0, 1] bcast_S2048x1_S2048x8_0_1 : (⟨S2048x1, .f32⟩ : BufTy).Contents (Elt F) → (⟨S2048x8, .f32⟩ : BufTy).Contents (Elt F)),
    StableHlo.binary main_v12 main_v15 main_v16 (Host.divf : (⟨S2048x8, .f32⟩ : BufTy).Contents (Elt F) → (⟨S2048x8, .f32⟩ : BufTy).Contents (Elt F) → (⟨S2048x8, .f32⟩ : BufTy).Contents (Elt F)),
    StableHlo.nullary main_cst_2 (constant S_ .f32 0x00000000#32),
    StableHlo.binary main_v16 main_cst_2 main_v17 ((fun x v => Host.reduceAdd x v reducesTo_S2048x8_S8_d0 h_S_) : (⟨S2048x8, .f32⟩ : BufTy).Contents (Elt F) → (⟨S_, .f32⟩ : BufTy).Contents (Elt F) → (⟨S8, .f32⟩ : BufTy).Contents (Elt F)),
    StableHlo.nullary main_cst_3 (constant S_ .f32 0x45000000#32),
    StableHlo.unary main_cst_3 main_v18 (broadcastInDim S8 ![] bcast_S_S8 : (⟨S_, .f32⟩ : BufTy).Contents (Elt F) → (⟨S8, .f32⟩ : BufTy).Contents (Elt F)),
    StableHlo.binary main_v17 main_v18 main_v19 (Host.divf : (⟨S8, .f32⟩ : BufTy).Contents (Elt F) → (⟨S8, .f32⟩ : BufTy).Contents (Elt F) → (⟨S8, .f32⟩ : BufTy).Contents (Elt F)),
    StableHlo.nullary main_cst_4 (constant S_ .f32 0x3E000000#32),
    StableHlo.unary main_cst_4 main_v20 (broadcastInDim S8 ![] bcast_S_S8 : (⟨S_, .f32⟩ : BufTy).Contents (Elt F) → (⟨S8, .f32⟩ : BufTy).Contents (Elt F)),
    StableHlo.binary main_v19 main_v20 main_v21 (subf : (⟨S8, .f32⟩ : BufTy).Contents (Elt F) → (⟨S8, .f32⟩ : BufTy).Contents (Elt F) → (⟨S8, .f32⟩ : BufTy).Contents (Elt F)),
    StableHlo.binary main_v21 main_v21 main_v22 (mulf : (⟨S8, .f32⟩ : BufTy).Contents (Elt F) → (⟨S8, .f32⟩ : BufTy).Contents (Elt F) → (⟨S8, .f32⟩ : BufTy).Contents (Elt F)),
    StableHlo.nullary main_cst_5 (constant S_ .f32 0x00000000#32),
    StableHlo.binary main_v22 main_cst_5 main_v23 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.nullary main_cst_6 (constant S_ .f32 0x41000000#32),
    StableHlo.binary main_v23 main_cst_6 main_v24 (Host.divf : (⟨S_, .f32⟩ : BufTy).Contents (Elt F) → (⟨S_, .f32⟩ : BufTy).Contents (Elt F) → (⟨S_, .f32⟩ : BufTy).Contents (Elt F)),
    StableHlo.nullary main_cst_7 (constant S_ .f32 0x3C23D70A#32),
    StableHlo.binary main_v24 main_cst_7 main_v25 (mulf : (⟨S_, .f32⟩ : BufTy).Contents (Elt F) → (⟨S_, .f32⟩ : BufTy).Contents (Elt F) → (⟨S_, .f32⟩ : BufTy).Contents (Elt F)),
    StableHlo.unary main_v5 main_v26 ((transpose S8x2048 [1, 0] · transposes_S2048x8_S8x2048_1_0) : (⟨S2048x8, .f32⟩ : BufTy).Contents (Elt F) → (⟨S8x2048, .f32⟩ : BufTy).Contents (Elt F)) ]

set_option maxRecDepth 8192 in
theorem ops1_sub : (ops1 : List (HloOp τ sig (Elt F))).Forall fun op => op.bufs ⊆ StableHlo.tcRefs τ sig :=
  ⟨StableHlo.reshape_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.unary_bufs_sub ..⟩

theorem ops1_fresh : (ops1 : List (HloOp τ sig (Elt F))).Forall fun op => op.fresh = ∅ :=
  StableHlo.forall_fresh_of_map rfl

/-- The operations between the routing call and the first row gather. -/
abbrev ops2 : List (HloOp τ sig (Elt F)) :=
  [ StableHlo.unary main_v27_3 main_v28 ((extractStridedSlice S9 ![0] · slices_S16_S9_0) : (⟨S16, .i32⟩ : BufTy).Contents (Elt F) → (⟨S9, .i32⟩ : BufTy).Contents (Elt F)),
    StableHlo.nullary main_c (constantI S_ 32 0#32),
    StableHlo.nullary main_c_8 (constantI S_ 32 2048#32),
    StableHlo.TRef.unary (.of main_c) main_call0.v0 id,
    StableHlo.TRef.unary main_call0.v0 main_call0.v1 (broadcastInDim S9 ![] bcast_S_S9),
    StableHlo.TRef.binary main_call0.v1 (.of main_v28) main_call0.v2 maxsi,
    StableHlo.TRef.unary (.of main_c_8) main_call0.v3 id,
    StableHlo.TRef.unary main_call0.v3 main_call0.v4 (broadcastInDim S9 ![] bcast_S_S9),
    StableHlo.TRef.binary main_call0.v4 main_call0.v2 main_call0.v5 minsi,
    StableHlo.unary main_v27_2 main_v30 (broadcastInDim S2048x1 ![0] bcast_S2048_S2048x1_0 : (⟨S2048, .i32⟩ : BufTy).Contents (Elt F) → (⟨S2048x1, .i32⟩ : BufTy).Contents (Elt F)),
    StableHlo.nullary main_c_9 (constantI S_ 32 6#32),
    StableHlo.unary main_c_9 main_v31 (broadcastInDim S2048x1 ![] bcast_S_S2048x1 : (⟨S_, .i32⟩ : BufTy).Contents (Elt F) → (⟨S2048x1, .i32⟩ : BufTy).Contents (Elt F)),
    StableHlo.binary main_v30 main_v31 main_v32 (muli : (⟨S2048x1, .i32⟩ : BufTy).Contents (Elt F) → (⟨S2048x1, .i32⟩ : BufTy).Contents (Elt F) → (⟨S2048x1, .i32⟩ : BufTy).Contents (Elt F)),
    StableHlo.nullary main_v33 (iotaInDim S6 32 0),
    StableHlo.unary main_v33 main_v34 (broadcastInDim S1x6 ![1] bcast_S6_S1x6_1 : (⟨S6, .i32⟩ : BufTy).Contents (Elt F) → (⟨S1x6, .i32⟩ : BufTy).Contents (Elt F)),
    StableHlo.unary main_v32 main_v35 (broadcastInDim S2048x6 ![0, 1] bcast_S2048x1_S2048x6_0_1 : (⟨S2048x1, .i32⟩ : BufTy).Contents (Elt F) → (⟨S2048x6, .i32⟩ : BufTy).Contents (Elt F)),
    StableHlo.unary main_v34 main_v36 (broadcastInDim S2048x6 ![0, 1] bcast_S1x6_S2048x6_0_1 : (⟨S1x6, .i32⟩ : BufTy).Contents (Elt F) → (⟨S2048x6, .i32⟩ : BufTy).Contents (Elt F)),
    StableHlo.binary main_v35 main_v36 main_v37 (addi : (⟨S2048x6, .i32⟩ : BufTy).Contents (Elt F) → (⟨S2048x6, .i32⟩ : BufTy).Contents (Elt F) → (⟨S2048x6, .i32⟩ : BufTy).Contents (Elt F)),
    StableHlo.reshape main_v37 main_v38 (rfl : (.i32 : EltTy) = .i32) shapeCasts_S2048x6_S12288,
    StableHlo.reshape main_v0 main_v39 (rfl : (.f32 : EltTy) = .f32) shapeCasts_S2048x768_S12288x128 ]

set_option maxRecDepth 8192 in
theorem ops2_sub : (ops2 : List (HloOp τ sig (Elt F))).Forall fun op => op.bufs ⊆ StableHlo.tcRefs τ sig :=
  ⟨StableHlo.unary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.reshape_bufs_sub ..⟩

theorem ops2_fresh : (ops2 : List (HloOp τ sig (Elt F))).Forall fun op => op.fresh = ∅ :=
  StableHlo.forall_fresh_of_map rfl

/-- The operations between the first row gather and the FFN. -/
abbrev ops3 : List (HloOp τ sig (Elt F)) :=
  [ StableHlo.reshape main_v40 main_v41 (rfl : (.f32 : EltTy) = .f32) shapeCasts_S12288x128_S2048x768,
    StableHlo.reshape main_arg4 main_v42 (rfl : (.f32 : EltTy) = .f32) shapeCasts_S8x3072_S8x1x3072,
    StableHlo.reshape main_arg6 main_v43 (rfl : (.f32 : EltTy) = .f32) shapeCasts_S8x3072_S8x1x3072,
    StableHlo.reshape main_arg8 main_v44 (rfl : (.f32 : EltTy) = .f32) shapeCasts_S8x768_S8x1x768 ]

set_option maxRecDepth 8192 in
theorem ops3_sub : (ops3 : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub ..⟩

theorem ops3_fresh : (ops3 : List (HloOp τ sig (Elt F))).Forall fun op => op.fresh = ∅ :=
  StableHlo.forall_fresh_of_map rfl

/-- The operations between the FFN and the second row gather. -/
abbrev ops4 : List (HloOp τ sig (Elt F)) :=
  [ StableHlo.unary main_v27_1 main_v46 (broadcastInDim S2048x1 ![0] bcast_S2048_S2048x1_0 : (⟨S2048, .i32⟩ : BufTy).Contents (Elt F) → (⟨S2048x1, .i32⟩ : BufTy).Contents (Elt F)),
    StableHlo.nullary main_c_10 (constantI S_ 32 6#32),
    StableHlo.unary main_c_10 main_v47 (broadcastInDim S2048x1 ![] bcast_S_S2048x1 : (⟨S_, .i32⟩ : BufTy).Contents (Elt F) → (⟨S2048x1, .i32⟩ : BufTy).Contents (Elt F)),
    StableHlo.binary main_v46 main_v47 main_v48 (muli : (⟨S2048x1, .i32⟩ : BufTy).Contents (Elt F) → (⟨S2048x1, .i32⟩ : BufTy).Contents (Elt F) → (⟨S2048x1, .i32⟩ : BufTy).Contents (Elt F)),
    StableHlo.nullary main_v49 (iotaInDim S6 32 0),
    StableHlo.unary main_v49 main_v50 (broadcastInDim S1x6 ![1] bcast_S6_S1x6_1 : (⟨S6, .i32⟩ : BufTy).Contents (Elt F) → (⟨S1x6, .i32⟩ : BufTy).Contents (Elt F)),
    StableHlo.unary main_v48 main_v51 (broadcastInDim S2048x6 ![0, 1] bcast_S2048x1_S2048x6_0_1 : (⟨S2048x1, .i32⟩ : BufTy).Contents (Elt F) → (⟨S2048x6, .i32⟩ : BufTy).Contents (Elt F)),
    StableHlo.unary main_v50 main_v52 (broadcastInDim S2048x6 ![0, 1] bcast_S1x6_S2048x6_0_1 : (⟨S1x6, .i32⟩ : BufTy).Contents (Elt F) → (⟨S2048x6, .i32⟩ : BufTy).Contents (Elt F)),
    StableHlo.binary main_v51 main_v52 main_v53 (addi : (⟨S2048x6, .i32⟩ : BufTy).Contents (Elt F) → (⟨S2048x6, .i32⟩ : BufTy).Contents (Elt F) → (⟨S2048x6, .i32⟩ : BufTy).Contents (Elt F)),
    StableHlo.reshape main_v53 main_v54 (rfl : (.i32 : EltTy) = .i32) shapeCasts_S2048x6_S12288,
    StableHlo.reshape main_v45 main_v55 (rfl : (.f32 : EltTy) = .f32) shapeCasts_S2048x768_S12288x128 ]

set_option maxRecDepth 8192 in
theorem ops4_sub : (ops4 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.reshape_bufs_sub ..⟩

theorem ops4_fresh : (ops4 : List (HloOp τ sig (Elt F))).Forall fun op => op.fresh = ∅ :=
  StableHlo.forall_fresh_of_map rfl

/-- The operations after the second row gather. -/
abbrev ops5 : List (HloOp τ sig (Elt F)) :=
  [ StableHlo.reshape main_v56 main_v57 (rfl : (.f32 : EltTy) = .f32) shapeCasts_S12288x128_S2048x768,
    StableHlo.reshape main_v57 main_v58 (rfl : (.f32 : EltTy) = .f32) shapeCasts_S2048x768_S1x2048x768,
    StableHlo.unary main_v27_0 main_v59 (broadcastInDim S2048x1 ![0] bcast_S2048_S2048x1_0 : (⟨S2048, .i32⟩ : BufTy).Contents (Elt F) → (⟨S2048x1, .i32⟩ : BufTy).Contents (Elt F)) ]

set_option maxRecDepth 8192 in
theorem ops5_sub : (ops5 : List (HloOp τ sig (Elt F))).Forall fun op => op.bufs ⊆ StableHlo.tcRefs τ sig :=
  ⟨StableHlo.reshape_bufs_sub .., StableHlo.reshape_bufs_sub .., StableHlo.unary_bufs_sub ..⟩

theorem ops5_fresh : (ops5 : List (HloOp τ sig (Elt F))).Forall fun op => op.fresh = ∅ :=
  StableHlo.forall_fresh_of_map rfl

set_option maxRecDepth 16384 in
set_option maxHeartbeats 8000000 in
/-- @main is those stretches with the calls between. -/
theorem main_eq (d : Dev nD) : main (F := F) d
    = (StableHlo.seq ops1 >>= fun _ => ((K (F := F)).run d 0 >>= fun _ => (StableHlo.seq ops2 >>= fun _ => ((K (F := F)).run d 1 >>= fun _ =>
      (StableHlo.seq ops3 >>= fun _ => (Prog.lift (.customCall (SparseCore.inner (Pipeline.entry 0)) ()) >>= fun _ => (StableHlo.seq ops4 >>= fun _ => ((K (F := F)).run d 2 >>= fun _ =>
      (StableHlo.seq ops5 >>= fun _ => pure ⟨⟩))))))))) := rfl

end Cert.Proof.Moe

end
-- ==== Proof.GatherTasks.lean ====
/-
  The tasks of the two row gathers, one tile each: from the task of one tile over the buffers.
-/
module

public import proofs.«01_k».proof.Proof.Payload

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The places of the blocks -/

theorem wid_lt {c i : ℕ} (hc : c < 2) (hi : i < 16) : (wid c i).val = 2 * i + c := Nat.mod_eq_of_lt (by omega)

theorem oRect_eq (L : grid1.Coords) : oRect L = Rect.part (s := S12288x128) (a₀ := 0) odiv (wid (L 0).val (L 1).val) := by
  have h0 : (L 0).val < 2 := (L 0).isLt
  have h1 : (L 1).val < 16 := (L 1).isLt
  have hw := wid_lt h0 h1
  unfold oRect Rect.part Rect.block
  congr 1 <;> funext a
  · rw [k1_off2_eq]
    match a with
    | 0 => simp [Shape.partIx, Shape.partSize, hw]; omega
    | 1 => simp [Shape.partIx, Shape.partSize]
  · match a with
    | 0 => simp [Shape.partSize]
    | 1 => simp [Shape.partSize]

theorem obl_post {thr : Thread nD τ} {A B C : sProp (MM F)} {O : CellTallies nD τ sig (HIx 3)} {W : Waits sig (HIx 3)} {q : Fin 3} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-! ## The first row gather -/

section Gather1

variable (d : Dev nD) (L : grid1.Coords)

abbrev g1t : Memref sig .scVector .hbm S12288x128 .f32 := Memref.whole main_v39_scv
abbrev g1i : Memref sig .scVector .hbm S12288 .i32 := Memref.whole main_v38_scv
abbrev g1o : Memref sig .scVector .hbm S12288x128 .f32 := Memref.whole main_v40_scv
abbrev g1s : Memref sig .scVector .vmem S384 .i32 := Memref.whole cc1_scratch0
abbrev g1r : Memref sig .scVector .vmem S384x128 .f32 := Memref.whole cc1_scratch1

abbrev g1A (d : Dev nD) (c : Fin τ.nSC) (i : Fin τ.nSub) : GSem nD τ sig := (V d c i, .dma cc1_scoped0.sem)
abbrev g1B (d : Dev nD) (c : Fin τ.nSC) (i : Fin τ.nSub) : GSem nD τ sig := (V d c i, .dma cc1_scratch2.sem)
abbrev g1C (d : Dev nD) (c : Fin τ.nSC) (i : Fin τ.nSub) : GSem nD τ sig := (V d c i, .dma cc1_scoped1.sem)

theorem ownSems0_gather1 (c : Fin τ.nSC) (i : Fin τ.nSub) :
    (ownSems0 (V d c i) : sProp (MM F))
      = iprop(semVal (g1A d c i) 0 ∗ semVal (g1B d c i) 0 ∗ semVal (g1C d c i) 0
          ∗ bigSep ((((ownCells (V d c i)).erase (g1A d c i)).erase (g1B d c i)).erase (g1C d c i)) fun g => semVal g 0) := by
  unfold SparseCore.Cfg.ownSems0
  rw [SparseCore.bigSep_erase' ((mem_ownCells (g := g1A d c i)).mpr ⟨rfl, by
      show (SemLoc.dma cc1_scoped0.sem : SemLoc sig).isScoped .scVector = true; decide⟩),
    SparseCore.bigSep_erase' (Finset.mem_erase.mpr ⟨by simp [g1A, g1B]; decide, (mem_ownCells (g := g1B d c i)).mpr ⟨rfl, by
      show (SemLoc.dma cc1_scratch2.sem : SemLoc sig).isScoped .scVector = true; decide⟩⟩),
    SparseCore.bigSep_erase' (Finset.mem_erase.mpr ⟨by simp [g1B, g1C]; decide, Finset.mem_erase.mpr ⟨by simp [g1A, g1C]; decide,
      (mem_ownCells (g := g1C d c i)).mpr ⟨rfl, by show (SemLoc.dma cc1_scoped1.sem : SemLoc sig).isScoped .scVector = true; decide⟩⟩⟩)]

theorem ownBufs_gather1 (c : Fin τ.nSC) (i : Fin τ.nSub) :
    (ownBufs (V d c i) : sProp (MM F))
      = iprop((∃ f, (V d c i).loc cc1_scratch0 ↦{fullShare} f) ∗ (∃ f, (V d c i).loc cc1_scratch1 ↦{fullShare} f)
          ∗ bigSep (((ownRefs (τ := τ) (.scVector c i)).erase ((Proc.scVector c i).devRef cc1_scratch0)).erase
              ((Proc.scVector c i).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector c i) (b := (Proc.scVector c i).devRef cc1_scratch1) rfl⟩)]

theorem set_g1o : (oSl L g1o).view.set = outSet (wid (L 0).val (L 1).val) := by
  show ((View.whole (main_v40_scv : Ref sig .scVector)).slice (oRect L)).set = _
  rw [View.set_slice, oRect_eq]; exact Finset.map_refl

theorem g1_credit : ∀ h : S12288x128.Gathers 0 S384x128, ∑ j, (g1r.slice (S384x128.rowRect h.axis' j) (S384x128.stride_rowRect h.axis' j)).view.dmaCredit
    = g1r.view.dmaCredit := by decide +kernel

theorem g1_skel : cc1__gather_rows_body (F := F) = cc1__gather_rows_body_skel := rfl

set_option maxRecDepth 16384 in
set_option maxHeartbeats 1000000 in
/-- A tile's task in this gather. -/
theorem gather1_body (A : Vals F) (hI : ∀ d x, (show BitVec 32 from A d (Proc.devRef .tc main_v38) x).toNat < 12288)
    (O : CellTallies nD τ sig (HIx 3)) (W : Waits sig (HIx 3)) (hO : ∀ g, O g none = 0) :
    iprop(levAts (K (F := F)).L (K (F := F)).lev ∗ emp ∗ goG1 A d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__gather_rows_body L g1t (Memref.isWhole_whole _) g1i (Memref.isWhole_whole _) g1o (Memref.isWhole_whole _)
            g1s (Memref.isWhole_whole _) g1r (Memref.isWhole_whole _) cc1_scratch2 cc1_scoped0 cc1_scoped1)
          fun _ => iprop(tdG1 A d (L 0).val (L 1).val
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V facts d (cV L) (jV L), SparseCore.Cfg.scopedSems0_V (Val := Elt F) d (cV L) (jV L), ownSems0_gather1, ownBufs_gather1]
  unfold goG1 tdG1
  iintro ⟨#Hlv, -, ⟨Ht, Hi, Ho⟩, ⟨⟨%fs, Hs⟩, ⟨%fr, Hr⟩, Hbufs⟩, ⟨HsA, HsB, HsC, Hsems⟩, HO⟩
  ihave Ht' := (pointsTo_split_subset (ℓ := tloc d main_v39) (q := ShareLeaves.leaf 5 fullShare (wid (L 0).val (L 1).val))
    (f := A d (Proc.devRef .tc main_v39)) (S := Finset.univ) (Finset.subset_univ (tSl g1t).view.set)).1 $$ Ht
  icases Ht' with ⟨Ht, Htr⟩
  ihave Hi' := (pointsTo_split_subset (ℓ := tloc d main_v38) (q := ShareLeaves.leaf 5 fullShare (wid (L 0).val (L 1).val))
    (f := A d (Proc.devRef .tc main_v38)) (S := Finset.univ) (Finset.subset_univ (iSl L g1i).view.set)).1 $$ Hi
  icases Hi' with ⟨Hi, Hir⟩
  have hp : ∀ g : Buf (Elt F) (tloc d main_v40), ((tloc d main_v40 ↦[outSet (wid (L 0).val (L 1).val)]{fullShare} g : sProp (MM F)))
      = (oSl L g1o).view.loc (V d (cV L) (jV L)) ↦[(oSl L g1o).view.set]{fullShare} g := fun g => by rw [set_g1o]
  have hps : ∀ g : Buf (Elt F) ((V d (cV L) (jV L)).loc cc1_scratch0), ((V d (cV L) (jV L)).loc cc1_scratch0 ↦{fullShare} g : sProp (MM F))
      = g1s.view.loc (V d (cV L) (jV L)) ↦[g1s.view.set]{fullShare} g := fun g => by rw [show g1s.view.set = Finset.univ from View.set_whole _]
  have hpr : ∀ g : Buf (Elt F) ((V d (cV L) (jV L)).loc cc1_scratch1), ((V d (cV L) (jV L)).loc cc1_scratch1 ↦{fullShare} g : sProp (MM F))
      = g1r.view.loc (V d (cV L) (jV L)) ↦[g1r.view.set]{fullShare} g := fun g => by rw [show g1r.view.set = Finset.univ from View.set_whole _]
  ihave Ho' := (Entails.of_eq (hp _)) $$ Ho
  ihave Hs' := (Entails.of_eq (hps _)) $$ Hs
  ihave Hr' := (Entails.of_eq (hpr _)) $$ Hr
  iapply wp_wand $$ [Ht Hi Ho' Hs' Hr' HsA HsB HsC HO]
  · iapply (gather_tile (F := F) d L g1t g1i g1o g1s g1r (Memref.isWhole_whole _) (Memref.isWhole_whole _) (Memref.isWhole_whole _)
      (Memref.isWhole_whole _) (Memref.isWhole_whole _) cc1_scoped0 cc1_scratch2 cc1_scoped1
      (ShareLeaves.leaf 5 fullShare (wid (L 0).val (L 1).val)) (ShareLeaves.leaf 5 fullShare (wid (L 0).val (L 1).val))
      (A d (Proc.devRef .tc main_v39)) (A d (Proc.devRef .tc main_v38)) (A d (Proc.devRef .tc main_v40)) fs fr g1_credit
      (fun x => hI d x) O W hO)
    isplitr; · iexact Hlv
    isplitl [Ht]; · iexact Ht
    isplitl [Hi]; · iexact Hi
    isplitl [Ho']; · iexact Ho'
    isplitl [Hs']; · iexact Hs'
    isplitl [Hr']; · iexact Hr'
    isplitl [HsA]; · iexact HsA
    isplitl [HsB]; · iexact HsB
    isplitl [HsC]; · iexact HsC
    iexact HO
  iintro %_ ⟨Ht, Hi, ⟨%f, %hf, Ho⟩, ⟨%fs', Hs⟩, ⟨%fr', Hr⟩, HsA, HsB, HsC, HO⟩
  ihave Hs' := (Entails.of_eq (hps fs').symm) $$ Hs
  ihave Hr' := (Entails.of_eq (hpr fr').symm) $$ Hr
  ihave Ho' := (Entails.of_eq (hp f).symm) $$ Ho
  have hv : ∀ i ∈ outSet (wid (L 0).val (L 1).val), f i = gathered (F := F) (A d (Proc.devRef .tc main_v39)) (A d (Proc.devRef .tc main_v38)) i := by
    intro i hi
    have hi' : i ∈ (oRect L).set := by rw [oRect_eq]; exact hi
    obtain ⟨x, rfl⟩ := (oRect L).exists_idx_of_mem hi'
    exact hf x
  ihave Ho'' := (Entails.of_eq (pointsTo_congr (ℓ := tloc d main_v40) (q := fullShare) hv)) $$ Ho'
  ihave Ht' := (pointsTo_split_subset (ℓ := tloc d main_v39) (q := ShareLeaves.leaf 5 fullShare (wid (L 0).val (L 1).val))
    (f := A d (Proc.devRef .tc main_v39)) (S := Finset.univ) (Finset.subset_univ (tSl g1t).view.set)).2 $$ [Ht Htr]
  · isplitl [Ht]; · iexact Ht
    iexact Htr
  ihave Hi' := (pointsTo_split_subset (ℓ := tloc d main_v38) (q := ShareLeaves.leaf 5 fullShare (wid (L 0).val (L 1).val))
    (f := A d (Proc.devRef .tc main_v38)) (S := Finset.univ) (Finset.subset_univ (iSl L g1i).view.set)).2 $$ [Hi Hir]
  · isplitl [Hi]; · iexact Hi
    iexact Hir
  isplitl [Ht' Hi' Ho'']
  · isplitl [Ht']; · iexact Ht'
    isplitl [Hi']; · iexact Hi'
    iexact Ho''
  isplitl [Hs' Hr' Hbufs]
  · isplitl [Hs']
    · iexists fs'; iexact Hs'
    isplitl [Hr']
    · iexists fr'; iexact Hr'
    iexact Hbufs
  isplitl [HsA HsB HsC Hsems]
  · isplitl [HsA]; · iexact HsA
    isplitl [HsB]; · iexact HsB
    isplitl [HsC]; · iexact HsC
    iexact Hsems
  iexact HO

def coordsG1 (c : Fin (grid1.bound 0)) (s : Fin (grid1.bound 1)) : grid1.Coords :=
  fun | 0 => c | 1 => s | ⟨_ + 2, h⟩ => absurd h (Nat.not_lt.2 (Nat.le_add_left _ _))

theorem defs₀_gather1 (c : Fin τ.nSC) (s : Fin τ.nSub) :
    defs₀ (F := F) (.scVector c s) 1 ()
      = SparseCore.onTile hcore1 hsub1 (fun c s => cc1__gather_rows_body (coordsG1 c s)
          g1t (Memref.isWhole_whole _) g1i (Memref.isWhole_whole _) g1o (Memref.isWhole_whole _)
          g1s (Memref.isWhole_whole _) g1r (Memref.isWhole_whole _) cc1_scratch2 cc1_scoped0 cc1_scoped1) ⟨⟩ c s := rfl

set_option maxRecDepth 16384 in
theorem obl_gather1 (A0 A1 A2 : Vals F) (hI : ∀ d x, (show BitVec 32 from A1 d (Proc.devRef .tc main_v38) x).toNat < 12288) :
    (K (F := F)).TileObl (D (F := F)) 𝒱 (P A0 A1 A2) v₀ 1 := by
  intro d c i O W hO _ _
  simp only [show (P A0 A1 A2).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_gather1]; simp only [SparseCore.onTile, hci, and_self, ↓reduceDIte]
  exact (gather1_body d (coordsG1 ⟨_, hci.1⟩ ⟨_, hci.2⟩) A1 hI O W hO).trans (wp_mono frame _ _ fun _ => obl_post)

end Gather1

/-! ## The second row gather -/

section Gather3

variable (d : Dev nD) (L : grid1.Coords)

abbrev g3t : Memref sig .scVector .hbm S12288x128 .f32 := Memref.whole main_v55_scv
abbrev g3i : Memref sig .scVector .hbm S12288 .i32 := Memref.whole main_v54_scv
abbrev g3o : Memref sig .scVector .hbm S12288x128 .f32 := Memref.whole main_v56_scv
abbrev g3s : Memref sig .scVector .vmem S384 .i32 := Memref.whole cc3_scratch0
abbrev g3r : Memref sig .scVector .vmem S384x128 .f32 := Memref.whole cc3_scratch1

abbrev g3A (d : Dev nD) (c : Fin τ.nSC) (i : Fin τ.nSub) : GSem nD τ sig := (V d c i, .dma cc3_scoped0.sem)
abbrev g3B (d : Dev nD) (c : Fin τ.nSC) (i : Fin τ.nSub) : GSem nD τ sig := (V d c i, .dma cc3_scratch2.sem)
abbrev g3C (d : Dev nD) (c : Fin τ.nSC) (i : Fin τ.nSub) : GSem nD τ sig := (V d c i, .dma cc3_scoped1.sem)

theorem ownSems0_gather3 (c : Fin τ.nSC) (i : Fin τ.nSub) :
    (ownSems0 (V d c i) : sProp (MM F))
      = iprop(semVal (g3A d c i) 0 ∗ semVal (g3B d c i) 0 ∗ semVal (g3C d c i) 0
          ∗ bigSep ((((ownCells (V d c i)).erase (g3A d c i)).erase (g3B d c i)).erase (g3C d c i)) fun g => semVal g 0) := by
  unfold SparseCore.Cfg.ownSems0
  rw [SparseCore.bigSep_erase' ((mem_ownCells (g := g3A d c i)).mpr ⟨rfl, by
      show (SemLoc.dma cc3_scoped0.sem : SemLoc sig).isScoped .scVector = true; decide⟩),
    SparseCore.bigSep_erase' (Finset.mem_erase.mpr ⟨by simp [g3A, g3B]; decide, (mem_ownCells (g := g3B d c i)).mpr ⟨rfl, by
      show (SemLoc.dma cc3_scratch2.sem : SemLoc sig).isScoped .scVector = true; decide⟩⟩),
    SparseCore.bigSep_erase' (Finset.mem_erase.mpr ⟨by simp [g3B, g3C]; decide, Finset.mem_erase.mpr ⟨by simp [g3A, g3C]; decide,
      (mem_ownCells (g := g3C d c i)).mpr ⟨rfl, by show (SemLoc.dma cc3_scoped1.sem : SemLoc sig).isScoped .scVector = true; decide⟩⟩⟩)]

theorem ownBufs_gather3 (c : Fin τ.nSC) (i : Fin τ.nSub) :
    (ownBufs (V d c i) : sProp (MM F))
      = iprop((∃ f, (V d c i).loc cc3_scratch0 ↦{fullShare} f) ∗ (∃ f, (V d c i).loc cc3_scratch1 ↦{fullShare} f)
          ∗ bigSep (((ownRefs (τ := τ) (.scVector c i)).erase ((Proc.scVector c i).devRef cc3_scratch0)).erase
              ((Proc.scVector c i).devRef cc3_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := Proc.scVector c i) (b := (Proc.scVector c i).devRef cc3_scratch1) rfl⟩)]

theorem set_g3o : (oSl L g3o).view.set = outSet (wid (L 0).val (L 1).val) := by
  show ((View.whole (main_v56_scv : Ref sig .scVector)).slice (oRect L)).set = _
  rw [View.set_slice, oRect_eq]; exact Finset.map_refl

theorem g3_credit : ∀ h : S12288x128.Gathers 0 S384x128, ∑ j, (g3r.slice (S384x128.rowRect h.axis' j) (S384x128.stride_rowRect h.axis' j)).view.dmaCredit
    = g3r.view.dmaCredit := by decide +kernel

theorem g3_skel : cc3__gather_rows_body (F := F) = cc3__gather_rows_body_skel := rfl

set_option maxRecDepth 16384 in
set_option maxHeartbeats 1000000 in
/-- A tile's task in this gather. -/
theorem gather3_body (A : Vals F) (hI : ∀ d x, (show BitVec 32 from A d (Proc.devRef .tc main_v54) x).toNat < 12288)
    (O : CellTallies nD τ sig (HIx 3)) (W : Waits sig (HIx 3)) (hO : ∀ g, O g none = 0) :
    iprop(levAts (K (F := F)).L (K (F := F)).lev ∗ emp ∗ goG3 A d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3__gather_rows_body (show grid3.Coords from L) g3t (Memref.isWhole_whole _) g3i (Memref.isWhole_whole _) g3o (Memref.isWhole_whole _)
            g3s (Memref.isWhole_whole _) g3r (Memref.isWhole_whole _) cc3_scratch2 cc3_scoped0 cc3_scoped1)
          fun _ => iprop(tdG3 A d (L 0).val (L 1).val
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V facts d (cV L) (jV L), SparseCore.Cfg.scopedSems0_V (Val := Elt F) d (cV L) (jV L), ownSems0_gather3, ownBufs_gather3]
  unfold goG3 tdG3
  iintro ⟨#Hlv, -, ⟨Ht, Hi, Ho⟩, ⟨⟨%fs, Hs⟩, ⟨%fr, Hr⟩, Hbufs⟩, ⟨HsA, HsB, HsC, Hsems⟩, HO⟩
  ihave Ht' := (pointsTo_split_subset (ℓ := tloc d main_v55) (q := ShareLeaves.leaf 5 fullShare (wid (L 0).val (L 1).val))
    (f := A d (Proc.devRef .tc main_v55)) (S := Finset.univ) (Finset.subset_univ (tSl g3t).view.set)).1 $$ Ht
  icases Ht' with ⟨Ht, Htr⟩
  ihave Hi' := (pointsTo_split_subset (ℓ := tloc d main_v54) (q := ShareLeaves.leaf 5 fullShare (wid (L 0).val (L 1).val))
    (f := A d (Proc.devRef .tc main_v54)) (S := Finset.univ) (Finset.subset_univ (iSl L g3i).view.set)).1 $$ Hi
  icases Hi' with ⟨Hi, Hir⟩
  have hp : ∀ g : Buf (Elt F) (tloc d main_v56), ((tloc d main_v56 ↦[outSet (wid (L 0).val (L 1).val)]{fullShare} g : sProp (MM F)))
      = (oSl L g3o).view.loc (V d (cV L) (jV L)) ↦[(oSl L g3o).view.set]{fullShare} g := fun g => by rw [set_g3o]
  have hps : ∀ g : Buf (Elt F) ((V d (cV L) (jV L)).loc cc3_scratch0), ((V d (cV L) (jV L)).loc cc3_scratch0 ↦{fullShare} g : sProp (MM F))
      = g3s.view.loc (V d (cV L) (jV L)) ↦[g3s.view.set]{fullShare} g := fun g => by rw [show g3s.view.set = Finset.univ from View.set_whole _]
  have hpr : ∀ g : Buf (Elt F) ((V d (cV L) (jV L)).loc cc3_scratch1), ((V d (cV L) (jV L)).loc cc3_scratch1 ↦{fullShare} g : sProp (MM F))
      = g3r.view.loc (V d (cV L) (jV L)) ↦[g3r.view.set]{fullShare} g := fun g => by rw [show g3r.view.set = Finset.univ from View.set_whole _]
  ihave Ho' := (Entails.of_eq (hp _)) $$ Ho
  ihave Hs' := (Entails.of_eq (hps _)) $$ Hs
  ihave Hr' := (Entails.of_eq (hpr _)) $$ Hr
  iapply wp_wand $$ [Ht Hi Ho' Hs' Hr' HsA HsB HsC HO]
  · iapply (gather_tile (F := F) d L g3t g3i g3o g3s g3r (Memref.isWhole_whole _) (Memref.isWhole_whole _) (Memref.isWhole_whole _)
      (Memref.isWhole_whole _) (Memref.isWhole_whole _) cc3_scoped0 cc3_scratch2 cc3_scoped1
      (ShareLeaves.leaf 5 fullShare (wid (L 0).val (L 1).val)) (ShareLeaves.leaf 5 fullShare (wid (L 0).val (L 1).val))
      (A d (Proc.devRef .tc main_v55)) (A d (Proc.devRef .tc main_v54)) (A d (Proc.devRef .tc main_v56)) fs fr g3_credit
      (fun x => hI d x) O W hO)
    isplitr; · iexact Hlv
    isplitl [Ht]; · iexact Ht
    isplitl [Hi]; · iexact Hi
    isplitl [Ho']; · iexact Ho'
    isplitl [Hs']; · iexact Hs'
    isplitl [Hr']; · iexact Hr'
    isplitl [HsA]; · iexact HsA
    isplitl [HsB]; · iexact HsB
    isplitl [HsC]; · iexact HsC
    iexact HO
  iintro %_ ⟨Ht, Hi, ⟨%f, %hf, Ho⟩, ⟨%fs', Hs⟩, ⟨%fr', Hr⟩, HsA, HsB, HsC, HO⟩
  ihave Hs' := (Entails.of_eq (hps fs').symm) $$ Hs
  ihave Hr' := (Entails.of_eq (hpr fr').symm) $$ Hr
  ihave Ho' := (Entails.of_eq (hp f).symm) $$ Ho
  have hv : ∀ i ∈ outSet (wid (L 0).val (L 1).val), f i = gathered (F := F) (A d (Proc.devRef .tc main_v55)) (A d (Proc.devRef .tc main_v54)) i := by
    intro i hi
    have hi' : i ∈ (oRect L).set := by rw [oRect_eq]; exact hi
    obtain ⟨x, rfl⟩ := (oRect L).exists_idx_of_mem hi'
    exact hf x
  ihave Ho'' := (Entails.of_eq (pointsTo_congr (ℓ := tloc d main_v56) (q := fullShare) hv)) $$ Ho'
  ihave Ht' := (pointsTo_split_subset (ℓ := tloc d main_v55) (q := ShareLeaves.leaf 5 fullShare (wid (L 0).val (L 1).val))
    (f := A d (Proc.devRef .tc main_v55)) (S := Finset.univ) (Finset.subset_univ (tSl g3t).view.set)).2 $$ [Ht Htr]
  · isplitl [Ht]; · iexact Ht
    iexact Htr
  ihave Hi' := (pointsTo_split_subset (ℓ := tloc d main_v54) (q := ShareLeaves.leaf 5 fullShare (wid (L 0).val (L 1).val))
    (f := A d (Proc.devRef .tc main_v54)) (S := Finset.univ) (Finset.subset_univ (iSl L g3i).view.set)).2 $$ [Hi Hir]
  · isplitl [Hi]; · iexact Hi
    iexact Hir
  isplitl [Ht' Hi' Ho'']
  · isplitl [Ht']; · iexact Ht'
    isplitl [Hi']; · iexact Hi'
    iexact Ho''
  isplitl [Hs' Hr' Hbufs]
  · isplitl [Hs']
    · iexists fs'; iexact Hs'
    isplitl [Hr']
    · iexists fr'; iexact Hr'
    iexact Hbufs
  isplitl [HsA HsB HsC Hsems]
  · isplitl [HsA]; · iexact HsA
    isplitl [HsB]; · iexact HsB
    isplitl [HsC]; · iexact HsC
    iexact Hsems
  iexact HO

def coordsG3 (c : Fin (grid3.bound 0)) (s : Fin (grid3.bound 1)) : grid3.Coords :=
  fun | 0 => c | 1 => s | ⟨_ + 2, h⟩ => absurd h (Nat.not_lt.2 (Nat.le_add_left _ _))

theorem defs₀_gather3 (c : Fin τ.nSC) (s : Fin τ.nSub) :
    defs₀ (F := F) (.scVector c s) 3 ()
      = SparseCore.onTile hcore3 hsub3 (fun c s => cc3__gather_rows_body (coordsG3 c s)
          g3t (Memref.isWhole_whole _) g3i (Memref.isWhole_whole _) g3o (Memref.isWhole_whole _)
          g3s (Memref.isWhole_whole _) g3r (Memref.isWhole_whole _) cc3_scratch2 cc3_scoped0 cc3_scoped1) ⟨⟩ c s := rfl

set_option maxRecDepth 16384 in
theorem obl_gather3 (A0 A1 A2 : Vals F) (hI : ∀ d x, (show BitVec 32 from A2 d (Proc.devRef .tc main_v54) x).toNat < 12288) :
    (K (F := F)).TileObl (D (F := F)) 𝒱 (P A0 A1 A2) v₀ 2 := by
  intro d c i O W hO _ _
  simp only [show (P A0 A1 A2).ox = fun _ _ => 0 from rfl, add_zero]
  have hci : ((K (F := F)).core 2 c).val < grid3.bound 0 ∧ ((K (F := F)).sub 2 i).val < grid3.bound 1 := ⟨c.isLt, i.isLt⟩
  change _ ⊢ wp _ _ _ (Pipeline.liftProg (defs₀ (F := F) (.scVector ((K (F := F)).core 2 c) ((K (F := F)).sub 2 i)) 3 ())) _
  refine BI.Entails.trans ?_ (Pipeline.wp_liftProg (D (F := F)) (Pipeline.defs_kernel pcfgs defs₀) 𝒱₀ _ Set.univ none _ _)
  rw [defs₀_gather3]; simp only [SparseCore.onTile, hci, and_self, ↓reduceDIte]
  exact (gather3_body d (coordsG3 ⟨_, hci.1⟩ ⟨_, hci.2⟩) A2 hI O W hO).trans (wp_mono frame _ _ fun _ => obl_post)

end Gather3

end Cert.Proof.Moe

end
-- ==== Proof.RouteTask.lean ====
/-
  The routing call: the task of its one working tile, and of the others, which do nothing.
-/
module

public import proofs.«01_k».proof.Proof.Payload

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## Routing: one tile does the work, the others nothing -/

section RouteTask

variable (d : Dev nD) (L : grid0.Coords)

abbrev m2 : Memref sig .scVector .hbm S8x2048 .f32 := Memref.whole main_v26_scv
abbrev m3 : Memref sig .scVector .hbm S2048 .i32 := Memref.whole main_v27_0_scv
abbrev m4 : Memref sig .scVector .hbm S2048 .i32 := Memref.whole main_v27_1_scv
abbrev m5 : Memref sig .scVector .hbm S2048 .i32 := Memref.whole main_v27_2_scv
abbrev m6 : Memref sig .scVector .hbm S16 .i32 := Memref.whole main_v27_3_scv
abbrev m7 : Memref sig .scVector .vmem S8x2048 .f32 := Memref.whole cc0_scratch0
abbrev m8 : Memref sig .scVector .vmem S2048 .i32 := Memref.whole cc0_scratch1
abbrev m9 : Memref sig .scVector .vmem S2048 .i32 := Memref.whole cc0_scratch2
abbrev m10 : Memref sig .scVector .vmem S2048 .i32 := Memref.whole cc0_scratch3
abbrev m11 : Memref sig .scVector .vmem S16 .i32 := Memref.whole cc0_scratch4
abbrev m12 : Memref sig .scVector .vmem S16 .i32 := Memref.whole cc0_scratch5

abbrev r0A (d : Dev nD) (c : Fin τ.nSC) (i : Fin τ.nSub) : GSem nD τ sig := (V d c i, .dma cc0_scoped0.sem)
abbrev r0B (d : Dev nD) (c : Fin τ.nSC) (i : Fin τ.nSub) : GSem nD τ sig := (V d c i, .dma cc0_scoped1.sem)
abbrev r0C (d : Dev nD) (c : Fin τ.nSC) (i : Fin τ.nSub) : GSem nD τ sig := (V d c i, .dma cc0_scoped2.sem)
abbrev r0D (d : Dev nD) (c : Fin τ.nSC) (i : Fin τ.nSub) : GSem nD τ sig := (V d c i, .dma cc0_scoped3.sem)
abbrev r0E (d : Dev nD) (c : Fin τ.nSC) (i : Fin τ.nSub) : GSem nD τ sig := (V d c i, .dma cc0_scoped4.sem)

theorem ownSems0_route (c : Fin τ.nSC) (i : Fin τ.nSub) :
    (ownSems0 (V d c i) : sProp (MM F))
      = iprop(semVal (r0A d c i) 0 ∗ semVal (r0B d c i) 0 ∗ semVal (r0C d c i) 0 ∗ semVal (r0D d c i) 0 ∗ semVal (r0E d c i) 0
          ∗ bigSep ((((((ownCells (V d c i)).erase (r0A d c i)).erase (r0B d c i)).erase (r0C d c i)).erase (r0D d c i)).erase (r0E d c i)) fun g => semVal g 0) := by
  unfold SparseCore.Cfg.ownSems0
  rw [SparseCore.bigSep_erase' ((mem_ownCells (g := r0A d c i)).mpr ⟨rfl, by show (SemLoc.dma cc0_scoped0.sem : SemLoc sig).isScoped .scVector = true; decide⟩),
    SparseCore.bigSep_erase' (Finset.mem_erase.mpr ⟨by simp [r0A, r0B]; decide, (mem_ownCells (g := r0B d c i)).mpr ⟨rfl, by show (SemLoc.dma cc0_scoped1.sem : SemLoc sig).isScoped .scVector = true; decide⟩⟩),
    SparseCore.bigSep_erase' (Finset.mem_erase.mpr ⟨by simp [r0B, r0C]; decide, Finset.mem_erase.mpr ⟨by simp [r0A, r0C]; decide, (mem_ownCells (g := r0C d c i)).mpr ⟨rfl, by show (SemLoc.dma cc0_scoped2.sem : SemLoc sig).isScoped .scVector = true; decide⟩⟩⟩),
    SparseCore.bigSep_erase' (Finset.mem_erase.mpr ⟨by simp [r0C, r0D]; decide, Finset.mem_erase.mpr ⟨by simp [r0B, r0D]; decide, Finset.mem_erase.mpr ⟨by simp [r0A, r0D]; decide, (mem_ownCells (g := r0D d c i)).mpr ⟨rfl, by show (SemLoc.dma cc0_scoped3.sem : SemLoc sig).isScoped .scVector = true; decide⟩⟩⟩⟩),
    SparseCore.bigSep_erase' (Finset.mem_erase.mpr ⟨by simp [r0D, r0E]; decide, Finset.mem_erase.mpr ⟨by simp [r0C, r0E]; decide, Finset.mem_erase.mpr ⟨by simp [r0B, r0E]; decide, Finset.mem_erase.mpr ⟨by simp [r0A, r0E]; decide, (mem_ownCells (g := r0E d c i)).mpr ⟨rfl, by show (SemLoc.dma cc0_scoped4.sem : SemLoc sig).isScoped .scVector = true; decide⟩⟩⟩⟩⟩)]

theorem ownBufs_route (c : Fin τ.nSC) (i : Fin τ.nSub) :
    (ownBufs (V d c i) : sProp (MM F))
      = iprop((∃ f, (V d c i).loc cc0_scratch0 ↦{fullShare} f) ∗ (∃ f, (V d c i).loc cc0_scratch1 ↦{fullShare} f) ∗ (∃ f, (V d c i).loc cc0_scratch2 ↦{fullShare} f) ∗ (∃ f, (V d c i).loc cc0_scratch3 ↦{fullShare} f) ∗ (∃ f, (V d c i).loc cc0_scratch4 ↦{fullShare} f) ∗ (∃ f, (V d c i).loc cc0_scratch5 ↦{fullShare} f)
          ∗ bigSep (((((((ownRefs (τ := τ) (.scVector c i)).erase ((Proc.scVector c i).devRef cc0_scratch0)).erase ((Proc.scVector c i).devRef cc0_scratch1)).erase ((Proc.scVector c i).devRef cc0_scratch2)).erase ((Proc.scVector c i).devRef cc0_scratch3)).erase ((Proc.scVector c i).devRef cc0_scratch4)).erase ((Proc.scVector c i).devRef cc0_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector c i) (b := ((Proc.scVector c i).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector c i) (b := ((Proc.scVector c i).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector c i) (b := ((Proc.scVector c i).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector c i) (b := ((Proc.scVector c i).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector c i) (b := ((Proc.scVector c i).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector c i) (b := ((Proc.scVector c i).devRef cc0_scratch5)) rfl⟩⟩⟩⟩⟩)]

theorem cond1_iff : k0_cond1 L = 1#1 ↔ (L 0).val = 0 ∧ (L 1).val = 0 := by
  unfold k0_cond1
  generalize L 0 = a
  generalize L 1 = b
  change Fin 2 at a
  change Fin 16 at b
  revert a b
  decide

theorem obl_post' {thr : Thread nD τ} {A B C : sProp (MM F)} {O : CellTallies nD τ sig (HIx 3)} {W : Waits sig (HIx 3)} {q : Fin 3} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
set_option maxHeartbeats 1000000 in
/-- A tile's task in the routing call. -/
theorem route_body (A : Vals F)
    (O : CellTallies nD τ sig (HIx 3)) (W : Waits sig (HIx 3)) (hO : ∀ g, O g none = 0) :
    iprop(levAts (K (F := F)).L (K (F := F)).lev ∗ emp ∗ goR A d (L 0).val (L 1).val
        ∗ scopedBufs (V d (c0V L) (j0V L)) ∗ scopedSems0 (V d (c0V L) (j0V L)) ∗ owes (V d (c0V L) (j0V L)) O W)
      ⊢ wp frame (wpE (defs₀ (F := F)) 𝒱₀ (V d (c0V L) (j0V L)) none) Set.univ
          (cc0__route_body L m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _)
            cc0_scoped0 cc0_scoped1 cc0_scoped2 cc0_scoped3 cc0_scoped4)
          fun _ => iprop(tdR A d (L 0).val (L 1).val
            ∗ scopedBufs (V d (c0V L) (j0V L)) ∗ scopedSems0 (V d (c0V L) (j0V L))
            ∗ ∃ W', ⌜∀ p ∈ W', p ∈ W ∨ p.2 = none⌝ ∗ owes (V d (c0V L) (j0V L)) O W') := by
  rw [(K (F := F)).scopedBufs_V facts d (c0V L) (j0V L), SparseCore.Cfg.scopedSems0_V (Val := Elt F) d (c0V L) (j0V L), ownSems0_route, ownBufs_route]
  rw [cc0__route_body_eq_skeleton]
  unfold goR tdR
  by_cases hc : k0_cond1 L = 1#1
  · rw [if_pos ((cond1_iff L).mp hc), if_pos ((cond1_iff L).mp hc)]
    iintro ⟨#Hlv, -, ⟨Ha0, Ha1, Ha2, Ha3, Ha4⟩, ⟨⟨%f0, Hb0⟩, ⟨%f1, Hb1⟩, ⟨%f2, Hb2⟩, ⟨%f3, Hb3⟩, ⟨%f4, Hb4⟩, ⟨%f5, Hb5⟩, Hbufs⟩, ⟨Hs0, Hs1, Hs2, Hs3, Hs4, Hsems⟩, HO⟩
    have hp0 : ∀ g : Buf (Elt F) ((V d (c0V L) (j0V L)).loc cc0_scratch0), ((V d (c0V L) (j0V L)).loc cc0_scratch0 ↦{fullShare} g : sProp (MM F))
        = m7.view.loc (V d (c0V L) (j0V L)) ↦[m7.view.set]{fullShare} g := fun g => by rw [show m7.view.set = Finset.univ from View.set_whole _]
    have hp1 : ∀ g : Buf (Elt F) ((V d (c0V L) (j0V L)).loc cc0_scratch1), ((V d (c0V L) (j0V L)).loc cc0_scratch1 ↦{fullShare} g : sProp (MM F))
        = m8.view.loc (V d (c0V L) (j0V L)) ↦[m8.view.set]{fullShare} g := fun g => by rw [show m8.view.set = Finset.univ from View.set_whole _]
    have hp2 : ∀ g : Buf (Elt F) ((V d (c0V L) (j0V L)).loc cc0_scratch2), ((V d (c0V L) (j0V L)).loc cc0_scratch2 ↦{fullShare} g : sProp (MM F))
        = m9.view.loc (V d (c0V L) (j0V L)) ↦[m9.view.set]{fullShare} g := fun g => by rw [show m9.view.set = Finset.univ from View.set_whole _]
    have hp3 : ∀ g : Buf (Elt F) ((V d (c0V L) (j0V L)).loc cc0_scratch3), ((V d (c0V L) (j0V L)).loc cc0_scratch3 ↦{fullShare} g : sProp (MM F))
        = m10.view.loc (V d (c0V L) (j0V L)) ↦[m10.view.set]{fullShare} g := fun g => by rw [show m10.view.set = Finset.univ from View.set_whole _]
    have hp4 : ∀ g : Buf (Elt F) ((V d (c0V L) (j0V L)).loc cc0_scratch4), ((V d (c0V L) (j0V L)).loc cc0_scratch4 ↦{fullShare} g : sProp (MM F))
        = m11.view.loc (V d (c0V L) (j0V L)) ↦[m11.view.set]{fullShare} g := fun g => by rw [show m11.view.set = Finset.univ from View.set_whole _]
    have hp5 : ∀ g : Buf (Elt F) ((V d (c0V L) (j0V L)).loc cc0_scratch5), ((V d (c0V L) (j0V L)).loc cc0_scratch5 ↦{fullShare} g : sProp (MM F))
        = m12.view.loc (V d (c0V L) (j0V L)) ↦[m12.view.set]{fullShare} g := fun g => by rw [show m12.view.set = Finset.univ from View.set_whole _]
    have ha0 : ∀ g : Buf (Elt F) (tloc d main_v26), (tloc d main_v26 ↦{fullShare} g : sProp (MM F))
        = m2.view.loc (V d (c0V L) (j0V L)) ↦[m2.view.set]{fullShare} g := fun g => by rw [show m2.view.set = Finset.univ from View.set_whole _]
    have ha1 : ∀ g : Buf (Elt F) (tloc d main_v27_0), (tloc d main_v27_0 ↦{fullShare} g : sProp (MM F))
        = m3.view.loc (V d (c0V L) (j0V L)) ↦[m3.view.set]{fullShare} g := fun g => by rw [show m3.view.set = Finset.univ from View.set_whole _]
    have ha2 : ∀ g : Buf (Elt F) (tloc d main_v27_1), (tloc d main_v27_1 ↦{fullShare} g : sProp (MM F))
        = m4.view.loc (V d (c0V L) (j0V L)) ↦[m4.view.set]{fullShare} g := fun g => by rw [show m4.view.set = Finset.univ from View.set_whole _]
    have ha3 : ∀ g : Buf (Elt F) (tloc d main_v27_2), (tloc d main_v27_2 ↦{fullShare} g : sProp (MM F))
        = m5.view.loc (V d (c0V L) (j0V L)) ↦[m5.view.set]{fullShare} g := fun g => by rw [show m5.view.set = Finset.univ from View.set_whole _]
    have ha4 : ∀ g : Buf (Elt F) (tloc d main_v27_3), (tloc d main_v27_3 ↦{fullShare} g : sProp (MM F))
        = m6.view.loc (V d (c0V L) (j0V L)) ↦[m6.view.set]{fullShare} g := fun g => by rw [show m6.view.set = Finset.univ from View.set_whole _]
    ihave Ha0 := (Entails.of_eq (ha0 _)) $$ Ha0
    ihave Ha1 := (Entails.of_eq (ha1 _)) $$ Ha1
    ihave Ha2 := (Entails.of_eq (ha2 _)) $$ Ha2
    ihave Ha3 := (Entails.of_eq (ha3 _)) $$ Ha3
    ihave Ha4 := (Entails.of_eq (ha4 _)) $$ Ha4
    ihave Hb0 := (Entails.of_eq (hp0 _)) $$ Hb0
    ihave Hb1 := (Entails.of_eq (hp1 _)) $$ Hb1
    ihave Hb2 := (Entails.of_eq (hp2 _)) $$ Hb2
    ihave Hb3 := (Entails.of_eq (hp3 _)) $$ Hb3
    ihave Hb4 := (Entails.of_eq (hp4 _)) $$ Hb4
    ihave Hb5 := (Entails.of_eq (hp5 _)) $$ Hb5
    iapply wp_wand $$ [Ha0 Ha1 Ha2 Ha3 Ha4 Hb0 Hb1 Hb2 Hb3 Hb4 Hb5 Hs0 Hs1 Hs2 Hs3 Hs4 HO]
    · iapply (route_tile (F := F) d L m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) cc0_scoped0 cc0_scoped1 cc0_scoped2 cc0_scoped3 cc0_scoped4 hc fullShare
        (A d (Proc.devRef .tc main_v26)) (A d (Proc.devRef .tc main_v26)) (A d (Proc.devRef .tc main_v27_0)) (A d (Proc.devRef .tc main_v27_1))
        (A d (Proc.devRef .tc main_v27_2)) (A d (Proc.devRef .tc main_v27_3)) f0 f1 f2 f3 f4 f5 rfl O W hO)
      isplitr; · iexact Hlv
      isplitl [Ha0]; · iexact Ha0
      isplitl [Ha1]; · iexact Ha1
      isplitl [Ha2]; · iexact Ha2
      isplitl [Ha3]; · iexact Ha3
      isplitl [Ha4]; · iexact Ha4
      isplitl [Hb0]; · iexact Hb0
      isplitl [Hb1]; · iexact Hb1
      isplitl [Hb2]; · iexact Hb2
      isplitl [Hb3]; · iexact Hb3
      isplitl [Hb4]; · iexact Hb4
      isplitl [Hb5]; · iexact Hb5
      isplitl [Hs0]; · iexact Hs0
      isplitl [Hs1]; · iexact Hs1
      isplitl [Hs2]; · iexact Hs2
      isplitl [Hs3]; · iexact Hs3
      isplitl [Hs4]; · iexact Hs4
      iexact HO
    iintro %_ ⟨Ha0, Ha1, Ha2, Ha3, Ha4, ⟨%g0, Hb0⟩, ⟨%g1, Hb1⟩, ⟨%g2, Hb2⟩, ⟨%g3, Hb3⟩, ⟨%g4, Hb4⟩, ⟨%g5, Hb5⟩, Hs0, Hs1, Hs2, Hs3, Hs4, HO⟩
    ihave Hb0 := (Entails.of_eq (hp0 g0).symm) $$ Hb0
    ihave Hb1 := (Entails.of_eq (hp1 g1).symm) $$ Hb1
    ihave Hb2 := (Entails.of_eq (hp2 g2).symm) $$ Hb2
    ihave Hb3 := (Entails.of_eq (hp3 g3).symm) $$ Hb3
    ihave Hb4 := (Entails.of_eq (hp4 g4).symm) $$ Hb4
    ihave Hb5 := (Entails.of_eq (hp5 g5).symm) $$ Hb5
    unfold holds
    ihave Ha0 := (Entails.of_eq (ha0 _).symm) $$ Ha0
    icases Ha1 with ⟨%o1, %e1, Ha1⟩
    ihave Ha1 := (Entails.of_eq (ha1 o1).symm) $$ Ha1
    have e1' : o1 = topiOf (F := F) (A d (Proc.devRef .tc main_v26)) := e1
    icases Ha2 with ⟨%o2, %e2, Ha2⟩
    ihave Ha2 := (Entails.of_eq (ha2 o2).symm) $$ Ha2
    have e2' : o2 = destOf (F := F) (A d (Proc.devRef .tc main_v26)) := e2
    icases Ha3 with ⟨%o3, %e3, Ha3⟩
    ihave Ha3 := (Entails.of_eq (ha3 o3).symm) $$ Ha3
    have e3' : o3 = srcOf (F := F) (A d (Proc.devRef .tc main_v26)) := e3
    icases Ha4 with ⟨%o4, %e4, Ha4⟩
    ihave Ha4 := (Entails.of_eq (ha4 o4).symm) $$ Ha4
    have e4' : o4 = startOf (F := F) (A d (Proc.devRef .tc main_v26)) := e4
    rw [e1', e2', e3', e4']
    isplitl [Ha0 Ha1 Ha2 Ha3 Ha4]
    · isplitl [Ha0]; · iexact Ha0
      isplitl [Ha1]; · iexact Ha1
      isplitl [Ha2]; · iexact Ha2
      isplitl [Ha3]; · iexact Ha3
      iexact Ha4
    isplitl [Hb0 Hb1 Hb2 Hb3 Hb4 Hb5 Hbufs]
    · isplitl [Hb0]
      · iexists g0; iexact Hb0
      isplitl [Hb1]
      · iexists g1; iexact Hb1
      isplitl [Hb2]
      · iexists g2; iexact Hb2
      isplitl [Hb3]
      · iexists g3; iexact Hb3
      isplitl [Hb4]
      · iexists g4; iexact Hb4
      isplitl [Hb5]
      · iexists g5; iexact Hb5
      iexact Hbufs
    isplitl [Hs0 Hs1 Hs2 Hs3 Hs4 Hsems]
    · isplitl [Hs0]; · iexact Hs0
      isplitl [Hs1]; · iexact Hs1
      isplitl [Hs2]; · iexact Hs2
      isplitl [Hs3]; · iexact Hs3
      isplitl [Hs4]; · iexact Hs4
      iexact Hsems
    iexact HO
  · rw [if_neg (fun h => hc ((cond1_iff L).mpr h)), if_neg (fun h => hc ((cond1_iff L).mpr h))]
    unfold cc0__route_body_skel
    iintro ⟨#Hlv, -, -, Hbufs, Hsems, HO⟩
    sl_exec
    rw [wp_ret]; imodintro
    isplitr; · iempintro
    isplitl [Hbufs]; · iexact Hbufs
    isplitl [Hsems]; · iexact Hsems
    iexists W; isplitr
    · ipureintro; exact fun p hp => Or.inl hp
    · iexact HO

def coordsR (c : Fin (grid0.bound 0)) (s : Fin (grid0.bound 1)) : grid0.Coords :=
  fun | 0 => c | 1 => s | ⟨_ + 2, h⟩ => absurd h (Nat.not_lt.2 (Nat.le_add_left _ _))

theorem defs₀_route (c : Fin τ.nSC) (s : Fin τ.nSub) :
    defs₀ (F := F) (.scVector c s) 0 ()
      = SparseCore.onTile hcore0 hsub0 (fun c s => cc0__route_body (coordsR c s) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _)
          cc0_scoped0 cc0_scoped1 cc0_scoped2 cc0_scoped3 cc0_scoped4) ⟨⟩ c s := rfl

set_option maxRecDepth 16384 in
theorem obl_route (A0 A1 A2 : Vals F) :
    (K (F := F)).TileObl (D (F := F)) 𝒱 (P A0 A1 A2) v₀ 0 := by
  intro d c i O W hO _ _
  simp only [show (P A0 A1 A2).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_route]; simp only [SparseCore.onTile, hci, and_self, ↓reduceDIte]
  exact (route_body d (coordsR ⟨_, hci.1⟩ ⟨_, hci.2⟩) A0 O W hO).trans (wp_mono frame _ _ fun _ => obl_post')

end RouteTask

end Cert.Proof.Moe

end
-- ==== Proof.Values.lean ====
/-
  The contents of the arrays of @main between its calls.
-/
module

public import proofs.«01_k».proof.Proof.Host
public import proofs.«01_k».proof.Proof.GatherTasks
public import proofs.«01_k».proof.Proof.RouteTask
public import Idealize.ShloMosaic.Lib.StableHlo.RunRead

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open StableHlo (after launchContents)

/-! ## The arrays each stretch of host operations writes -/

theorem keep1 {r : Ref sig .tc} (hr : r ∉ ([main_v0, main_v1, main_v2, main_v3, main_v4, main_v5, main_cst, main_v6, main_cst_0, main_v7, main_v8, main_v9, main_v10, main_v11, main_v12, main_cst_1, main_v13, main_v14, main_v15, main_v16, main_cst_2, main_v17, main_cst_3, main_v18, main_v19, main_cst_4, main_v20, main_v21, main_v22, main_cst_5, main_v23, main_cst_6, main_v24, main_cst_7, main_v25, main_v26] : List (Ref sig .tc))) (W : Valuation τ sig (Elt F)) :
    after (ops1 (F := F)) W (Proc.devRef .tc r) = W (Proc.devRef .tc r) :=
  StableHlo.after_unwritten _ rfl hr W

theorem keep2 {r : Ref sig .tc} (hr : r ∉ ([main_v28, main_c, main_c_8, main_call0_v0, main_call0_v1, main_call0_v2, main_call0_v3, main_call0_v4, main_v29, main_v30, main_c_9, main_v31, main_v32, main_v33, main_v34, main_v35, main_v36, main_v37, main_v38, main_v39] : List (Ref sig .tc))) (W : Valuation τ sig (Elt F)) :
    after (ops2 (F := F)) W (Proc.devRef .tc r) = W (Proc.devRef .tc r) :=
  StableHlo.after_unwritten _ rfl hr W

theorem keep3 {r : Ref sig .tc} (hr : r ∉ ([main_v41, main_v42, main_v43, main_v44] : List (Ref sig .tc))) (W : Valuation τ sig (Elt F)) :
    after (ops3 (F := F)) W (Proc.devRef .tc r) = W (Proc.devRef .tc r) :=
  StableHlo.after_unwritten _ rfl hr W

theorem keep4 {r : Ref sig .tc} (hr : r ∉ ([main_v46, main_c_10, main_v47, main_v48, main_v49, main_v50, main_v51, main_v52, main_v53, main_v54, main_v55] : List (Ref sig .tc))) (W : Valuation τ sig (Elt F)) :
    after (ops4 (F := F)) W (Proc.devRef .tc r) = W (Proc.devRef .tc r) :=
  StableHlo.after_unwritten _ rfl hr W

theorem keep5 {r : Ref sig .tc} (hr : r ∉ ([main_v57, main_v58, main_v59] : List (Ref sig .tc))) (W : Valuation τ sig (Elt F)) :
    after (ops5 (F := F)) W (Proc.devRef .tc r) = W (Proc.devRef .tc r) :=
  StableHlo.after_unwritten _ rfl hr W

/-! ## What they write -/

/-- Each index of a row of 768 becomes the indices of its six rows of 128. -/
def expandOf (s : S2048.Idx → Elt F .i32) : S12288.Idx → Elt F .i32 :=
  shapeCast S12288 (addi
    (broadcastInDim S2048x6 ![0, 1] bcast_S2048x1_S2048x6_0_1
      (muli (broadcastInDim S2048x1 ![0] bcast_S2048_S2048x1_0 s : IVec S2048x1 32) (broadcastInDim S2048x1 ![] bcast_S_S2048x1 (constantI S_ 32 6#32))) : IVec S2048x6 32)
    (broadcastInDim S2048x6 ![0, 1] bcast_S1x6_S2048x6_0_1 (broadcastInDim S1x6 ![1] bcast_S6_S1x6_1 (iotaInDim S6 32 0)))) shapeCasts_S2048x6_S12288

theorem after2_v38 (W : Valuation τ sig (Elt F)) :
    after (ops2 (F := F)) W (Proc.devRef .tc main_v38) = expandOf (F := F) (W (Proc.devRef .tc main_v27_2)) := by
  unfold expandOf
  simp only [ops2, StableHlo.TRef.binary, StableHlo.TRef.nullary, StableHlo.TRef.unary, StableHlo.TRef.toBuf, StableHlo.TRef.ofBuf, cast_eq]
  after_results_simp <;> rfl

theorem after2_v39 (W : Valuation τ sig (Elt F)) :
    after (ops2 (F := F)) W (Proc.devRef .tc main_v39) = shapeCast S12288x128 (s := S2048x768) (W (Proc.devRef .tc main_v0)) shapeCasts_S2048x768_S12288x128 := by
  simp only [ops2, StableHlo.TRef.binary, StableHlo.TRef.nullary, StableHlo.TRef.unary, StableHlo.TRef.toBuf, StableHlo.TRef.ofBuf, cast_eq]
  after_results_simp <;> rfl

theorem after2_v29 (W : Valuation τ sig (Elt F)) :
    after (ops2 (F := F)) W (Proc.devRef .tc main_v29)
      = minsi (broadcastInDim S9 ![] bcast_S_S9 (constantI S_ 32 2048#32)) (maxsi (broadcastInDim S9 ![] bcast_S_S9 (constantI S_ 32 0#32))
          (extractStridedSlice S9 ![0] (s := S16) (W (Proc.devRef .tc main_v27_3)) slices_S16_S9_0)) := by
  simp only [ops2, StableHlo.TRef.binary, StableHlo.TRef.nullary, StableHlo.TRef.unary, StableHlo.TRef.toBuf, StableHlo.TRef.ofBuf, cast_eq]
  after_results_simp <;> rfl

theorem after3_v41 (W : Valuation τ sig (Elt F)) :
    after (ops3 (F := F)) W (Proc.devRef .tc main_v41) = shapeCast S2048x768 (s := S12288x128) (W (Proc.devRef .tc main_v40)) shapeCasts_S12288x128_S2048x768 := by
  simp only [ops3]
  after_results_simp <;> rfl

theorem after3_v42 (W : Valuation τ sig (Elt F)) :
    after (ops3 (F := F)) W (Proc.devRef .tc main_v42) = shapeCast S8x1x3072 (s := S8x3072) (W (Proc.devRef .tc main_arg4)) shapeCasts_S8x3072_S8x1x3072 := by
  simp only [ops3]
  after_results_simp <;> rfl

theorem after3_v43 (W : Valuation τ sig (Elt F)) :
    after (ops3 (F := F)) W (Proc.devRef .tc main_v43) = shapeCast S8x1x3072 (s := S8x3072) (W (Proc.devRef .tc main_arg6)) shapeCasts_S8x3072_S8x1x3072 := by
  simp only [ops3]
  after_results_simp <;> rfl

theorem after3_v44 (W : Valuation τ sig (Elt F)) :
    after (ops3 (F := F)) W (Proc.devRef .tc main_v44) = shapeCast S8x1x768 (s := S8x768) (W (Proc.devRef .tc main_arg8)) shapeCasts_S8x768_S8x1x768 := by
  simp only [ops3]
  after_results_simp <;> rfl

theorem after4_v54 (W : Valuation τ sig (Elt F)) :
    after (ops4 (F := F)) W (Proc.devRef .tc main_v54) = expandOf (F := F) (W (Proc.devRef .tc main_v27_1)) := by
  unfold expandOf
  simp only [ops4]
  after_results_simp <;> rfl

theorem after4_v55 (W : Valuation τ sig (Elt F)) :
    after (ops4 (F := F)) W (Proc.devRef .tc main_v55) = shapeCast S12288x128 (s := S2048x768) (W (Proc.devRef .tc main_v45)) shapeCasts_S2048x768_S12288x128 := by
  simp only [ops4]
  after_results_simp <;> rfl

theorem after5_v58 (W : Valuation τ sig (Elt F)) :
    after (ops5 (F := F)) W (Proc.devRef .tc main_v58)
      = shapeCast S1x2048x768 (shapeCast S2048x768 (s := S12288x128) (W (Proc.devRef .tc main_v56)) shapeCasts_S12288x128_S2048x768) shapeCasts_S2048x768_S1x2048x768 := by
  simp only [ops5]
  after_results_simp <;> rfl

theorem after5_v59 (W : Valuation τ sig (Elt F)) :
    after (ops5 (F := F)) W (Proc.devRef .tc main_v59) = broadcastInDim S2048x1 ![0] bcast_S2048_S2048x1_0 (W (Proc.devRef .tc main_v27_0)) := by
  simp only [ops5]
  after_results_simp <;> rfl

/-! ## The words of the expanded indices -/

theorem expandOf_word (s : S2048.Idx → Elt F .i32) (n : ℕ → ℕ) (hn : ∀ p < 2048, n p < 2048) (hs : ∀ x : S2048.Idx, s x = BitVec.ofNat 32 (n (x 0).val))
    (x : S12288.Idx) : expandOf s x = BitVec.ofNat 32 (n ((x 0).val / 6) * 6 + (x 0).val % 6) := by
  have hx : (x 0).val < 12288 := (x 0).isLt
  unfold expandOf
  refine (shapeCast_apply (s := S2048x6) _ shapeCasts_S2048x6_S12288 x (fun a => match a with
    | 0 => ⟨(x 0).val / 6, by show _ < 2048; omega⟩
    | 1 => ⟨(x 0).val % 6, Nat.mod_lt _ (by decide)⟩) ?_).trans ?_
  · refine (Shape.rowMajor_val_two (d := ![2048, 6]) _).trans ?_
    refine Eq.trans ?_ (Shape.rowMajor_val_one (d := ![12288]) x).symm
    show (x 0).val / 6 * 6 + (x 0).val % 6 = (x 0).val
    omega
  · show s _ * 6#32 + BitVec.ofNat 32 ((x 0).val % 6) = _
    rw [hs]
    show BitVec.ofNat 32 (n ((x 0).val / 6)) * 6#32 + BitVec.ofNat 32 ((x 0).val % 6) = _
    rw [BitVec.ofNat_add, BitVec.ofNat_mul]

theorem expandOf_lt (s : S2048.Idx → Elt F .i32) (n : ℕ → ℕ) (hn : ∀ p < 2048, n p < 2048) (hs : ∀ x : S2048.Idx, s x = BitVec.ofNat 32 (n (x 0).val))
    (x : S12288.Idx) : (show BitVec 32 from expandOf s x).toNat = n ((x 0).val / 6) * 6 + (x 0).val % 6 := by
  have hx : (x 0).val < 12288 := (x 0).isLt
  have h := hn ((x 0).val / 6) (by omega)
  rw [expandOf_word s n hn hs x]
  show (BitVec.ofNat 32 _).toNat = _
  rw [BitVec.toNat_ofNat]
  omega

/-! ## The arrays' contents between the calls -/

/-- The contents after the routing call. -/
def routeV (V : Valuation τ sig (Elt F)) : Valuation τ sig (Elt F) :=
  Function.update (Function.update (Function.update (Function.update V
    (Proc.devRef .tc main_v27_0) (topiOf (F := F) (V (Proc.devRef .tc main_v26))))
    (Proc.devRef .tc main_v27_1) (destOf (F := F) (V (Proc.devRef .tc main_v26))))
    (Proc.devRef .tc main_v27_2) (srcOf (F := F) (V (Proc.devRef .tc main_v26))))
    (Proc.devRef .tc main_v27_3) (startOf (F := F) (V (Proc.devRef .tc main_v26)))

theorem routeV_0 (V : Valuation τ sig (Elt F)) : routeV V (Proc.devRef .tc main_v27_0) = topiOf (F := F) (V (Proc.devRef .tc main_v26)) := by
  unfold routeV
  rw [upd_ne _ _ _ _ (by decide), upd_ne _ _ _ _ (by decide), upd_ne _ _ _ _ (by decide), upd_self]
theorem routeV_1 (V : Valuation τ sig (Elt F)) : routeV V (Proc.devRef .tc main_v27_1) = destOf (F := F) (V (Proc.devRef .tc main_v26)) := by
  unfold routeV
  rw [upd_ne _ _ _ _ (by decide), upd_ne _ _ _ _ (by decide), upd_self]
theorem routeV_2 (V : Valuation τ sig (Elt F)) : routeV V (Proc.devRef .tc main_v27_2) = srcOf (F := F) (V (Proc.devRef .tc main_v26)) := by
  unfold routeV
  rw [upd_ne _ _ _ _ (by decide), upd_self]
theorem routeV_3 (V : Valuation τ sig (Elt F)) : routeV V (Proc.devRef .tc main_v27_3) = startOf (F := F) (V (Proc.devRef .tc main_v26)) := by
  unfold routeV
  rw [upd_self]
theorem routeV_ne (V : Valuation τ sig (Elt F)) (b : DevRef τ sig) (h0 : b ≠ Proc.devRef .tc main_v27_0) (h1 : b ≠ Proc.devRef .tc main_v27_1)
    (h2 : b ≠ Proc.devRef .tc main_v27_2) (h3 : b ≠ Proc.devRef .tc main_v27_3) : routeV V b = V b := by
  unfold routeV
  rw [upd_ne _ _ _ _ h3, upd_ne _ _ _ _ h2, upd_ne _ _ _ _ h1, upd_ne _ _ _ _ h0]

/-- The contents when the routing starts, when the first gather starts, after it, and when the FFN starts. -/
def V1 (m : (ℓ : Loc nD τ sig) → Buf (Elt F) ℓ) : Vals F := fun d => after ops1 (launchContents m d)
def V3 (m : (ℓ : Loc nD τ sig) → Buf (Elt F) ℓ) : Vals F := fun d => after ops2 (routeV (V1 m d))
def V4 (m : (ℓ : Loc nD τ sig) → Buf (Elt F) ℓ) : Vals F := fun d =>
  Function.update (V3 m d) (Proc.devRef .tc main_v40) (gathered (F := F) (V3 m d (Proc.devRef .tc main_v39)) (V3 m d (Proc.devRef .tc main_v38)))
def V5 (m : (ℓ : Loc nD τ sig) → Buf (Elt F) ℓ) : Vals F := fun d => after ops3 (V4 m d)

/-- The logits that the routing reads. -/
abbrev lgt (m : (ℓ : Loc nD τ sig) → Buf (Elt F) ℓ) (d : Dev nD) : S8x2048.Idx → Elt F .f32 := V1 m d (Proc.devRef .tc main_v26)

theorem V3_v38 (m : (ℓ : Loc nD τ sig) → Buf (Elt F) ℓ) (d : Dev nD) :
    V3 m d (Proc.devRef .tc main_v38) = expandOf (F := F) (srcOf (lgt m d)) := by
  unfold V3; rw [after2_v38, routeV_2]

theorem src_word (m : (ℓ : Loc nD τ sig) → Buf (Elt F) ℓ) (d : Dev nD) (x : S12288.Idx) :
    (show BitVec 32 from V3 m d (Proc.devRef .tc main_v38) x).toNat = token (expert (lgt m d)) ((x 0).val / 6) * 6 + (x 0).val % 6 := by
  rw [V3_v38]
  exact expandOf_lt _ (fun p => token (expert (lgt m d)) p) (fun p _ => token_lt _ p) (fun _ => rfl) x

theorem src_lt (m : (ℓ : Loc nD τ sig) → Buf (Elt F) ℓ) (d : Dev nD) (x : S12288.Idx) :
    (show BitVec 32 from V3 m d (Proc.devRef .tc main_v38) x).toNat < 12288 := by
  rw [src_word]
  have := token_lt (expert (lgt m d)) ((x 0).val / 6)
  omega

theorem V5_v29 (m : (ℓ : Loc nD τ sig) → Buf (Elt F) ℓ) (d : Dev nD) : V5 m d (Proc.devRef .tc main_v29) = V3 m d (Proc.devRef .tc main_v29) := by
  unfold V5; rw [keep3 (by decide)]; unfold V4; rw [upd_ne _ _ _ _ (by decide)]

/-- The groups' bounds, as the FFN's table holds them. -/
theorem offOk5 (m : (ℓ : Loc nD τ sig) → Buf (Elt F) ℓ) (d : Dev nD) : OffOk (F := F) (offOf (V5 m d)) (fun e => start (expert (lgt m d)) 2048 e) where
  word := fun e => by
    have he : (e 0).val < 9 := (e 0).isLt
    have h8 : start (expert (lgt m d)) 2048 (e 0).val ≤ 2048 := start_le _ 8 (fun t => expert_lt (lgt m d) t) 2048 (by omega)
    unfold offOf
    rw [V5_v29]
    unfold V3
    rw [after2_v29, routeV_3]
    have hmin : min (0 + (e 0).val) 8 = (e 0).val := by omega
    show IntOp.minsi 2048#32 (IntOp.maxsi 0#32 (BitVec.ofNat 32 (start (expert (lgt m d)) 2048 (min (0 + (e 0).val) 8)))) = _
    rw [hmin]
    generalize start (expert (lgt m d)) 2048 (e 0).val = n at h8
    rw [Routing.maxsi_zero_left (by omega)]
    refine (w_min (a := 2048) (b := n) (by decide) (by omega)).trans ?_
    rw [Nat.min_eq_right h8]
  mono := fun e _ => start_mono _ _ (by omega)
  zero := by
    rfl
  last := start_all _ 8 (fun t => expert_lt (lgt m d) t) 2048

theorem hV5 (m : (ℓ : Loc nD τ sig) → Buf (Elt F) ℓ) (d : Dev nD) : OffChk (V5 m d) := offChk (offOk5 m d)

/-- The contents after the FFN, when the second gather starts, after it, and at the end. -/
def V6 (m : (ℓ : Loc nD τ sig) → Buf (Elt F) ℓ) : Vals F := fun d => ffnV (V5 m d) (hV5 m d)
def V7 (m : (ℓ : Loc nD τ sig) → Buf (Elt F) ℓ) : Vals F := fun d => after ops4 (V6 m d)
def V8 (m : (ℓ : Loc nD τ sig) → Buf (Elt F) ℓ) : Vals F := fun d =>
  Function.update (V7 m d) (Proc.devRef .tc main_v56) (gathered (F := F) (V7 m d (Proc.devRef .tc main_v55)) (V7 m d (Proc.devRef .tc main_v54)))
def V9 (m : (ℓ : Loc nD τ sig) → Buf (Elt F) ℓ) : Vals F := fun d => after ops5 (V8 m d)

theorem V6_ne (m : (ℓ : Loc nD τ sig) → Buf (Elt F) ℓ) (d : Dev nD) (b : DevRef τ sig) (h : b ≠ Proc.devRef .tc main_v45) : V6 m d b = V5 m d b := by
  unfold V6 ffnV; exact upd_ne _ _ _ _ h

theorem V5_route (m : (ℓ : Loc nD τ sig) → Buf (Elt F) ℓ) (d : Dev nD) (r : Ref sig .tc)
    (h3 : r ∉ ([main_v41, main_v42, main_v43, main_v44] : List (Ref sig .tc))) (h4 : Proc.devRef (τ := τ) (sig := sig) .tc r ≠ Proc.devRef .tc main_v40)
    (h2 : r ∉ ([main_v28, main_c, main_c_8, main_call0_v0, main_call0_v1, main_call0_v2, main_call0_v3, main_call0_v4, main_v29, main_v30, main_c_9, main_v31, main_v32, main_v33, main_v34, main_v35, main_v36, main_v37, main_v38, main_v39] : List (Ref sig .tc))) :
    V5 m d (Proc.devRef .tc r) = routeV (V1 m d) (Proc.devRef .tc r) := by
  unfold V5; rw [keep3 h3]; unfold V4; rw [upd_ne _ _ _ _ h4]; unfold V3; rw [keep2 h2]

theorem V7_v54 (m : (ℓ : Loc nD τ sig) → Buf (Elt F) ℓ) (d : Dev nD) :
    V7 m d (Proc.devRef .tc main_v54) = expandOf (F := F) (destOf (lgt m d)) := by
  unfold V7
  rw [after4_v54, V6_ne _ _ _ (by decide), V5_route _ _ _ (by decide) (by decide) (by decide), routeV_1]

theorem dest_word (m : (ℓ : Loc nD τ sig) → Buf (Elt F) ℓ) (d : Dev nD) (x : S12288.Idx) :
    (show BitVec 32 from V7 m d (Proc.devRef .tc main_v54) x).toNat = place (expert (lgt m d)) 2048 ((x 0).val / 6) * 6 + (x 0).val % 6 := by
  rw [V7_v54]
  exact expandOf_lt _ (fun p => place (expert (lgt m d)) 2048 p) (fun p hp => place_lt _ 8 (fun t => expert_lt (lgt m d) t) hp) (fun _ => rfl) x

theorem dest_lt (m : (ℓ : Loc nD τ sig) → Buf (Elt F) ℓ) (d : Dev nD) (x : S12288.Idx) :
    (show BitVec 32 from V7 m d (Proc.devRef .tc main_v54) x).toNat < 12288 := by
  rw [dest_word]
  have hx : (x 0).val < 12288 := (x 0).isLt
  have := place_lt (expert (lgt m d)) 8 (fun t => expert_lt (lgt m d) t) (n := 2048) (t := (x 0).val / 6) (by omega)
  omega

/-- An array that nothing writes keeps its contents. -/
theorem V9_arg (m : (ℓ : Loc nD τ sig) → Buf (Elt F) ℓ) (d : Dev nD) (r : Ref sig .tc)
    (hr : r ∈ ([main_arg0, main_arg1, main_arg2, main_arg3, main_arg4, main_arg5, main_arg6, main_arg7, main_arg8, main_arg9] : List (Ref sig .tc))) :
    V9 m d (Proc.devRef .tc r) = m (d, Proc.devRef .tc r) := by
  obtain ⟨h5, h8, h4, h6, h3, h40, h2, h1, g0, g1, g2, g3⟩ :
      (r ∉ ([main_v57, main_v58, main_v59] : List (Ref sig .tc))) ∧
      (Proc.devRef (τ := τ) (sig := sig) .tc r ≠ Proc.devRef .tc main_v56) ∧
      (r ∉ ([main_v46, main_c_10, main_v47, main_v48, main_v49, main_v50, main_v51, main_v52, main_v53, main_v54, main_v55] : List (Ref sig .tc))) ∧
      (Proc.devRef (τ := τ) (sig := sig) .tc r ≠ Proc.devRef .tc main_v45) ∧
      (r ∉ ([main_v41, main_v42, main_v43, main_v44] : List (Ref sig .tc))) ∧
      (Proc.devRef (τ := τ) (sig := sig) .tc r ≠ Proc.devRef .tc main_v40) ∧
      (r ∉ ([main_v28, main_c, main_c_8, main_call0_v0, main_call0_v1, main_call0_v2, main_call0_v3, main_call0_v4, main_v29, main_v30, main_c_9, main_v31, main_v32, main_v33, main_v34, main_v35, main_v36, main_v37, main_v38, main_v39] : List (Ref sig .tc))) ∧
      (r ∉ ([main_v0, main_v1, main_v2, main_v3, main_v4, main_v5, main_cst, main_v6, main_cst_0, main_v7, main_v8, main_v9, main_v10, main_v11, main_v12, main_cst_1, main_v13, main_v14, main_v15, main_v16, main_cst_2, main_v17, main_cst_3, main_v18, main_v19, main_cst_4, main_v20, main_v21, main_v22, main_cst_5, main_v23, main_cst_6, main_v24, main_cst_7, main_v25, main_v26] : List (Ref sig .tc))) ∧
      (Proc.devRef (τ := τ) (sig := sig) .tc r ≠ Proc.devRef .tc main_v27_0) ∧
      (Proc.devRef (τ := τ) (sig := sig) .tc r ≠ Proc.devRef .tc main_v27_1) ∧
      (Proc.devRef (τ := τ) (sig := sig) .tc r ≠ Proc.devRef .tc main_v27_2) ∧
      (Proc.devRef (τ := τ) (sig := sig) .tc r ≠ Proc.devRef .tc main_v27_3) := by
    revert r; decide
  unfold V9; rw [keep5 h5]; unfold V8; rw [upd_ne _ _ _ _ h8]; unfold V7; rw [keep4 h4, V6_ne _ _ _ h6, V5_route _ _ _ h3 h40 h2, routeV_ne _ _ g0 g1 g2 g3]
  unfold V1; rw [keep1 h1]

end Cert.Proof.Moe

end
-- ==== Proof.FfnIdeal.lean ====
/-
  One chunk's product over the extended reals.
-/
module

public import proofs.«01_k».proof.Proof.FfnRegion
public import Idealize.ShloMosaic.Lib.Pointwise

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## One chunk's product over the extended reals -/

/-- The hidden value of one row of tokens: a product with a column of weights, and a bias. -/
def hid (x : Fin 768 → EReal) (w : Fin 768 → EReal) (b : EReal) : EReal := (∑ i, x i * w i) + b

/-- The gated hidden value. -/
def gated (a b : EReal) : EReal := a * (b * Ideal.logistic b)

/-- A row of tokens through the point's half of the expert, at one column of the result. -/
def rowProd (G : Wins Ideal) (r : Fin 2048) (d : Fin 768) : EReal :=
  ∑ k : Fin 1536, gated (hid (fun i => G.x (ix2 r i)) (fun i => G.w1 (ix3 0 i k)) (G.b1 (ix3 0 0 k)))
    (hid (fun i => G.x (ix2 r i)) (fun i => G.w2 (ix3 0 i k)) (G.b2 (ix3 0 0 k))) * G.wp (ix3 0 k d)

set_option maxRecDepth 16384 in
set_option maxHeartbeats 1000000 in
theorem chunkProd_at (G : Wins Ideal) (c : Nat) (o : Fin 2 → Nat) (h : ∀ a, o a + S128x768.size a ≤ S2048x768.size a) (ho : o = ![c, 0])
    (p : Fin 128) (d : Fin 768) (r : Fin 2048) (hr : r.val = c + p.val) : chunkProd G o h (ix2 p d) = rowProd G r d := by
  subst ho
  obtain ⟨r, hrv⟩ := r
  have hr' : r = c + p.val := hr
  subst hr'
  unfold chunkProd rowProd hid gated rowsRect
  pointwise [k2_pay7]

section Rows

variable (i : grid2.Coords) {lo hi : Nat} (h : lo ≤ hi) (hh : hi ≤ 2048)
  (hw : k2_chk1 i (BitVec.ofNat 32 lo) (BitVec.ofNat 32 hi)) (G : Wins Ideal) (Y : S2048x768.Idx → Elt Ideal .f32)
  (r : Fin 2048) (d : Fin 768)

include h hh

/-- A chunk whose rows are not the row's leaves it. -/
theorem chunk_other (t : Fin (k2_t1_loop (BitVec.ofNat 32 lo) (BitVec.ofNat 32 hi)).trips) (hlo : lo ≤ r.val) (hhi : r.val < hi)
    (hq : (r.val - lo / 8 * 8) / 128 ≠ t.val) :
    chunk i (BitVec.ofNat 32 lo) (BitVec.ofNat 32 hi) hw G t Y (ix2 r d) = Y (ix2 r d) := by
  rcases chunk_cases (lo := lo) (ix2 r d) t.val with hj | ⟨x, h0, h1⟩
  · exact chunk_out i h hh hw G t Y _ hj
  · have hx : (x 0).val < 128 := (x 0).isLt
    have h0' : r.val = cStart lo t.val + (x 0).val := h0
    have hu : ¬ upd lo hi t.val (x 0).val := by
      unfold upd; rw [← h0']
      rintro ⟨ha, -⟩
      unfold cStart at h0'
      unfold uStart at h0' ha
      omega
    rw [chunk_in i h hh hw G t Y _ x h0 h1, if_neg hu, if_neg hu]
    split
    · rfl
    · show (Y (ix2 r d) : EReal) + Ideal.ofBits .f32 0x00000000#32 = _
      rw [Ideal.ofBits_zero_f32, add_zero]

/-- The chunk whose rows hold the row. -/
theorem chunk_own (t : Fin (k2_t1_loop (BitVec.ofNat 32 lo) (BitVec.ofNat 32 hi)).trips) (hlo : lo ≤ r.val) (hhi : r.val < hi)
    (hq : (r.val - lo / 8 * 8) / 128 = t.val) :
    chunk i (BitVec.ofNat 32 lo) (BitVec.ofNat 32 hi) hw G t Y (ix2 r d)
      = if k2_cond1 i = 1#1 then (rowProd G r d + G.bp (ix3 0 0 d) : EReal) else (Y (ix2 r d) + rowProd G r d : EReal) := by
  have hr := r.isLt
  rcases chunk_cases (lo := lo) (ix2 r d) t.val with hj | ⟨x, h0, h1⟩
  · exfalso; apply hj
    show _ ≤ r.val ∧ r.val < _
    unfold cStart uStart; omega
  · have hx : (x 0).val < 128 := (x 0).isLt
    have h0' : r.val = cStart lo t.val + (x 0).val := h0
    have hu : upd lo hi t.val (x 0).val := by
      unfold upd; rw [← h0']
      refine ⟨?_, hhi⟩
      unfold uStart; omega
    have hxe : x = ix2 (x 0) d := by
      funext a
      match a with
      | 0 => rfl
      | 1 => exact Fin.ext h1.symm
    have hp : prodAt i hw G t x = rowProd G r d := by
      rw [hxe]
      exact chunkProd_at G (cStart lo t.val) _ _ (off3_word h hh t) _ d r h0'
    have hb : bIdx x = ix3 0 0 d := by
      funext a
      match a with
      | 0 => rfl
      | 1 => rfl
      | 2 => exact Fin.ext h1.symm
    rw [chunk_in i h hh hw G t Y _ x h0 h1, if_pos hu, if_pos hu, hp, hb]
    rfl

/-- A point's chunks, at a row of its expert. -/
theorem chunks_row (hlo : lo ≤ r.val) (hhi : r.val < hi) (n : Nat) :
    chunks i (BitVec.ofNat 32 lo) (BitVec.ofNat 32 hi) hw G n Y (ix2 r d)
      = if (r.val - lo / 8 * 8) / 128 < n then
          (if k2_cond1 i = 1#1 then (rowProd G r d + G.bp (ix3 0 0 d) : EReal) else (Y (ix2 r d) + rowProd G r d : EReal))
        else Y (ix2 r d) := by
  have hT : (k2_t1_loop (BitVec.ofNat 32 lo) (BitVec.ofNat 32 hi)).trips = nChunks lo hi := t1_trips h hh
  have hq : (r.val - lo / 8 * 8) / 128 < nChunks lo hi := by unfold nChunks; omega
  induction n with
  | zero => rw [if_neg (Nat.not_lt_zero _)]; rfl
  | succ n ih =>
    rw [chunks]
    split
    · next hlt =>
      by_cases he : (r.val - lo / 8 * 8) / 128 = n
      · have h1 : (r.val - lo / 8 * 8) / 128 < n + 1 := by omega
        have h2 : ¬ (r.val - lo / 8 * 8) / 128 < n := by omega
        rw [chunk_own i h hh hw G _ r d ⟨n, hlt⟩ hlo hhi he, ih, if_pos h1, if_neg h2]
      · rw [chunk_other i h hh hw G _ r d ⟨n, hlt⟩ hlo hhi he, ih]
        by_cases hl : (r.val - lo / 8 * 8) / 128 < n
        · have h1 : (r.val - lo / 8 * 8) / 128 < n + 1 := by omega
          rw [if_pos hl, if_pos h1]
        · have h1 : ¬ (r.val - lo / 8 * 8) / 128 < n + 1 := by omega
          rw [if_neg hl, if_neg h1]
    · next hlt =>
      rw [hT] at hlt
      have h1 : (r.val - lo / 8 * 8) / 128 < n + 1 := by omega
      have h2 : (r.val - lo / 8 * 8) / 128 < n := by omega
      rw [ih, if_pos h1, if_pos h2]

end Rows

end Cert.Proof.Moe

end
-- ==== Proof.FfnBlocks.lean ====
/-
  The blocks that the FFN's windows hold, as parts of its arrays.
-/
module

public import proofs.«01_k».proof.Proof.FfnSum
public import Idealize.ShloMosaic.Lib.Pointwise

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The blocks of a grid point, read out of the arrays -/

section

variable (V : Valuation τ sig (Elt F)) (t : Fin (cfgV V).N)

/-- The expert and the half of a grid point. -/
def ptE : Fin 8 := ⟨t.val / 2, by have := lt_of_lt_of_eq t.isLt N_2; omega⟩
def ptH (k : Fin 1536) : Fin 3072 := ⟨t.val % 2 * 1536 + k.val, by omega⟩

theorem tr1_val (t : Fin grid2.N) : cc2_transform_1 (grid2.coords t) = ![t.val / 2, 0, t.val % 2] := by
  revert t; decide

theorem tr5_val (t : Fin grid2.N) : cc2_transform_5 (grid2.coords t) = ![t.val / 2, t.val % 2, 0] := by
  revert t; decide

theorem tr6_val (t : Fin grid2.N) : cc2_transform_6 (grid2.coords t) = ![t.val / 2, 0, 0] := by
  revert t; decide

theorem win_x (r : Fin 2048) (i : Fin 768) :
    (winsAt V t).x (ix2 r i) = V (Proc.devRef .tc main_v41) (ix2 r i) := by
  have key : ∀ a : Fin 2, ((((cfgV V).win 0).rect t).emb (ix2 r i : S2048x768.Idx) a).val = (ix2 r i : S2048x768.Idx) a := by
    intro a
    refine (((cfgV V).win 0).rect_emb_val t _ a).trans ?_
    match a with
    | 0 =>
      show 0 * 2048 + r.val = r.val
      omega
    | 1 =>
      show 0 * 768 + i.val = i.val
      omega
  exact congrArg (V (Proc.devRef .tc main_v41)) (funext fun a => Fin.ext (key a))

theorem win_w1 (i : Fin 768) (k : Fin 1536) :
    (winsAt V t).w1 (ix3 0 i k) = V (Proc.devRef .tc main_arg3) (ix3 (ptE V t) i (ptH V t k)) := by
  have key : ∀ a : Fin 3, ((((cfgV V).win 1).rect t).emb (ix3 0 i k : S1x768x1536.Idx) a).val = (ix3 (ptE V t) i (ptH V t k) : S8x768x3072.Idx) a := by
    intro a
    refine (((cfgV V).win 1).rect_emb_val t _ a).trans ?_
    match a with
    | 0 =>
      show cc2_transform_1 (grid2.coords t) 0 * 1 + 0 = t.val / 2
      rw [tr1_val t]; show t.val / 2 * 1 + 0 = t.val / 2; omega
    | 1 =>
      show cc2_transform_1 (grid2.coords t) 1 * 768 + i.val = i.val
      rw [tr1_val t]; show 0 * 768 + i.val = i.val; omega
    | 2 =>
      show cc2_transform_1 (grid2.coords t) 2 * 1536 + k.val = t.val % 2 * 1536 + k.val
      rw [tr1_val t]; show t.val % 2 * 1536 + k.val = t.val % 2 * 1536 + k.val; omega
  exact congrArg (V (Proc.devRef .tc main_arg3)) (funext fun a => Fin.ext (key a))

theorem win_b1 (k : Fin 1536) :
    (winsAt V t).b1 (ix3 0 0 k) = V (Proc.devRef .tc main_v42) (ix3 (ptE V t) 0 (ptH V t k)) := by
  have key : ∀ a : Fin 3, ((((cfgV V).win 2).rect t).emb (ix3 0 0 k : S1x1x1536.Idx) a).val = (ix3 (ptE V t) 0 (ptH V t k) : S8x1x3072.Idx) a := by
    intro a
    refine (((cfgV V).win 2).rect_emb_val t _ a).trans ?_
    match a with
    | 0 =>
      show cc2_transform_1 (grid2.coords t) 0 * 1 + 0 = t.val / 2
      rw [tr1_val t]; show t.val / 2 * 1 + 0 = t.val / 2; omega
    | 1 =>
      show cc2_transform_1 (grid2.coords t) 1 * 1 + 0 = 0
      rw [tr1_val t]; show 0 * 1 + 0 = 0; omega
    | 2 =>
      show cc2_transform_1 (grid2.coords t) 2 * 1536 + k.val = t.val % 2 * 1536 + k.val
      rw [tr1_val t]; show t.val % 2 * 1536 + k.val = t.val % 2 * 1536 + k.val; omega
  exact congrArg (V (Proc.devRef .tc main_v42)) (funext fun a => Fin.ext (key a))

theorem win_w2 (i : Fin 768) (k : Fin 1536) :
    (winsAt V t).w2 (ix3 0 i k) = V (Proc.devRef .tc main_arg5) (ix3 (ptE V t) i (ptH V t k)) := by
  have key : ∀ a : Fin 3, ((((cfgV V).win 3).rect t).emb (ix3 0 i k : S1x768x1536.Idx) a).val = (ix3 (ptE V t) i (ptH V t k) : S8x768x3072.Idx) a := by
    intro a
    refine (((cfgV V).win 3).rect_emb_val t _ a).trans ?_
    match a with
    | 0 =>
      show cc2_transform_1 (grid2.coords t) 0 * 1 + 0 = t.val / 2
      rw [tr1_val t]; show t.val / 2 * 1 + 0 = t.val / 2; omega
    | 1 =>
      show cc2_transform_1 (grid2.coords t) 1 * 768 + i.val = i.val
      rw [tr1_val t]; show 0 * 768 + i.val = i.val; omega
    | 2 =>
      show cc2_transform_1 (grid2.coords t) 2 * 1536 + k.val = t.val % 2 * 1536 + k.val
      rw [tr1_val t]; show t.val % 2 * 1536 + k.val = t.val % 2 * 1536 + k.val; omega
  exact congrArg (V (Proc.devRef .tc main_arg5)) (funext fun a => Fin.ext (key a))

theorem win_b2 (k : Fin 1536) :
    (winsAt V t).b2 (ix3 0 0 k) = V (Proc.devRef .tc main_v43) (ix3 (ptE V t) 0 (ptH V t k)) := by
  have key : ∀ a : Fin 3, ((((cfgV V).win 4).rect t).emb (ix3 0 0 k : S1x1x1536.Idx) a).val = (ix3 (ptE V t) 0 (ptH V t k) : S8x1x3072.Idx) a := by
    intro a
    refine (((cfgV V).win 4).rect_emb_val t _ a).trans ?_
    match a with
    | 0 =>
      show cc2_transform_1 (grid2.coords t) 0 * 1 + 0 = t.val / 2
      rw [tr1_val t]; show t.val / 2 * 1 + 0 = t.val / 2; omega
    | 1 =>
      show cc2_transform_1 (grid2.coords t) 1 * 1 + 0 = 0
      rw [tr1_val t]; show 0 * 1 + 0 = 0; omega
    | 2 =>
      show cc2_transform_1 (grid2.coords t) 2 * 1536 + k.val = t.val % 2 * 1536 + k.val
      rw [tr1_val t]; show t.val % 2 * 1536 + k.val = t.val % 2 * 1536 + k.val; omega
  exact congrArg (V (Proc.devRef .tc main_v43)) (funext fun a => Fin.ext (key a))

theorem win_wp (k : Fin 1536) (d : Fin 768) :
    (winsAt V t).wp (ix3 0 k d) = V (Proc.devRef .tc main_arg7) (ix3 (ptE V t) (ptH V t k) d) := by
  have key : ∀ a : Fin 3, ((((cfgV V).win 5).rect t).emb (ix3 0 k d : S1x1536x768.Idx) a).val = (ix3 (ptE V t) (ptH V t k) d : S8x3072x768.Idx) a := by
    intro a
    refine (((cfgV V).win 5).rect_emb_val t _ a).trans ?_
    match a with
    | 0 =>
      show cc2_transform_5 (grid2.coords t) 0 * 1 + 0 = t.val / 2
      rw [tr5_val t]; show t.val / 2 * 1 + 0 = t.val / 2; omega
    | 1 =>
      show cc2_transform_5 (grid2.coords t) 1 * 1536 + k.val = t.val % 2 * 1536 + k.val
      rw [tr5_val t]; show t.val % 2 * 1536 + k.val = t.val % 2 * 1536 + k.val; omega
    | 2 =>
      show cc2_transform_5 (grid2.coords t) 2 * 768 + d.val = d.val
      rw [tr5_val t]; show 0 * 768 + d.val = d.val; omega
  exact congrArg (V (Proc.devRef .tc main_arg7)) (funext fun a => Fin.ext (key a))

theorem win_bp (d : Fin 768) :
    (winsAt V t).bp (ix3 0 0 d) = V (Proc.devRef .tc main_v44) (ix3 (ptE V t) 0 d) := by
  have key : ∀ a : Fin 3, ((((cfgV V).win 6).rect t).emb (ix3 0 0 d : S1x1x768.Idx) a).val = (ix3 (ptE V t) 0 d : S8x1x768.Idx) a := by
    intro a
    refine (((cfgV V).win 6).rect_emb_val t _ a).trans ?_
    match a with
    | 0 =>
      show cc2_transform_6 (grid2.coords t) 0 * 1 + 0 = t.val / 2
      rw [tr6_val t]; show t.val / 2 * 1 + 0 = t.val / 2; omega
    | 1 =>
      show cc2_transform_6 (grid2.coords t) 1 * 1 + 0 = 0
      rw [tr6_val t]; show 0 * 1 + 0 = 0; omega
    | 2 =>
      show cc2_transform_6 (grid2.coords t) 2 * 768 + d.val = d.val
      rw [tr6_val t]; show 0 * 768 + d.val = d.val; omega
  exact congrArg (V (Proc.devRef .tc main_v44)) (funext fun a => Fin.ext (key a))

end

end Cert.Proof.Moe

end
-- ==== Proof.FfnExpert.lean ====
/-
  The FFN's result over the extended reals: each row through its expert.
-/
module

public import proofs.«01_k».proof.Proof.FfnIdeal
public import proofs.«01_k».proof.Proof.FfnBlocks
public import Idealize.ShloMosaic.Lib.Pointwise

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The FFN's result at a row of an expert -/

section Outside

variable (i : grid2.Coords) {lo hi : Nat} (h : lo ≤ hi) (hh : hi ≤ 2048)
  (hw : k2_chk1 i (BitVec.ofNat 32 lo) (BitVec.ofNat 32 hi)) (G : Wins Ideal) (Y : S2048x768.Idx → Elt Ideal .f32)
  (r : Fin 2048) (d : Fin 768)

include h hh

/-- A row of another expert is left alone. -/
theorem chunk_outside (t : Fin (k2_t1_loop (BitVec.ofNat 32 lo) (BitVec.ofNat 32 hi)).trips) (hr : r.val < lo ∨ hi ≤ r.val) :
    chunk i (BitVec.ofNat 32 lo) (BitVec.ofNat 32 hi) hw G t Y (ix2 r d) = Y (ix2 r d) := by
  rcases chunk_cases (lo := lo) (ix2 r d) t.val with hj | ⟨x, h0, h1⟩
  · exact chunk_out i h hh hw G t Y _ hj
  · have h0' : r.val = cStart lo t.val + (x 0).val := h0
    have hu : ¬ upd lo hi t.val (x 0).val := by
      unfold upd; rw [← h0']
      rintro ⟨ha, hb⟩
      omega
    rw [chunk_in i h hh hw G t Y _ x h0 h1, if_neg hu, if_neg hu]
    split
    · rfl
    · show (Y (ix2 r d) : EReal) + Ideal.ofBits .f32 0x00000000#32 = _
      rw [Ideal.ofBits_zero_f32, add_zero]

theorem chunks_outside (hr : r.val < lo ∨ hi ≤ r.val) (n : Nat) :
    chunks i (BitVec.ofNat 32 lo) (BitVec.ofNat 32 hi) hw G n Y (ix2 r d) = Y (ix2 r d) := by
  induction n with
  | zero => rfl
  | succ n ih =>
    rw [chunks]
    split
    · exact (chunk_outside i h hh hw G _ r d _ hr).trans ih
    · exact ih

end Outside

section

variable {V : Valuation τ sig (Elt Ideal)} {o : Nat → Nat} (h : OffOk (offOf V) o) (hV : OffChk V) (r : Fin 2048) (d : Fin 768)

include h

theorem bound_mono (a b : Nat) (hab : a ≤ b) (hb : b ≤ 8) : o a ≤ o b := by
  induction b with
  | zero => rw [Nat.le_zero.mp hab]
  | succ b ih =>
    by_cases e : a = b + 1
    · rw [e]
    · exact (ih (by omega) (by omega)).trans (h.mono b (by omega))

/-- A grid point's effect at a row of its expert. -/
theorem ptStep_own (t : Fin (cfgV V).N) (Y : S2048x768.Idx → Elt Ideal .f32) (hlo : o (t.val / 2) ≤ r.val) (hhi : r.val < o (t.val / 2 + 1)) :
    ptStep V hV t Y (ix2 r d)
      = if t.val % 2 = 0 then (rowProd (winsAt V t) r d + (winsAt V t).bp (ix3 0 0 d) : EReal)
        else (Y (ix2 r d) + rowProd (winsAt V t) r d : EReal) := by
  have hN : t.val < 16 := lt_of_lt_of_eq t.isLt N_2
  have hh := bound_mono h (t.val / 2 + 1) 8 (by omega) (Nat.le_refl _)
  rw [h.last] at hh
  obtain ⟨hw, e⟩ := ptStep_word h hV t Y
  have hq : (r.val - o (t.val / 2) / 8 * 8) / 128 < nChunks (o (t.val / 2)) (o (t.val / 2 + 1)) := by unfold nChunks; omega
  rw [e, chunks_row _ (h.mono _ (by omega)) hh hw _ _ r d hlo hhi, if_pos hq]
  exact if_congr (coords_first t) rfl rfl

/-- A grid point's effect at a row of another expert. -/
theorem ptStep_other (t : Fin (cfgV V).N) (Y : S2048x768.Idx → Elt Ideal .f32) (hr : r.val < o (t.val / 2) ∨ o (t.val / 2 + 1) ≤ r.val) :
    ptStep V hV t Y (ix2 r d) = Y (ix2 r d) := by
  have hN : t.val < 16 := lt_of_lt_of_eq t.isLt N_2
  have hh := bound_mono h (t.val / 2 + 1) 8 (by omega) (Nat.le_refl _)
  rw [h.last] at hh
  obtain ⟨hw, e⟩ := ptStep_word h hV t Y
  rw [e]
  exact chunks_outside _ (h.mono _ (by omega)) hh hw _ _ r d hr _

/-- After an expert's two points its rows stay as they are. -/
theorem ptSteps_after (e : Nat) (he : e < 8) (hhi : r.val < o (e + 1)) (Y : S2048x768.Idx → Elt Ideal .f32) (k : Nat) :
    ptSteps V hV (2 * e + 2 + k) Y (ix2 r d) = ptSteps V hV (2 * e + 2) Y (ix2 r d) := by
  induction k with
  | zero => rfl
  | succ k ih =>
    refine Eq.trans ?_ ih
    show ptSteps V hV ((2 * e + 2 + k) + 1) Y (ix2 r d) = _
    rw [ptSteps]
    split
    · next hn =>
      have hN : 2 * e + 2 + k < 16 := lt_of_lt_of_eq hn N_2
      refine ptStep_other h hV r d ⟨_, hn⟩ _ (.inl ?_)
      show r.val < o ((2 * e + 2 + k) / 2)
      exact lt_of_lt_of_le hhi (bound_mono h _ _ (by omega) (by omega))
    · rfl

/-- The grid point of an expert and a half. -/
def pt (e : Fin 8) (b : Fin 2) : Fin (cfgV V).N := ⟨2 * e.val + b.val, lt_of_lt_of_eq (by omega : 2 * e.val + b.val < 16) N_2.symm⟩

/-- The result at a row of an expert: the two halves' products and the bias. -/
theorem ffnOut_halves (e : Fin 8) (hlo : o e.val ≤ r.val) (hhi : r.val < o (e.val + 1)) :
    ffnOut V hV (ix2 r d)
      = ((rowProd (winsAt V (pt e 0)) r d + (winsAt V (pt e 0)).bp (ix3 0 0 d)) + rowProd (winsAt V (pt e 1)) r d : EReal) := by
  have he := e.isLt
  unfold ffnOut
  have e16 : 16 = 2 * e.val + 2 + (16 - (2 * e.val + 2)) := by omega
  rw [e16, ptSteps_after h hV r d e.val he hhi]
  have d0 : (2 * e.val + 0) / 2 = e.val := by omega
  have d1 : (2 * e.val + 1) / 2 = e.val := by omega
  rw [ptSteps_step V hV (2 * e.val + 1) (pt (V := V) e 1).isLt, ptSteps_step V hV (2 * e.val) (pt (V := V) e 0).isLt]
  rw [ptStep_own h hV r d _ _ (by show o ((2 * e.val + 1) / 2) ≤ _; rw [d1]; exact hlo) (by show _ < o ((2 * e.val + 1) / 2 + 1); rw [d1]; exact hhi)]
  rw [if_neg (by show ¬ (2 * e.val + 1) % 2 = 0; omega)]
  rw [ptStep_own h hV r d _ _ (by show o ((2 * e.val + 0) / 2) ≤ _; rw [d0]; exact hlo) (by show _ < o ((2 * e.val + 0) / 2 + 1); rw [d0]; exact hhi)]
  rw [if_pos (by show (2 * e.val) % 2 = 0; omega)]
  rfl

end

/-! ## The whole expert -/

/-- A token's row through an expert, at one column: the gated hidden values times the second weights, and the bias. -/
def expertOut (x : Fin 768 → EReal) (W1 : S8x768x3072.Idx → EReal) (B1 : S8x3072.Idx → EReal) (W2 : S8x768x3072.Idx → EReal)
    (B2 : S8x3072.Idx → EReal) (Wp : S8x3072x768.Idx → EReal) (Bp : S8x768.Idx → EReal) (e : Fin 8) (d : Fin 768) : EReal :=
  (∑ k : Fin 3072, gated (hid x (fun i => W1 (ix3 e i k)) (B1 (ix2 e k))) (hid x (fun i => W2 (ix3 e i k)) (B2 (ix2 e k))) * Wp (ix3 e k d))
    + Bp (ix2 e d)

theorem two_halves (f : Fin 3072 → EReal) :
    (∑ k : Fin 1536, f ⟨0 * 1536 + k.val, by omega⟩) + (∑ k : Fin 1536, f ⟨1 * 1536 + k.val, by omega⟩) = ∑ k, f k := by
  have := Fin.sum_univ_add (a := 1536) (b := 1536) f
  refine Eq.trans (congrArg₂ (· + ·) ?_ ?_) this.symm
  · exact Finset.sum_congr rfl fun k _ => congrArg f (Fin.ext (by show 0 * 1536 + k.val = k.val; omega))
  · exact Finset.sum_congr rfl fun k _ => congrArg f (Fin.ext (by show 1 * 1536 + k.val = 1536 + k.val; omega))

theorem ffnOut_expert {V : Valuation τ sig (Elt Ideal)} {o : Nat → Nat} (h : OffOk (offOf V) o) (hV : OffChk V) (r : Fin 2048) (d : Fin 768)
    (e : Fin 8) (hlo : o e.val ≤ r.val) (hhi : r.val < o (e.val + 1)) (B1 B2 : S8x3072.Idx → EReal) (Bp : S8x768.Idx → EReal)
    (h1 : ∀ e k, V (Proc.devRef .tc main_v42) (ix3 e 0 k) = B1 (ix2 e k)) (h2 : ∀ e k, V (Proc.devRef .tc main_v43) (ix3 e 0 k) = B2 (ix2 e k))
    (h3 : ∀ e d, V (Proc.devRef .tc main_v44) (ix3 e 0 d) = Bp (ix2 e d)) :
    ffnOut V hV (ix2 r d) = expertOut (fun i => V (Proc.devRef .tc main_v41) (ix2 r i)) (V (Proc.devRef .tc main_arg3)) B1
      (V (Proc.devRef .tc main_arg5)) B2 (V (Proc.devRef .tc main_arg7)) Bp e d := by
  have he : ∀ b : Fin 2, ptE V (pt e b) = e := fun b => Fin.ext (by show (2 * e.val + b.val) / 2 = e.val; omega)
  have hH : ∀ (b : Fin 2) k, ptH V (pt e b) k = ⟨b.val * 1536 + k.val, by omega⟩ := fun b k =>
    Fin.ext (by show (2 * e.val + b.val) % 2 * 1536 + k.val = b.val * 1536 + k.val; omega)
  rw [ffnOut_halves h hV r d e hlo hhi, add_right_comm]
  unfold rowProd expertOut
  simp only [win_x, win_w1, win_w2, win_b1, win_b2, win_wp, win_bp, he, hH, h1, h2, h3]
  refine congrArg (· + Bp (ix2 e d)) ?_
  exact two_halves fun k => gated (hid (fun i => V (Proc.devRef .tc main_v41) (ix2 r i)) (fun i => V (Proc.devRef .tc main_arg3) (ix3 e i k)) (B1 (ix2 e k)))
    (hid (fun i => V (Proc.devRef .tc main_v41) (ix2 r i)) (fun i => V (Proc.devRef .tc main_arg5) (ix3 e i k)) (B2 (ix2 e k))) * V (Proc.devRef .tc main_arg7) (ix3 e k d)

end Cert.Proof.Moe

end
-- ==== Proof.KernelOut.lean ====
/-
  The kernel's three results as functions of the arguments.
-/
module

public import proofs.«01_k».proof.Proof.Values
public import proofs.«01_k».proof.Proof.FfnExpert
public import Idealize.ShloMosaic.Lib.Pointwise

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open StableHlo (after launchContents)

/-! ## A gather of rows of 768 by rows of 128 -/

theorem gathered_row (A : S2048x768.Idx → Elt F .f32) (I : S12288.Idx → Elt F .i32) (n : ℕ → ℕ) (hn : ∀ p < 2048, n p < 2048)
    (hI : ∀ x : S12288.Idx, (show BitVec 32 from I x).toNat = n ((x 0).val / 6) * 6 + (x 0).val % 6) (p : Fin 2048) (d : Fin 768) :
    shapeCast S2048x768 (s := S12288x128) (gathered (F := F) (shapeCast S12288x128 (s := S2048x768) A shapeCasts_S2048x768_S12288x128) I)
      shapeCasts_S12288x128_S2048x768 (ix2 p d) = A (ix2 ⟨n p.val, hn p.val p.isLt⟩ d) := by
  have hp := p.isLt
  have hd := d.isLt
  have hnp := hn p.val p.isLt
  refine (shapeCast_apply (s := S12288x128) (t := S2048x768) _ shapeCasts_S12288x128_S2048x768 (ix2 p d)
    (at2 ⟨p.val * 6 + d.val / 128, by omega⟩ ⟨d.val % 128, Nat.mod_lt _ (by decide)⟩) ?_).trans ?_
  · refine (Shape.rowMajor_val_two (d := ![12288, 128]) _).trans ?_
    refine Eq.trans ?_ (Shape.rowMajor_val_two (d := ![2048, 768]) (ix2 p d)).symm
    show (p.val * 6 + d.val / 128) * 128 + d.val % 128 = p.val * 768 + d.val
    omega
  · refine (shapeCast_apply (s := S2048x768) (t := S12288x128) A shapeCasts_S2048x768_S12288x128 _ (ix2 ⟨n p.val, hnp⟩ d) ?_)
    refine (Shape.rowMajor_val_two (d := ![2048, 768]) _).trans ?_
    refine Eq.trans ?_ (Shape.rowMajor_val_two (d := ![12288, 128]) _).symm
    have hw := hI (at1 (n := 12288) ⟨p.val * 6 + d.val / 128, by omega⟩)
    have hw' : (show BitVec 32 from I (at1 (n := 12288) ⟨p.val * 6 + d.val / 128, by omega⟩)).toNat
        = n ((p.val * 6 + d.val / 128) / 6) * 6 + (p.val * 6 + d.val / 128) % 6 := hw
    have e1 : (p.val * 6 + d.val / 128) / 6 = p.val := by omega
    have e2 : (p.val * 6 + d.val / 128) % 6 = d.val / 128 := by omega
    rw [e1, e2] at hw'
    show n p.val * 768 + d.val = min (show BitVec 32 from I (at1 (n := 12288) ⟨p.val * 6 + d.val / 128, _⟩)).toNat 12287 * 128 + d.val % 128
    rw [hw']
    omega

/-! ## The arrays that the FFN reads -/

theorem V1_v0 (m : (ℓ : Loc nD τ sig) → Buf (Elt F) ℓ) (d : Dev nD) :
    V1 m d (Proc.devRef .tc main_v0) = shapeCast S2048x768 (s := S1x2048x768) (m (d, Proc.devRef .tc main_arg0)) shapeCasts_S1x2048x768_S2048x768 := by
  unfold V1
  simp only [ops1]
  after_results_simp <;> rfl

/-- The noisy logits. -/
def noisy (x : S1x2048x768.Idx → Elt F .f32) (gw : S768x8.Idx → Elt F .f32) (nw : S8.Idx → Elt F .f32) (nz : S2048x8.Idx → Elt F .f32) :
    FVec F S2048x8 .f32 :=
  addf (Host.dotGeneral dot_S2048x768_S768x8_S2048x8_1_0_0_1_n_n none (shapeCast S2048x768 (s := S1x2048x768) x shapeCasts_S1x2048x768_S2048x768) gw)
    (mulf nz (broadcastInDim S2048x8 ![0, 1] bcast_S1x8_S2048x8_0_1 (broadcastInDim S1x8 ![1] bcast_S8_S1x8_1 nw)))

theorem V1_v26 (m : (ℓ : Loc nD τ sig) → Buf (Elt F) ℓ) (d : Dev nD) :
    lgt m d = transpose S8x2048 [1, 0] (noisy (F := F) (m (d, Proc.devRef .tc main_arg0)) (m (d, Proc.devRef .tc main_arg1))
      (m (d, Proc.devRef .tc main_arg2)) (m (d, Proc.devRef .tc main_arg9))) transposes_S2048x8_S8x2048_1_0 := by
  unfold noisy
  show V1 m d (Proc.devRef .tc main_v26) = _
  unfold V1
  simp only [ops1]
  after_results_simp <;> rfl

/-- A logit that the routing reads. -/
theorem lgt_at (m : (ℓ : Loc nD τ sig) → Buf (Elt F) ℓ) (d : Dev nD) (e : Fin 8) (t : Fin 2048) :
    lgt m d (at8 e t) = noisy (F := F) (m (d, Proc.devRef .tc main_arg0)) (m (d, Proc.devRef .tc main_arg1))
      (m (d, Proc.devRef .tc main_arg2)) (m (d, Proc.devRef .tc main_arg9)) (ix2 t e) := by
  rw [V1_v26]
  generalize noisy (F := F) (m (d, Proc.devRef .tc main_arg0)) (m (d, Proc.devRef .tc main_arg1))
      (m (d, Proc.devRef .tc main_arg2)) (m (d, Proc.devRef .tc main_arg9)) = A
  refine congrArg A (funext fun a => ?_)
  match a with
  | ⟨0, _⟩ => rfl
  | ⟨1, _⟩ => rfl

theorem V5_arg (m : (ℓ : Loc nD τ sig) → Buf (Elt F) ℓ) (d : Dev nD) (r : Ref sig .tc)
    (hr : r ∈ ([main_arg3, main_arg5, main_arg7] : List (Ref sig .tc))) : V5 m d (Proc.devRef .tc r) = m (d, Proc.devRef .tc r) := by
  have := V9_arg m d r (by revert r; decide)
  refine Eq.trans ?_ this
  clear this
  obtain ⟨h5, h8, h4, h6⟩ :
      (r ∉ ([main_v57, main_v58, main_v59] : List (Ref sig .tc))) ∧
      (Proc.devRef (τ := τ) (sig := sig) .tc r ≠ Proc.devRef .tc main_v56) ∧
      (r ∉ ([main_v46, main_c_10, main_v47, main_v48, main_v49, main_v50, main_v51, main_v52, main_v53, main_v54, main_v55] : List (Ref sig .tc))) ∧
      (Proc.devRef (τ := τ) (sig := sig) .tc r ≠ Proc.devRef .tc main_v45) := by
    revert r; decide
  unfold V9; rw [keep5 h5]; unfold V8; rw [upd_ne _ _ _ _ h8]; unfold V7; rw [keep4 h4, V6_ne _ _ _ h6]

theorem V4_arg (m : (ℓ : Loc nD τ sig) → Buf (Elt F) ℓ) (d : Dev nD) (r : Ref sig .tc)
    (hr : r ∈ ([main_arg4, main_arg6, main_arg8] : List (Ref sig .tc))) : V4 m d (Proc.devRef .tc r) = m (d, Proc.devRef .tc r) := by
  have := V9_arg m d r (by revert r; decide)
  refine Eq.trans ?_ this
  clear this
  obtain ⟨h5, h8, h4, h6, h3⟩ :
      (r ∉ ([main_v57, main_v58, main_v59] : List (Ref sig .tc))) ∧
      (Proc.devRef (τ := τ) (sig := sig) .tc r ≠ Proc.devRef .tc main_v56) ∧
      (r ∉ ([main_v46, main_c_10, main_v47, main_v48, main_v49, main_v50, main_v51, main_v52, main_v53, main_v54, main_v55] : List (Ref sig .tc))) ∧
      (Proc.devRef (τ := τ) (sig := sig) .tc r ≠ Proc.devRef .tc main_v45) ∧
      (r ∉ ([main_v41, main_v42, main_v43, main_v44] : List (Ref sig .tc))) := by
    revert r; decide
  unfold V9; rw [keep5 h5]; unfold V8; rw [upd_ne _ _ _ _ h8]; unfold V7; rw [keep4 h4, V6_ne _ _ _ h6]; unfold V5; rw [keep3 h3]

/-- A row of the sorted tokens. -/
theorem V5_v41 (m : (ℓ : Loc nD τ sig) → Buf (Elt F) ℓ) (d : Dev nD) (r : Fin 2048) (i : Fin 768) :
    V5 m d (Proc.devRef .tc main_v41) (ix2 r i)
      = m (d, Proc.devRef .tc main_arg0) (ix3 0 ⟨token (expert (lgt m d)) r.val, token_lt _ _⟩ i) := by
  unfold V5
  rw [after3_v41]
  unfold V4
  rw [upd_self]
  unfold V3
  rw [after2_v39, routeV_ne _ _ (by decide) (by decide) (by decide) (by decide), V1_v0]
  refine (gathered_row _ _ (fun p => token (expert (lgt m d)) p) (fun p _ => token_lt _ p) (fun x => src_word m d x) r i).trans ?_
  refine (shapeCast_apply (s := S1x2048x768) (t := S2048x768) _ shapeCasts_S1x2048x768_S2048x768 _ (ix3 0 ⟨token (expert (lgt m d)) r.val, token_lt _ _⟩ i) ?_)
  refine (Shape.rowMajor_val_three (d := ![1, 2048, 768]) _).trans ?_
  refine Eq.trans ?_ (Shape.rowMajor_val_two (d := ![2048, 768]) _).symm
  show (0 * 2048 + token (expert (lgt m d)) r.val) * 768 + i.val = token (expert (lgt m d)) r.val * 768 + i.val
  omega

theorem bias_row {n : ℕ} (A : (⟨2, ![8, n]⟩ : Shape).Idx → Elt F .f32) (h : (⟨2, ![8, n]⟩ : Shape).ShapeCasts ⟨3, ![8, 1, n]⟩) (e : Fin 8) (k : Fin n) :
    shapeCast (⟨3, ![8, 1, n]⟩ : Shape) A h (ix3 e 0 k) = A (ix2 e k) := by
  refine shapeCast_apply (s := ⟨2, ![8, n]⟩) (t := ⟨3, ![8, 1, n]⟩) A h _ _ ?_
  refine (Shape.rowMajor_val_two (d := ![8, n]) _).trans ?_
  refine Eq.trans ?_ (Shape.rowMajor_val_three (d := ![8, 1, n]) _).symm
  show e.val * n + k.val = (e.val * 1 + 0) * n + k.val
  rw [Nat.mul_one, Nat.add_zero]

theorem V5_v42 (m : (ℓ : Loc nD τ sig) → Buf (Elt F) ℓ) (d : Dev nD) (e : Fin 8) (k : Fin 3072) :
    V5 m d (Proc.devRef .tc main_v42) (ix3 e 0 k) = m (d, Proc.devRef .tc main_arg4) (ix2 e k) := by
  unfold V5; rw [after3_v42, V4_arg _ _ _ (by decide)]; exact bias_row _ _ _ _

theorem V5_v43 (m : (ℓ : Loc nD τ sig) → Buf (Elt F) ℓ) (d : Dev nD) (e : Fin 8) (k : Fin 3072) :
    V5 m d (Proc.devRef .tc main_v43) (ix3 e 0 k) = m (d, Proc.devRef .tc main_arg6) (ix2 e k) := by
  unfold V5; rw [after3_v43, V4_arg _ _ _ (by decide)]; exact bias_row _ _ _ _

theorem V5_v44 (m : (ℓ : Loc nD τ sig) → Buf (Elt F) ℓ) (d : Dev nD) (e : Fin 8) (k : Fin 768) :
    V5 m d (Proc.devRef .tc main_v44) (ix3 e 0 k) = m (d, Proc.devRef .tc main_arg8) (ix2 e k) := by
  unfold V5; rw [after3_v44, V4_arg _ _ _ (by decide)]; exact bias_row _ _ _ _

/-! ## The three results -/

theorem V9_v59 (m : (ℓ : Loc nD τ sig) → Buf (Elt F) ℓ) (d : Dev nD) (t : Fin 2048) :
    V9 m d (Proc.devRef .tc main_v59) (ix2 t 0) = BitVec.ofNat 32 (expert (lgt m d) t.val) := by
  unfold V9
  rw [after5_v59]
  unfold V8
  rw [upd_ne _ _ _ _ (by decide)]
  unfold V7
  rw [keep4 (by decide), V6_ne _ _ _ (by decide), V5_route _ _ _ (by decide) (by decide) (by decide), routeV_0]
  rfl

theorem V9_v25 (m : (ℓ : Loc nD τ sig) → Buf (Elt F) ℓ) (d : Dev nD) :
    V9 m d (Proc.devRef .tc main_v25) = V1 m d (Proc.devRef .tc main_v25) := by
  unfold V9; rw [keep5 (by decide)]; unfold V8; rw [upd_ne _ _ _ _ (by decide)]; unfold V7
  rw [keep4 (by decide), V6_ne _ _ _ (by decide), V5_route _ _ _ (by decide) (by decide) (by decide),
    routeV_ne _ _ (by decide) (by decide) (by decide) (by decide)]

/-- A row of the first result is the row at the token's place among the sorted rows. -/
theorem V9_v58 (m : (ℓ : Loc nD τ sig) → Buf (Elt F) ℓ) (d : Dev nD) (t : Fin 2048) (j : Fin 768) :
    V9 m d (Proc.devRef .tc main_v58) (ix3 0 t j)
      = ffnOut (V5 m d) (hV5 m d) (ix2 ⟨place (expert (lgt m d)) 2048 t.val, place_lt _ 8 (fun t => expert_lt (lgt m d) t) t.isLt⟩ j) := by
  unfold V9
  rw [after5_v58]
  refine (shapeCast_apply (s := S2048x768) (t := S1x2048x768) _ shapeCasts_S2048x768_S1x2048x768 _ (ix2 t j) ?_).trans ?_
  · refine (Shape.rowMajor_val_two (d := ![2048, 768]) _).trans ?_
    refine Eq.trans ?_ (Shape.rowMajor_val_three (d := ![1, 2048, 768]) _).symm
    show t.val * 768 + j.val = (0 * 2048 + t.val) * 768 + j.val
    omega
  · unfold V8
    rw [upd_self]
    have e : V7 m d (Proc.devRef .tc main_v55) = shapeCast S12288x128 (s := S2048x768) (ffnOut (V5 m d) (hV5 m d)) shapeCasts_S2048x768_S12288x128 := by
      unfold V7
      rw [after4_v55]
      unfold V6 ffnV
      rw [upd_self]
    rw [e]
    exact gathered_row _ _ (fun p => place (expert (lgt m d)) 2048 p) (fun p hp => place_lt _ 8 (fun t => expert_lt (lgt m d) t) hp)
      (fun x => dest_word m d x) t j

/-- The first result over the extended reals: each token's row through its expert. -/
theorem result_row (m : (ℓ : Loc nD τ sig) → Buf (Elt Ideal) ℓ) (d : Dev nD) (t : Fin 2048) (j : Fin 768) :
    V9 m d (Proc.devRef .tc main_v58) (ix3 0 t j)
      = expertOut (fun i => m (d, Proc.devRef .tc main_arg0) (ix3 0 t i)) (m (d, Proc.devRef .tc main_arg3)) (m (d, Proc.devRef .tc main_arg4))
          (m (d, Proc.devRef .tc main_arg5)) (m (d, Proc.devRef .tc main_arg6)) (m (d, Proc.devRef .tc main_arg7)) (m (d, Proc.devRef .tc main_arg8))
          ⟨expert (lgt m d) t.val, expert_lt _ _⟩ j := by
  rw [V9_v58]
  refine (ffnOut_expert (offOk5 m d) (hV5 m d) _ j ⟨expert (lgt m d) t.val, expert_lt _ _⟩ (start_le_place _ _ _) (place_lt_start _ t.isLt)
    (m (d, Proc.devRef .tc main_arg4)) (m (d, Proc.devRef .tc main_arg6)) (m (d, Proc.devRef .tc main_arg8))
    (V5_v42 m d) (V5_v43 m d) (V5_v44 m d)).trans ?_
  rw [V5_arg _ _ main_arg3 (by decide), V5_arg _ _ main_arg5 (by decide), V5_arg _ _ main_arg7 (by decide)]
  refine congrArg (fun x => expertOut x _ _ _ _ _ _ _ j) (funext fun i => ?_)
  rw [V5_v41]
  refine congrArg (fun a : Fin 2048 => m (d, Proc.devRef .tc main_arg0) (ix3 0 a i)) (Fin.ext ?_)
  exact token_place _ t.isLt

end Cert.Proof.Moe

end
-- ==== Proof.RefTerms.lean ====
/-
  The reference's results as layered terms of its arguments.
-/
module

public import proofs.«01_k».proof.Proof.Gen.ReferenceIdeal.Run

@[expose] public section

noncomputable section

namespace Cert.Proof.MoeRef

open Cert.ReferenceIdeal Cert.ReferenceIdeal.Gen
open Idealize.ShloMosaic Idealize.SL.Sem

section Terms

variable {F : FTy → Type} [FloatOps F]

/-- The clean logits. -/
def clean (x : S1x2048x768.Idx → Elt F .f32) (gw : S768x8.Idx → Elt F .f32) : FVec F S2048x8 .f32 :=
  Host.dotGeneral dot_S2048x768_S768x8_S2048x8_1_0_0_1_n_n none (shapeCast S2048x768 (s := S1x2048x768) x shapeCasts_S1x2048x768_S2048x768) gw

/-- The noisy logits. -/
def noisy (x : S1x2048x768.Idx → Elt F .f32) (gw : S768x8.Idx → Elt F .f32) (nw : S8.Idx → Elt F .f32) (nz : S2048x8.Idx → Elt F .f32) :
    FVec F S2048x8 .f32 :=
  addf (clean (F := F) x gw) (mulf nz (broadcastInDim S2048x8 ![0, 1] bcast_S1x8_S2048x8_0_1 (broadcastInDim S1x8 ![1] bcast_S8_S1x8_1 nw)))

/-- The rows' maxima, below `L`. -/
def rowMax (L : FVec F S2048x8 .f32) : FVec F S2048x8 .f32 :=
  broadcastInDim S2048x8 ![0, 1] bcast_S2048x1_S2048x8_0_1 (broadcastInDim S2048x1 ![0] bcast_S2048_S2048x1_0
    (maximumf (broadcastInDim S2048 ![] bcast_S_S2048 (constant S_ .f32 0xFF800000#32))
      (Host.reduce FloatOps.maximumf L (constant S_ .f32 0xFF800000#32) reducesTo_S2048x8_S2048_d1 h_S_)))

/-- The softmax of each row. -/
def softmax (L : FVec F S2048x8 .f32) : FVec F S2048x8 .f32 :=
  Host.divf (Host.exp (subf L (rowMax L)))
    (broadcastInDim S2048x8 ![0, 1] bcast_S2048x1_S2048x8_0_1 (broadcastInDim S2048x1 ![0] bcast_S2048_S2048x1_0
      (Host.reduceAdd (Host.exp (subf L (rowMax L))) (constant S_ .f32 0x00000000#32) reducesTo_S2048x8_S2048_d1 h_S_)))

/-- Each expert's mean weight, less its fair share. -/
def excess (L : FVec F S2048x8 .f32) : FVec F S8 .f32 :=
  subf (Host.divf (Host.reduceAdd (softmax L) (constant S_ .f32 0x00000000#32) reducesTo_S2048x8_S8_d0 h_S_)
    (broadcastInDim S8 ![] bcast_S_S8 (constant S_ .f32 0x45000000#32))) (broadcastInDim S8 ![] bcast_S_S8 (constant S_ .f32 0x3E000000#32))

/-- The load balance loss. -/
def balance (L : FVec F S2048x8 .f32) : FVec F S_ .f32 :=
  mulf (Host.divf (Host.reduceAdd (mulf (excess L) (excess L)) (constant S_ .f32 0x00000000#32) reducesTo_S8_S_d0 h_S_)
    (constant S_ .f32 0x41000000#32)) (constant S_ .f32 0x3C23D70A#32)

/-- The words of an index, wrapped from below by `n`. -/
def wrapped (n : BitVec 32) (x : IVec S2048x1 32) : IVec S2048x1 32 :=
  select (cmpi .slt x (broadcastInDim S2048x1 ![] bcast_S_S2048x1 (constantI S_ 32 0#32)))
    (addi x (broadcastInDim S2048x1 ![] bcast_S_S2048x1 (constantI S_ 32 n))) x

/-- The token's row and its expert, as the scatter's indices. -/
def pairs (T : IVec S2048x1 32) : IVec S2048x1x2 32 :=
  concatenate S2048x1x2 2
    [⟨S2048x1x1, broadcastInDim S2048x1x1 ![0, 1] bcast_S2048x1_S2048x1x1_0_1
        (wrapped 2048#32 (broadcastInDim S2048x1 ![0] bcast_S2048_S2048x1_0 (iotaInDim S2048 32 0)))⟩,
     ⟨S2048x1x1, broadcastInDim S2048x1x1 ![0, 1] bcast_S2048x1_S2048x1x1_0_1 (wrapped 8#32 T)⟩]
    concatenates_S2048x1x1_S2048x1x1_S2048x1x2_d2

/-- The noisy logits with only each row's greatest kept. -/
def sparse (A : FVec F S2048x8 .f32) : FVec F S2048x8 .f32 :=
  Host.scatter scatter_S2048x8_S2048x1x2_S2048x1_n_01_01_2 (fun _ b => b) (broadcastInDim S2048x8 ![] bcast_S_S2048x8 (constant S_ .f32 0xFF800000#32))
    (pairs (Host.topK S2048x1 1 (FloatOps.cmpfTotal .gt) A sliceFits_S2048x8_S2048x1).2) (Host.topK S2048x1 1 (FloatOps.cmpfTotal .gt) A sliceFits_S2048x8_S2048x1).1

/-- The hidden values of every token and expert. -/
def hidden (x : S1x2048x768.Idx → Elt F .f32) (w : S8x768x3072.Idx → Elt F .f32) (b : S8x3072.Idx → Elt F .f32) : FVec F S2048x8x3072 .f32 :=
  addf (Host.dotGeneral dot_S2048x768_S8x768x3072_S2048x8x3072_1_1_0_02_n_n none
      (shapeCast S2048x768 (s := S1x2048x768) x shapeCasts_S1x2048x768_S2048x768) w)
    (broadcastInDim S2048x8x3072 ![0, 1, 2] bcast_S1x8x3072_S2048x8x3072_0_1_2 (broadcastInDim S1x8x3072 ![1, 2] bcast_S8x3072_S1x8x3072_1_2 b))

def silu (h : FVec F S2048x8x3072 .f32) : FVec F S2048x8x3072 .f32 :=
  mulf h (Host.divf (broadcastInDim S2048x8x3072 ![] bcast_S_S2048x8x3072 (constant S_ .f32 0x3F800000#32))
    (addf (broadcastInDim S2048x8x3072 ![] bcast_S_S2048x8x3072 (constant S_ .f32 0x3F800000#32)) (Host.exp (Host.negf h))))

/-- Every token through every expert. -/
def outs (x : S1x2048x768.Idx → Elt F .f32) (W1 : S8x768x3072.Idx → Elt F .f32) (B1 : S8x3072.Idx → Elt F .f32) (W2 : S8x768x3072.Idx → Elt F .f32)
    (B2 : S8x3072.Idx → Elt F .f32) (Wp : S8x3072x768.Idx → Elt F .f32) (Bp : S8x768.Idx → Elt F .f32) : FVec F S2048x8x768 .f32 :=
  addf (transpose S2048x8x768 [2, 0, 1] (Host.dotGeneral dot_S8x3072x768_S2048x8x3072_S8x768x2048_1_2_2_0_0_1 none Wp
      (mulf (hidden (F := F) x W1 B1) (silu (hidden (F := F) x W2 B2)))) transposes_S8x768x2048_S2048x8x768_2_0_1)
    (broadcastInDim S2048x8x768 ![0, 1, 2] bcast_S1x8x768_S2048x8x768_0_1_2 (broadcastInDim S1x8x768 ![1, 2] bcast_S8x768_S1x8x768_1_2 Bp))

/-- The weighted sum over the experts. -/
def mixed (G : FVec F S2048x8 .f32) (O : FVec F S2048x8x768 .f32) : FVec F S1x2048x768 .f32 :=
  shapeCast S1x2048x768 (s := S2048x768) (Host.dotGeneral dot_S2048x8_S2048x8x768_S2048x768_1_1_n_2_0_0 none G O) shapeCasts_S2048x768_S1x2048x768

end Terms

section Results

variable {F : FTy → Type} [FloatOps F] (m : (ℓ : Loc nD τ sig) → Buf (Elt F) ℓ) (c : Dev nD)

abbrev arg (b : Ref sig .tc) : Buf (Elt F) ((c.tc : Thread nD τ).loc b) := m ((c.tc : Thread nD τ).loc b)

theorem res_final : Value.res_main_v70 m c = mixed (F := F) (softmax (sparse (noisy (F := F) (arg m c main_arg0) (arg m c main_arg1) (arg m c main_arg2) (arg m c main_arg9))))
    (outs (F := F) (arg m c main_arg0) (arg m c main_arg3) (arg m c main_arg4) (arg m c main_arg5) (arg m c main_arg6) (arg m c main_arg7) (arg m c main_arg8)) := by
  unfold Value.res_main_v70 mixed softmax rowMax sparse noisy clean outs silu hidden pairs wrapped
  rfl

theorem ref_run (ρ : Dev nD → PrngReg) :
    θ_run defs (onTc (τ := τ) (main (F := F))) ⟨m, fun _ => 0, ρ⟩ fun r => ∀ c : Dev nD,
      r.2.mem ((c.tc : Thread nD τ).loc main_v70) = mixed (F := F) (softmax (sparse (noisy (F := F) (arg m c main_arg0) (arg m c main_arg1) (arg m c main_arg2) (arg m c main_arg9))))
          (outs (F := F) (arg m c main_arg0) (arg m c main_arg3) (arg m c main_arg4) (arg m c main_arg5) (arg m c main_arg6) (arg m c main_arg7) (arg m c main_arg8))
      ∧ r.2.mem ((c.tc : Thread nD τ).loc main_indices) = (Host.topK S2048x1 1 (FloatOps.cmpfTotal .gt)
          (noisy (F := F) (arg m c main_arg0) (arg m c main_arg1) (arg m c main_arg2) (arg m c main_arg9)) sliceFits_S2048x8_S2048x1).2
      ∧ r.2.mem ((c.tc : Thread nD τ).loc main_v53) = balance (clean (F := F) (arg m c main_arg0) (arg m c main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
    obtain ⟨h0, h1, h2, h3⟩ := h c
    refine ⟨h0.trans (res_final m c), h1.trans ?_, h2.trans ?_, h3⟩
    · unfold noisy clean; rfl
    · unfold balance excess softmax rowMax clean; rfl) (Value.run m ρ)

end Results

end Cert.Proof.MoeRef

end
-- ==== Proof.RefTop.lean ====
/-
  The first greatest value of a row: the kernel's comparisons and the reference's sort find the same one.
-/
module

public import proofs.«01_k».proof.Proof.Experts
public import Idealize.ShloMosaic.Lib.Pointwise

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The greatest of a row, the earliest among equals -/

/-- `e` is the first position of the greatest value of the row. -/
def IsFirst (f : Fin 8 → EReal) (e : Fin 8) : Prop := (∀ j, f j ≤ f e) ∧ ∀ j, j.val < e.val → f j < f e

theorem IsFirst.unique {f : Fin 8 → EReal} {a b : Fin 8} (ha : IsFirst f a) (hb : IsFirst f b) : a = b := by
  rcases Nat.lt_trichotomy a.val b.val with h | h | h
  · exact absurd (hb.2 a h) (not_lt.mpr (ha.1 b))
  · exact Fin.ext h
  · exact absurd (ha.2 b h) (not_lt.mpr (hb.1 a))

theorem cmp_gt_iff (a b : EReal) : Ideal.cmp .ogt a b = 1 ↔ b < a := by
  unfold Ideal.cmp
  by_cases h : b < a
  · simp [h]
  · simp [h]

/-- The kernel's running comparison finds it. -/
theorem best_first (X : S8x2048.Idx → Elt Ideal .f32) (t : Fin 2048) (n : ℕ) (hn : n < 8) :
    (best X t n).1 = logit X t (best X t n).2 ∧ (best X t n).2 ≤ n
      ∧ (∀ j, j ≤ n → (logit X t j : EReal) ≤ logit X t (best X t n).2) ∧ ∀ j, j < (best X t n).2 → (logit X t j : EReal) < logit X t (best X t n).2 := by
  induction n with
  | zero => exact ⟨rfl, Nat.le_refl _, fun j hj => by rw [Nat.le_zero.mp hj]; exact le_refl _, fun j hj => absurd hj (Nat.not_lt_zero _)⟩
  | succ n ih =>
    obtain ⟨h1, h2, h3, h4⟩ := ih (by omega)
    rw [best]
    by_cases hc : FloatOps.cmpf (F := Ideal) (φ := .f32) .ogt (logit X t (n + 1)) (best X t n).1 = 1
    · have hlt : (logit X t (best X t n).2 : EReal) < logit X t (n + 1) := by rw [← h1]; exact (cmp_gt_iff _ _).mp hc
      rw [if_pos hc]
      refine ⟨rfl, Nat.le_refl _, fun j hj => ?_, fun j hj => ?_⟩
      · rcases Nat.lt_or_ge j (n + 1) with h | h
        · exact (h3 j (by omega)).trans (le_of_lt hlt)
        · rw [Nat.le_antisymm hj h]
      · exact lt_of_le_of_lt (h3 j (by have : j < n + 1 := hj; omega)) hlt
    · have hle : (logit X t (n + 1) : EReal) ≤ logit X t (best X t n).2 := by
        rw [← h1]; exact not_lt.mp fun h => hc ((cmp_gt_iff _ _).mpr h)
      rw [if_neg hc]
      refine ⟨h1, h2.trans (Nat.le_succ _), fun j hj => ?_, h4⟩
      rcases Nat.lt_or_ge j (n + 1) with h | h
      · exact h3 j (by omega)
      · rw [Nat.le_antisymm hj h]; exact hle

theorem expert_first (X : S8x2048.Idx → Elt Ideal .f32) (t : Fin 2048) :
    IsFirst (fun e => X (at8 e t)) ⟨expert X t.val, expert_lt X t.val⟩ := by
  obtain ⟨_, h2, h3, h4⟩ := best_first X t 7 (by decide)
  have hE : expert X t.val = (best X t 7).2 := by unfold expert; rw [dif_pos t.isLt]
  have hL : ∀ e : Fin 8, logit X t e.val = X (at8 e t) := fun e => by
    unfold logit
    exact congrArg (fun k => X (at8 k t)) (Fin.ext (by show min e.val 7 = e.val; omega))
  have hT : logit X t (best X t 7).2 = X (at8 ⟨expert X t.val, expert_lt X t.val⟩ t) := by
    rw [← hE]; exact hL ⟨expert X t.val, expert_lt X t.val⟩
  refine ⟨fun j => ?_, fun j hj => ?_⟩
  · have := h3 j.val (by omega)
    rw [hT, hL] at this
    exact this
  · have := h4 j.val (by rw [← hE]; exact hj)
    rw [hT, hL] at this
    exact this

/-! ## The reference's sort finds it -/

theorem head_sort (f : Fin 8 → EReal) (before : Fin 8 → Fin 8 → Bool) (hb : ∀ a b, before a b = true ↔ f b < f a) :
    ∀ l : List (Fin 8), l.Pairwise (fun a b => a.val < b.val) → l ≠ [] →
      ∃ h r, stableSort before l = h :: r ∧ h ∈ l ∧ (∀ j ∈ l, f j ≤ f h) ∧ ∀ j ∈ l, j.val < h.val → f j < f h
  | [], _, hn => absurd rfl hn
  | a :: l, hp, _ => by
    rw [List.pairwise_cons] at hp
    by_cases hl : l = []
    · subst hl
      refine ⟨a, [], rfl, List.mem_cons_self .., fun j hj => ?_, fun j hj h => ?_⟩
      · rw [List.mem_singleton.mp hj]
      · rw [List.mem_singleton.mp hj] at h; exact absurd h (Nat.lt_irrefl _)
    · obtain ⟨h, r, e, hm, h1, h2⟩ := head_sort f before hb l hp.2 hl
      by_cases hc : before h a = true
      · have hlt := (hb h a).mp hc
        refine ⟨h, insertBefore before a r, ?_, List.mem_cons_of_mem _ hm, fun j hj => ?_, fun j hj hv => ?_⟩
        · rw [stableSort, e, insertBefore, if_pos hc]
        · rcases List.mem_cons.mp hj with rfl | hj
          · exact le_of_lt hlt
          · exact h1 j hj
        · rcases List.mem_cons.mp hj with rfl | hj
          · exact hlt
          · exact h2 j hj hv
      · have hle : f h ≤ f a := not_lt.mp fun q => hc ((hb h a).mpr q)
        refine ⟨a, h :: r, ?_, List.mem_cons_self .., fun j hj => ?_, fun j hj hv => ?_⟩
        · rw [stableSort, e, insertBefore, if_neg hc]
        · rcases List.mem_cons.mp hj with rfl | hj
          · exact le_refl _
          · exact (h1 j hj).trans hle
        · rcases List.mem_cons.mp hj with rfl | hj
          · exact absurd hv (Nat.lt_irrefl _)
          · exact absurd (hp.1 j hj) (by omega)

theorem sorted_first (f : Fin 8 → EReal) (before : Fin 8 → Fin 8 → Bool) (hb : ∀ a b, before a b = true ↔ f b < f a) :
    IsFirst f (sortedFrom before 0) := by
  have hp : (List.finRange 8).Pairwise (fun a b => a.val < b.val) := by decide
  obtain ⟨h, r, e, _, h1, h2⟩ := head_sort f before hb (List.finRange 8) hp (by decide)
  have hs : sortedFrom before 0 = h := by
    unfold sortedFrom
    have : ∀ (l : List (Fin 8)) (hl : l = h :: r) (k : Fin l.length), k.val = 0 → l.get k = h := by
      intro l hl k hk
      subst hl
      have : k = ⟨0, Nat.succ_pos _⟩ := Fin.ext hk
      subst this
      rfl
    exact this _ e _ rfl
  rw [hs]
  exact ⟨fun j => h1 j (List.mem_finRange j), fun j hj => h2 j (List.mem_finRange j) hj⟩

/-! ## The top-1 of a row, as the reference reads it -/

section Top

variable (A : FVec Ideal S2048x8 .f32) (h : S2048x8.Slices (fun _ => 0) S2048x1)

/-- The position of a row's greatest value. -/
def topPos (t : Fin 2048) : Fin 8 := sortedFrom (fun k k' => Ideal.cmp .ogt (A (ix2 t k)) (A (ix2 t k')) == 1#1) 0

theorem topPos_first (t : Fin 2048) : IsFirst (fun e => A (ix2 t e)) (topPos A t) :=
  sorted_first _ _ fun a b => by rw [beq_iff_eq]; exact cmp_gt_iff _ _

/-- The positions of a row, as the sort walks them. -/
def rowIdx (t : Fin 2048) (k : Fin 8) : S2048x8.Idx := Shape.Idx.along (s := S2048x8) (ix2 t 0) 1 k

theorem rowIdx_eq (t : Fin 2048) (k : Fin 8) : rowIdx t k = ix2 t k := by
  funext a
  match a with
  | ⟨0, _⟩ => rfl
  | ⟨1, _⟩ => rfl

theorem sort_row {β : Type} (y : S2048x8.Idx → β) (t : Fin 2048) :
    (Host.sort2 S2048x8 1 (fun l r => FloatOps.cmpfTotal (F := Ideal) (φ := .f32) .gt l.1 r.1) A y).1 (ix2 t 0) = A (ix2 t (topPos A t))
      ∧ (Host.sort2 S2048x8 1 (fun l r => FloatOps.cmpfTotal (F := Ideal) (φ := .f32) .gt l.1 r.1) A y).2 (ix2 t 0) = y (ix2 t (topPos A t)) := by
  have e : rowIdx t (sortedFrom (n := 8) (fun k k' => Ideal.cmp .ogt (A (rowIdx t k)) (A (rowIdx t k')) == 1#1) 0) = ix2 t (topPos A t) := by
    simp only [rowIdx_eq]
    rfl
  exact ⟨congrArg A e, congrArg y e⟩

theorem slice_row {α : Type} (x : S2048x8.Idx → α) (t : Fin 2048) : extractStridedSlice S2048x1 (fun _ => 0) x h (ix2 t 0) = x (ix2 t 0) := by
  refine congrArg x (funext fun a => ?_)
  match a with
  | ⟨0, _⟩ => exact Fin.ext (Nat.zero_add _)
  | ⟨1, _⟩ => rfl

/-- The positions that the sort carries along. -/
def positions : IVec S2048x8 32 := fun i => if hd : 1 < S2048x8.rank then iotaInDim S2048x8 32 ⟨1, hd⟩ i else 0#32

theorem top_value (t : Fin 2048) :
    (Host.topK S2048x1 1 (FloatOps.cmpfTotal (F := Ideal) (φ := .f32) .gt) A h).1 (ix2 t 0) = A (ix2 t (topPos A t)) :=
  (slice_row h _ t).trans (sort_row A positions t).1

theorem top_index (t : Fin 2048) :
    (Host.topK S2048x1 1 (FloatOps.cmpfTotal (F := Ideal) (φ := .f32) .gt) A h).2 (ix2 t 0) = BitVec.ofNat 32 (topPos A t).val :=
  (slice_row h _ t).trans (sort_row A positions t).2

end Top

end Cert.Proof.Moe

end
-- ==== Proof.RefGate.lean ====
/-
  The reference's gate: one at each token's first greatest noisy logit, zero elsewhere.
-/
module

public import proofs.«01_k».proof.Proof.RefTerms
public import proofs.«01_k».proof.Proof.RefTop
public import Idealize.ShloMosaic.Lib.Routing.OpsSet
public import Idealize.ShloMosaic.Lib.Routing.OpsPair
public import Idealize.ShloMosaic.Lib.IdealHost

@[expose] public section

noncomputable section

namespace Cert.Proof.MoeRef

open Cert.ReferenceIdeal Cert.ReferenceIdeal.Gen
open Idealize.ShloMosaic Idealize.SL.Sem

open Cert.Proof.Moe (topPos topPos_first top_value top_index IsFirst)
open Idealize.ShloMosaic.Routing (scatter_lands2 scatter_set_hit scatter_set_miss wrap_of_lt shape2 shape3)

/-! ## The scattered row -/

theorem pairs_row (T : IVec S2048x1 32) (t : Fin 2048) : (pairs T (ix3 t (0 : Fin 1) (0 : Fin 2))).toInt = t.val := by
  obtain ⟨t, ht⟩ := t
  unfold pairs wrapped
  pointwise
  rw [wrap_of_lt _ _ (by simp only [BitVec.toNat_ofNat]; omega)]
  rw [BitVec.toInt_eq_toNat_of_lt (by simp only [BitVec.toNat_ofNat]; omega)]
  simp only [BitVec.toNat_ofNat]
  omega

theorem pairs_col (T : IVec S2048x1 32) (t : Fin 2048) (e : Fin 8) (h : T (ix2 t 0) = BitVec.ofNat 32 e.val) :
    (pairs T (ix3 t (0 : Fin 1) (1 : Fin 2))).toInt = e.val := by
  obtain ⟨e, he⟩ := e
  unfold pairs wrapped
  pointwise
  rw [h]
  rw [wrap_of_lt _ _ (by simp only [BitVec.toNat_ofNat]; omega)]
  rw [BitVec.toInt_eq_toNat_of_lt (by simp only [BitVec.toNat_ofNat]; omega)]
  simp only [BitVec.toNat_ofNat]
  omega

theorem neg_inf : Ideal.ofBits .f32 0xFF800000#32 = ⊥ := by simp [Ideal.ofBits, Ideal.ieee]

theorem lands (T : IVec S2048x1 32) (p : Fin 2048 → Fin 8) (hT : ∀ t, T (ix2 t 0) = BitVec.ofNat 32 (p t).val) (t s : Fin 2048) (e : Fin 8) :
    scatter_S2048x8_S2048x1x2_S2048x1_n_01_01_2.resultIdx? (ix2 s (0 : Fin 1)) (pairs T) = some (ix2 t e) ↔ s = t ∧ p s = e := by
  refine (scatter_lands2 (R := 2048) (C := 8) (A := 2048) (B := 1) scatter_S2048x8_S2048x1x2_S2048x1_n_01_01_2 rfl rfl rfl (pairs T) s 0 t e).trans ?_
  have h1 := pairs_row T s
  have h2 := pairs_col T s (p s) (hT s)
  constructor
  · rintro ⟨a, b⟩
    exact ⟨Fin.ext (by exact_mod_cast h1.symm.trans a), Fin.ext (by exact_mod_cast h2.symm.trans b)⟩
  · rintro ⟨rfl, rfl⟩
    exact ⟨h1, h2⟩

theorem col_idx (k : S2048x1.Idx) : ∃ s : Fin 2048, k = ix2 s (0 : Fin 1) := by
  idx_vars k
  exact ⟨k0, by rw [Subsingleton.elim k1 0]⟩

theorem sparse_at (A : FVec Ideal S2048x8 .f32) (t : Fin 2048) (e : Fin 8) :
    sparse (F := Ideal) A (ix2 t e) = if e = topPos A t then A (ix2 t e) else (⊥ : EReal) := by
  have hT := top_index A sliceFits_S2048x8_S2048x1
  have hv := top_value A sliceFits_S2048x8_S2048x1
  unfold sparse
  generalize Host.topK S2048x1 1 (FloatOps.cmpfTotal (F := Ideal) (φ := .f32) .gt) A sliceFits_S2048x8_S2048x1 = T at hT hv
  have key := lands T.2 (topPos A) hT
  by_cases h : e = topPos A t
  · rw [if_pos h]
    refine scatter_set_hit _ _ _ _ _ _ (fun k hk => ?_) (ix2 t 0) ((key t t e).2 ⟨rfl, h.symm⟩)
    obtain ⟨s, rfl⟩ := col_idx k
    obtain ⟨rfl, rfl⟩ := (key t s e).1 hk
    exact hv s
  · rw [if_neg h]
    refine (scatter_set_miss _ _ _ _ _ (fun k hk => ?_)).trans ?_
    · obtain ⟨s, rfl⟩ := col_idx k
      obtain ⟨rfl, rfl⟩ := (key t s e).1 hk
      exact h rfl
    · pointwise
      exact neg_inf

/-! ## Its softmax is one at the chosen expert -/

theorem softmax_at (S : FVec Ideal S2048x8 .f32) (t : Fin 2048) (p : Fin 8) (v : ℝ)
    (hS : ∀ e, S (ix2 t e) = if e = p then (v : EReal) else ⊥) (e : Fin 8) :
    softmax (F := Ideal) S (ix2 t e) = if e = p then (1 : EReal) else 0 := by
  have hmax : ∀ s : Finset (Fin 8), Finset.fold max (⊥ : EReal) (fun x => if x = p then (v : EReal) else ⊥) s ≤ v := fun s =>
    Finset.fold_max_le _ |>.2 ⟨bot_le, fun x _ => by split <;> simp⟩
  have hM : Finset.fold max (⊥ : EReal) (fun x => if x = p then (v : EReal) else ⊥) Finset.univ = v :=
    le_antisymm (hmax _) (Finset.le_fold_max _ |>.2 (Or.inr ⟨p, Finset.mem_univ _, by simp⟩))
  have hE : ∀ x : Fin 8, Ideal.exp ((if x = p then (v : EReal) else ⊥) - v) = if x = p then (1 : EReal) else 0 := fun x => by
    by_cases hx : x = p
    · rw [if_pos hx, if_pos hx, ← EReal.coe_sub, sub_self, Ideal.exp_coe, Real.exp_zero]; rfl
    · rw [if_neg hx, if_neg hx, EReal.bot_sub, Ideal.exp_bot]
  unfold softmax rowMax
  pointwise
  simp only [hS, neg_inf]
  rw [hM, max_eq_right bot_le]
  simp only [hE]
  rw [Finset.sum_ite_eq' Finset.univ p, if_pos (Finset.mem_univ _)]
  rw [show (1 : EReal) = ((1 : ℝ) : EReal) from rfl, Ideal.div_coe one_ne_zero, one_div_one]
  exact mul_one _

/-- The gate of the reference. -/
theorem gate_at (A : FVec Ideal S2048x8 .f32) (t : Fin 2048) (e : Fin 8) (v : ℝ) (hv : A (ix2 t (topPos A t)) = v) :
    softmax (F := Ideal) (sparse A) (ix2 t e) = if e = topPos A t then (1 : EReal) else 0 :=
  softmax_at _ t _ v (fun e => by
    rw [sparse_at]
    by_cases h : e = topPos A t
    · rw [if_pos h, if_pos h, h, hv]
    · rw [if_neg h, if_neg h]) e

end Cert.Proof.MoeRef

end
-- ==== Proof.RefOut.lean ====
/-
  What the reference returns for a token, and that finite inputs give real logits.
-/
module

public import proofs.«01_k».proof.Proof.RefGate
public import proofs.«01_k».proof.Proof.FfnExpert

@[expose] public section

noncomputable section

namespace Cert.Proof.MoeRef

open Cert.ReferenceIdeal Cert.ReferenceIdeal.Gen
open Idealize.ShloMosaic Idealize.SL.Sem

open Cert.Proof.Moe (topPos expertOut hid gated)

variable (x : S1x2048x768.Idx → Elt Ideal .f32) (W1 : S8x768x3072.Idx → Elt Ideal .f32) (B1 : S8x3072.Idx → Elt Ideal .f32)
  (W2 : S8x768x3072.Idx → Elt Ideal .f32) (B2 : S8x3072.Idx → Elt Ideal .f32) (Wp : S8x3072x768.Idx → Elt Ideal .f32) (Bp : S8x768.Idx → Elt Ideal .f32)

theorem cast_row (t : Fin 2048) (i : Fin 768) :
    shapeCast S2048x768 (s := S1x2048x768) x shapeCasts_S1x2048x768_S2048x768 (ix2 t i) = x (ix3 (0 : Fin 1) t i) :=
  shapeCast_apply _ _ _ _ (by simp [Shape.rowMajor_val_two, Shape.rowMajor_val_three])

theorem hidden_at (t : Fin 2048) (e : Fin 8) (k : Fin 3072) :
    hidden (F := Ideal) x W1 B1 (ix3 t e k) = hid (fun i => x (ix3 (0 : Fin 1) t i)) (fun i => W1 (ix3 e i k)) (B1 (ix2 e k)) := by
  have hc := cast_row x t
  unfold hidden hid
  generalize shapeCast S2048x768 (s := S1x2048x768) x shapeCasts_S1x2048x768_S2048x768 = X at hc
  pointwise
  simp only [hc]

theorem silu_at (H : FVec Ideal S2048x8x3072 .f32) (j : S2048x8x3072.Idx) : silu (F := Ideal) H j = H j * Ideal.logistic (H j) := by
  unfold silu Ideal.logistic
  pointwise

theorem outs_at (t : Fin 2048) (e : Fin 8) (d : Fin 768) :
    outs (F := Ideal) x W1 B1 W2 B2 Wp Bp (ix3 t e d) = expertOut (fun i => x (ix3 (0 : Fin 1) t i)) W1 B1 W2 B2 Wp Bp e d := by
  have h1 := hidden_at x W1 B1 t e
  have h2 := hidden_at x W2 B2 t e
  unfold outs expertOut gated
  generalize hidden (F := Ideal) x W1 B1 = H1 at h1
  generalize hidden (F := Ideal) x W2 B2 = H2 at h2
  pointwise
  simp only [silu_at, h1, h2]
  refine congrArg (· + _) (Finset.sum_congr rfl fun k _ => ?_)
  exact mul_comm _ _

theorem mixed_at (G : FVec Ideal S2048x8 .f32) (O : FVec Ideal S2048x8x768 .f32) (t : Fin 2048) (d : Fin 768) :
    mixed (F := Ideal) G O (ix3 (0 : Fin 1) t d) = ∑ e : Fin 8, G (ix2 t e) * O (ix3 t e d) := by
  unfold mixed
  refine (shapeCast_apply _ _ _ (ix2 t d) (by simp [Shape.rowMajor_val_two, Shape.rowMajor_val_three])).trans ?_
  pointwise

/-- What the reference returns for a token: the output of the expert that the gate chooses. -/
theorem final_at (A : FVec Ideal S2048x8 .f32) (t : Fin 2048) (v : ℝ) (hv : A (ix2 t (topPos A t)) = v) (d : Fin 768) :
    mixed (F := Ideal) (softmax (sparse A)) (outs (F := Ideal) x W1 B1 W2 B2 Wp Bp) (ix3 (0 : Fin 1) t d)
      = expertOut (fun i => x (ix3 (0 : Fin 1) t i)) W1 B1 W2 B2 Wp Bp (topPos A t) d := by
  rw [mixed_at, Finset.sum_eq_single (topPos A t)]
  · rw [gate_at A t _ v hv, if_pos rfl, outs_at]; exact one_mul _
  · intro e _ he
    rw [gate_at A t _ v hv, if_neg he]; exact zero_mul _
  · exact fun h => absurd (Finset.mem_univ _) h

/-! ## Real logits -/

theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

theorem real_add {a b : EReal} (ha : ∃ r : ℝ, a = r) (hb : ∃ r : ℝ, b = r) : ∃ r : ℝ, a + b = r := by
  obtain ⟨r, rfl⟩ := ha
  obtain ⟨s, rfl⟩ := hb
  exact ⟨r + s, (EReal.coe_add r s).symm⟩

theorem real_sum {ι : Type} (s : Finset ι) (f : ι → EReal) (h : ∀ i, ∃ r : ℝ, f i = r) : ∃ r : ℝ, ∑ i ∈ s, f i = r := by
  exact Finset.sum_induction f (fun a => ∃ r : ℝ, a = r) (fun a b ha hb => real_add ha hb) ⟨0, rfl⟩ fun i _ => h i

theorem noisy_real (gw : S768x8.Idx → Elt Ideal .f32) (nw : S8.Idx → Elt Ideal .f32) (nz : S2048x8.Idx → Elt Ideal .f32)
    (hx : ∀ i, ∃ r : ℝ, x i = (r : EReal)) (hg : ∀ i, ∃ r : ℝ, gw i = (r : EReal)) (hn : ∀ i, ∃ r : ℝ, nw i = (r : EReal))
    (hz : ∀ i, ∃ r : ℝ, nz i = (r : EReal)) (t : Fin 2048) (e : Fin 8) : ∃ r : ℝ, noisy (F := Ideal) x gw nw nz (ix2 t e) = (r : EReal) := by
  have hc := cast_row x t
  unfold noisy clean
  generalize shapeCast S2048x768 (s := S1x2048x768) x shapeCasts_S1x2048x768_S2048x768 = X at hc
  pointwise
  simp only [hc]
  exact real_add (real_sum _ _ fun i => real_mul (hx _) (hg _)) (real_mul (hz _) (hn _))

end Cert.Proof.MoeRef

end
-- ==== Proof.Agree.lean ====
/-
  The kernel's three results and the reference's, equal.
-/
module

public import proofs.«01_k».proof.Proof.KernelOut
public import proofs.«01_k».proof.Proof.RefOut
public import Idealize.ShloMosaic.Lib.StableHlo.RunRead

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

section Agree

variable (m : (ℓ : Loc nD τ sig) → Buf (Elt Ideal) ℓ) (d : Dev nD)

abbrev karg (b : Ref sig .tc) : Buf (Elt Ideal) (d, Proc.devRef (τ := τ) .tc b) := m (d, Proc.devRef .tc b)

abbrev klogits : FVec Ideal S2048x8 .f32 :=
  MoeRef.noisy (F := Ideal) (karg m d main_arg0) (karg m d main_arg1) (karg m d main_arg2) (karg m d main_arg9)

/-- The kernel's expert of a token is the reference's. -/
theorem expert_agrees (t : Fin 2048) : (⟨expert (lgt m d) t.val, expert_lt _ _⟩ : Fin 8) = topPos (klogits m d) t := by
  have h := expert_first (lgt m d) t
  have e : (fun e => lgt m d (at8 e t)) = fun e => klogits m d (ix2 t e) := funext fun e => lgt_at m d e t
  rw [e] at h
  exact h.unique (topPos_first _ t)

/-- The second result. -/
theorem indices_agree : V9 m d (Proc.devRef .tc main_v59)
    = (Host.topK S2048x1 1 (FloatOps.cmpfTotal (F := Ideal) (φ := .f32) .gt) (klogits m d) Cert.ReferenceIdeal.Gen.sliceFits_S2048x8_S2048x1).2 := by
  refine funext fun (k : S2048x1.Idx) => ?_
  obtain ⟨t, rfl⟩ := MoeRef.col_idx k
  refine (V9_v59 m d t).trans ?_
  refine Eq.trans ?_ (top_index (klogits m d) _ t).symm
  rw [← expert_agrees]

/-- The third result. -/
theorem balance_agrees : V9 m d (Proc.devRef .tc main_v25) = MoeRef.balance (MoeRef.clean (F := Ideal) (karg m d main_arg0) (karg m d main_arg1)) := by
  refine (V9_v25 m d).trans ?_
  unfold MoeRef.balance MoeRef.excess MoeRef.softmax MoeRef.rowMax MoeRef.clean
  unfold V1
  simp only [ops1]
  after_results_simp <;> rfl

theorem row_idx (k : S1x2048x768.Idx) : ∃ (t : Fin 2048) (j : Fin 768), k = ix3 (0 : Fin 1) t j := by
  idx_vars k
  exact ⟨k1, k2, by rw [Subsingleton.elim k0 0]⟩

/-- The first result. -/
theorem final_agrees (h : ∀ t e, ∃ r : ℝ, klogits m d (ix2 t e) = (r : EReal)) : V9 m d (Proc.devRef .tc main_v58)
    = MoeRef.mixed (F := Ideal) (MoeRef.softmax (MoeRef.sparse (klogits m d)))
        (MoeRef.outs (F := Ideal) (karg m d main_arg0) (karg m d main_arg3) (karg m d main_arg4) (karg m d main_arg5) (karg m d main_arg6)
          (karg m d main_arg7) (karg m d main_arg8)) := by
  refine funext fun (k : S1x2048x768.Idx) => ?_
  obtain ⟨t, j, rfl⟩ := row_idx k
  refine (result_row m d t j).trans ?_
  obtain ⟨v, hv⟩ := h t (topPos (klogits m d) t)
  refine Eq.trans ?_ (MoeRef.final_at _ _ _ _ _ _ _ (klogits m d) t v hv j).symm
  rw [expert_agrees]

end Agree

end Cert.Proof.Moe

end
-- ==== Proof.Finite.lean ====
/-
  The precondition: what its printed test says of the arrays.
-/
module

public import proofs.«01_k».proof.Proof.Gen.ReferenceIdeal.Run
public import proofs.«01_k».proof.Pre_routed_finite
public import Idealize.ShloMosaic.Lib.ReduceAll
public import Idealize.ShloMosaic.Lib.Affine
public import Idealize.ShloMosaic.Lib.IdealHost

@[expose] public section

noncomputable section

namespace Cert.Proof.MoeRef

open Cert.ReferenceIdeal Cert.ReferenceIdeal.Gen
open Idealize.ShloMosaic Idealize.SL.Sem

instance preFacts : Cert.Pre_routed_finite.Facts where
  bcast_S_S1x2048x768 := by decide
  reducesTo_S1x2048x768_S_d0_1_2 := by decide
  h_S_ := by decide
  bcast_S_S768x8 := by decide
  reducesTo_S768x8_S_d0_1 := by decide
  bcast_S_S8 := by decide
  reducesTo_S8_S_d0 := by decide
  bcast_S_S2048x8 := by decide
  reducesTo_S2048x8_S_d0_1 := by decide

theorem real_of_abs_lt (a : EReal) (h : max a (-a) < ⊤) : ∃ r : ℝ, a = r := by
  induction a with
  | bot => simp at h
  | top => simp at h
  | coe r => exact ⟨r, rfl⟩

theorem pos_inf : Ideal.ofBits .f32 0x7F800000#32 = ⊤ := by simp [Ideal.ofBits, Ideal.ieee]

/-- An array whose printed test of finiteness is true holds reals. -/
theorem real_of_test {s : Shape} (x : FVec Ideal s .f32) (hb : S_.BroadcastsInDim s (![] : Fin 0 → Fin s.rank)) {axes : List (Fin s.rank)}
    (hr : s.ReducesTo axes S_) (hu : 0 < S_.numel) (init : IVec S_ 1) (j : S_.Idx)
    (e : Host.reduce IntOp.andi (cmpf .olt (Host.absf x) (broadcastInDim s ![] hb (constant S_ .f32 0x7F800000#32))) init hr hu j = 1#1) (i : s.Idx) :
    ∃ r : ℝ, x i = (r : EReal) := by
  haveI : Subsingleton S_.Idx := ⟨fun a b => funext fun k => k.elim0⟩
  have h := Host.reduce_andi_all _ init hr hu j e i
  refine real_of_abs_lt _ ?_
  have h2 : Ideal.cmp .olt (max (x i) (-(x i))) (Ideal.ofBits .f32 0x7F800000#32) = 1#1 := h
  rw [pos_inf] at h2
  unfold Ideal.cmp at h2
  by_contra hc
  simp only [hc, decide_false] at h2
  exact absurd h2 (by decide)

theorem pre_real (x : S1x2048x768.Idx → Elt Ideal .f32) (gw : S768x8.Idx → Elt Ideal .f32) (nw : S8.Idx → Elt Ideal .f32)
    (W1 : S8x768x3072.Idx → Elt Ideal .f32) (B1 : S8x3072.Idx → Elt Ideal .f32)
    (W2 : S8x768x3072.Idx → Elt Ideal .f32) (B2 : S8x3072.Idx → Elt Ideal .f32) (Wp : S8x3072x768.Idx → Elt Ideal .f32)
    (Bp : S8x768.Idx → Elt Ideal .f32) (nz : S2048x8.Idx → Elt Ideal .f32)
    (h : Cert.Pre_routed_finite.fn (F := Ideal) x gw nw W1 B1 W2 B2 Wp Bp nz = fun _ => 1#1) :
    (∀ i, ∃ r : ℝ, x i = (r : EReal)) ∧ (∀ i, ∃ r : ℝ, gw i = (r : EReal)) ∧ (∀ i, ∃ r : ℝ, nw i = (r : EReal)) ∧ ∀ i, ∃ r : ℝ, nz i = (r : EReal) := by
  have h0 := congrFun h (fun k => k.elim0)
  unfold Cert.Pre_routed_finite.fn Cert.Pre_routed_finite.fn_part1 at h0
  obtain ⟨ha, hb⟩ := IntOp.andi_eq_one.1 h0
  obtain ⟨h1, h2⟩ := IntOp.andi_eq_one.1 ha
  obtain ⟨h3, h4⟩ := IntOp.andi_eq_one.1 hb
  exact ⟨real_of_test _ _ _ _ _ _ h1, real_of_test _ _ _ _ _ _ h2, real_of_test _ _ _ _ _ _ h3, real_of_test _ _ _ _ _ _ h4⟩

end Cert.Proof.MoeRef

end
-- ==== Proof.Take.lean ====
/-
  The arrays of the three calls, taken out of the TensorCore's and put back.
-/
module

public import proofs.«01_k».proof.Proof.Values
public import Mathlib.Logic.Equiv.Fin.Basic

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.Pipeline (ucRefs)

/-! ## A call's tasks, counted by core and subcore -/

/-- The tasks' numbers are the pairs of a core and a subcore. -/
def taskEquiv : Fin 2 × Fin 16 ≃ Fin 32 := (Equiv.prodComm _ _).trans finProdFinEquiv

theorem taskEquiv_eq (c : Fin 2) (i : Fin 16) : taskEquiv (c, i) = wid c.val i.val := by
  apply Fin.ext
  show c.val + 2 * i.val = (2 * i.val + c.val) % 32
  have := c.isLt; have := i.isLt; omega

theorem grid32 (Φ : Fin 32 → sProp (MM F)) :
    (bigSep Finset.univ fun c : Fin 2 => bigSep Finset.univ fun i : Fin 16 => Φ (wid c.val i.val)) = bigSep Finset.univ Φ := by
  rw [bigSep_univ_equiv taskEquiv Φ, bigSep_univ_prod]
  exact bigSep_congr fun c _ => bigSep_congr fun i _ => by rw [taskEquiv_eq]

theorem grid_sep (A B C : ℕ → ℕ → sProp (MM F)) :
    (bigSep Finset.univ fun c : Fin 2 => bigSep Finset.univ fun i : Fin 16 => iprop(A c.val i.val ∗ B c.val i.val ∗ C c.val i.val))
      = iprop((bigSep Finset.univ fun c : Fin 2 => bigSep Finset.univ fun i : Fin 16 => A c.val i.val)
        ∗ (bigSep Finset.univ fun c : Fin 2 => bigSep Finset.univ fun i : Fin 16 => B c.val i.val)
        ∗ bigSep Finset.univ fun c : Fin 2 => bigSep Finset.univ fun i : Fin 16 => C c.val i.val) := by
  rw [← bigSep_sep', ← bigSep_sep']
  refine bigSep_congr fun c _ => ?_
  rw [← bigSep_sep', ← bigSep_sep']

/-- The shares of an array that a call's tasks hold are the whole array. -/
theorem shares_eq {ℓ : Loc nD τ sig} (f : Buf (Elt F) ℓ) :
    (bigSep Finset.univ fun c : Fin 2 => bigSep Finset.univ fun i : Fin 16 => (ℓ ↦{ShareLeaves.leaf 5 fullShare (wid c.val i.val)} f : sProp (MM F)))
      = (ℓ ↦{fullShare} f : sProp (MM F)) := by
  rw [grid32 fun w => (ℓ ↦{ShareLeaves.leaf 5 fullShare w} f : sProp (MM F))]
  exact (ShareLeaves.pointsTo_leaves Finset.univ f 5 fullShare).symm

/-- The blocks of the first gather's result that its tasks hold are the whole of it. -/
theorem blocks1_eq (d : Dev nD) (f : Buf (Elt F) (tloc d main_v40)) :
    (bigSep Finset.univ fun c : Fin 2 => bigSep Finset.univ fun i : Fin 16 => (tloc d main_v40 ↦[outSet (wid c.val i.val)]{fullShare} f : sProp (MM F)))
      = (tloc d main_v40 ↦{fullShare} f : sProp (MM F)) := by
  rw [grid32 fun w => (tloc d main_v40 ↦[outSet w]{fullShare} f : sProp (MM F))]
  refine (pointsTo_biUnion (ℓ := tloc d main_v40) Finset.univ outSet fun t _ t' _ h => Rect.part_disjoint odiv h).symm.trans ?_
  exact congrArg (fun S => (tloc d main_v40 ↦[S]{fullShare} f : sProp (MM F))) (Rect.biUnion_part odiv)

theorem blocks3_eq (d : Dev nD) (f : Buf (Elt F) (tloc d main_v56)) :
    (bigSep Finset.univ fun c : Fin 2 => bigSep Finset.univ fun i : Fin 16 => (tloc d main_v56 ↦[outSet (wid c.val i.val)]{fullShare} f : sProp (MM F)))
      = (tloc d main_v56 ↦{fullShare} f : sProp (MM F)) := by
  rw [grid32 fun w => (tloc d main_v56 ↦[outSet w]{fullShare} f : sProp (MM F))]
  refine (pointsTo_biUnion (ℓ := tloc d main_v56) Finset.univ outSet fun t _ t' _ h => Rect.part_disjoint odiv h).symm.trans ?_
  exact congrArg (fun S => (tloc d main_v56 ↦[S]{fullShare} f : sProp (MM F))) (Rect.biUnion_part odiv)

/-! ## What the calls take and bring back, as whole arrays -/

theorem st1_eq (A0 A1 A2 : Vals F) (d : Dev nD) :
    (bigSep Finset.univ fun c : Fin ((K (F := F)).nCore 1) => (P A0 A1 A2).st 1 d c)
      = iprop(pts A1 d main_v39 ∗ pts A1 d main_v38 ∗ pts A1 d main_v40) := by
  show (bigSep Finset.univ fun c : Fin 2 => bigSep Finset.univ fun i : Fin 16 => goG1 A1 d c.val i.val) = _
  unfold goG1
  refine (grid_sep (F := F) (fun c i => tloc d main_v39 ↦{ShareLeaves.leaf 5 fullShare (wid c i)} A1 d (Proc.devRef .tc main_v39))
    (fun c i => tloc d main_v38 ↦{ShareLeaves.leaf 5 fullShare (wid c i)} A1 d (Proc.devRef .tc main_v38))
    (fun c i => tloc d main_v40 ↦[outSet (wid c i)]{fullShare} A1 d (Proc.devRef .tc main_v40))).trans ?_
  rw [shares_eq, shares_eq, blocks1_eq]

theorem dn1_eq (A0 A1 A2 : Vals F) (d : Dev nD) :
    (bigSep Finset.univ fun c : Fin ((K (F := F)).nCore 1) => (P A0 A1 A2).dn 1 d c)
      = iprop(pts A1 d main_v39 ∗ pts A1 d main_v38
        ∗ ptsAt (F := F) d main_v40 (gathered (F := F) (A1 d (Proc.devRef .tc main_v39)) (A1 d (Proc.devRef .tc main_v38)))) := by
  show (bigSep Finset.univ fun c : Fin 2 => bigSep Finset.univ fun i : Fin 16 => tdG1 A1 d c.val i.val) = _
  unfold tdG1
  refine (grid_sep (F := F) (fun c i => tloc d main_v39 ↦{ShareLeaves.leaf 5 fullShare (wid c i)} A1 d (Proc.devRef .tc main_v39))
    (fun c i => tloc d main_v38 ↦{ShareLeaves.leaf 5 fullShare (wid c i)} A1 d (Proc.devRef .tc main_v38))
    (fun c i => tloc d main_v40 ↦[outSet (wid c i)]{fullShare} gathered (F := F) (A1 d (Proc.devRef .tc main_v39)) (A1 d (Proc.devRef .tc main_v38)))).trans ?_
  rw [shares_eq, shares_eq, blocks1_eq]

theorem st2_eq (A0 A1 A2 : Vals F) (d : Dev nD) :
    (bigSep Finset.univ fun c : Fin ((K (F := F)).nCore 2) => (P A0 A1 A2).st 2 d c)
      = iprop(pts A2 d main_v55 ∗ pts A2 d main_v54 ∗ pts A2 d main_v56) := by
  show (bigSep Finset.univ fun c : Fin 2 => bigSep Finset.univ fun i : Fin 16 => goG3 A2 d c.val i.val) = _
  unfold goG3
  refine (grid_sep (F := F) (fun c i => tloc d main_v55 ↦{ShareLeaves.leaf 5 fullShare (wid c i)} A2 d (Proc.devRef .tc main_v55))
    (fun c i => tloc d main_v54 ↦{ShareLeaves.leaf 5 fullShare (wid c i)} A2 d (Proc.devRef .tc main_v54))
    (fun c i => tloc d main_v56 ↦[outSet (wid c i)]{fullShare} A2 d (Proc.devRef .tc main_v56))).trans ?_
  rw [shares_eq, shares_eq, blocks3_eq]

theorem dn2_eq (A0 A1 A2 : Vals F) (d : Dev nD) :
    (bigSep Finset.univ fun c : Fin ((K (F := F)).nCore 2) => (P A0 A1 A2).dn 2 d c)
      = iprop(pts A2 d main_v55 ∗ pts A2 d main_v54
        ∗ ptsAt (F := F) d main_v56 (gathered (F := F) (A2 d (Proc.devRef .tc main_v55)) (A2 d (Proc.devRef .tc main_v54)))) := by
  show (bigSep Finset.univ fun c : Fin 2 => bigSep Finset.univ fun i : Fin 16 => tdG3 A2 d c.val i.val) = _
  unfold tdG3
  refine (grid_sep (F := F) (fun c i => tloc d main_v55 ↦{ShareLeaves.leaf 5 fullShare (wid c i)} A2 d (Proc.devRef .tc main_v55))
    (fun c i => tloc d main_v54 ↦{ShareLeaves.leaf 5 fullShare (wid c i)} A2 d (Proc.devRef .tc main_v54))
    (fun c i => tloc d main_v56 ↦[outSet (wid c i)]{fullShare} gathered (F := F) (A2 d (Proc.devRef .tc main_v55)) (A2 d (Proc.devRef .tc main_v54)))).trans ?_
  rw [shares_eq, shares_eq, blocks3_eq]

theorem emps {I : Type} (s : Finset I) : (bigSep s fun _ => (iprop(emp) : sProp (MM F))) = iprop(emp) := bigSep_emp_const s

theorem sep_emp' (X : sProp (MM F)) : iprop(X ∗ emp) = X :=
  BI.Entails.antisymm (show iprop(X ∗ emp) ⊢ X by iintro ⟨H, -⟩; iexact H) (show X ⊢ iprop(X ∗ emp) by
    iintro H
    isplitl [H]; · iexact H
    iempintro)

/-- Of a grid where only the first tile holds anything, what it holds. -/
theorem first_only (a b : ℕ) (X : sProp (MM F)) :
    (bigSep Finset.univ fun c : Fin (a + 1) => bigSep Finset.univ fun i : Fin (b + 1) => if c.val = 0 ∧ i.val = 0 then X else iprop(emp)) = X := by
  have hin : ∀ c : Fin (a + 1), (bigSep Finset.univ fun i : Fin (b + 1) => if c.val = 0 ∧ i.val = 0 then X else iprop(emp)) = if c.val = 0 then X else iprop(emp) := by
    intro c
    by_cases hc : c.val = 0
    · rw [if_pos hc, SparseCore.bigSep_erase' (Finset.mem_univ (0 : Fin (b + 1))), if_pos ⟨hc, rfl⟩,
        bigSep_congr (Ψ := fun _ => iprop(emp)) fun i hi => if_neg fun h => (Finset.mem_erase.mp hi).1 (Fin.ext h.2), emps]
      exact sep_emp' X
    · rw [if_neg hc, bigSep_congr (Ψ := fun _ => iprop(emp)) fun i hi => if_neg fun h => hc h.1, emps]
  rw [bigSep_congr fun c _ => hin c, SparseCore.bigSep_erase' (Finset.mem_univ (0 : Fin (a + 1))), if_pos (show (((0 : Fin (a + 1)) : Fin (a + 1)) : ℕ) = 0 from rfl),
    bigSep_congr (Φ := fun c : Fin (a + 1) => if c.val = 0 then X else iprop(emp)) (Ψ := fun _ => iprop(emp)) fun i hi => if_neg fun h => (Finset.mem_erase.mp hi).1 (Fin.ext h), emps]
  exact sep_emp' X

theorem st0_eq (A0 A1 A2 : Vals F) (d : Dev nD) :
    (bigSep Finset.univ fun c : Fin ((K (F := F)).nCore 0) => (P A0 A1 A2).st 0 d c)
      = iprop(pts A0 d main_v26 ∗ pts A0 d main_v27_0 ∗ pts A0 d main_v27_1 ∗ pts A0 d main_v27_2 ∗ pts A0 d main_v27_3) :=
  first_only 1 15 _

theorem dn0_eq (A0 A1 A2 : Vals F) (d : Dev nD) :
    (bigSep Finset.univ fun c : Fin ((K (F := F)).nCore 0) => (P A0 A1 A2).dn 0 d c)
      = iprop(pts A0 d main_v26 ∗ ptsAt (F := F) d main_v27_0 (topiOf (F := F) (A0 d (Proc.devRef .tc main_v26)))
      ∗ ptsAt (F := F) d main_v27_1 (destOf (F := F) (A0 d (Proc.devRef .tc main_v26)))
      ∗ ptsAt (F := F) d main_v27_2 (srcOf (F := F) (A0 d (Proc.devRef .tc main_v26)))
      ∗ ptsAt (F := F) d main_v27_3 (startOf (F := F) (A0 d (Proc.devRef .tc main_v26)))) :=
  first_only 1 15 _

/-! ## The calls' arrays among all of the TensorCore's -/

/-- The arrays of the three calls. -/
def refs0 : Finset (DevRef τ sig) := {Proc.devRef .tc main_v26, Proc.devRef .tc main_v27_0, Proc.devRef .tc main_v27_1, Proc.devRef .tc main_v27_2, Proc.devRef .tc main_v27_3}
def refs1 : Finset (DevRef τ sig) := {Proc.devRef .tc main_v39, Proc.devRef .tc main_v38, Proc.devRef .tc main_v40}
def refs2 : Finset (DevRef τ sig) := {Proc.devRef .tc main_v55, Proc.devRef .tc main_v54, Proc.devRef .tc main_v56}

theorem mem_ucRefs (r : Ref sig .tc) (h : r.isScoped = false) : Proc.devRef (τ := τ) .tc r ∈ ucRefs τ sig :=
  Finset.mem_filter.mpr ⟨StableHlo.devRef_mem_tcRefs r, by simpa using h⟩

theorem refs0_sub : refs0 ⊆ ucRefs τ sig := by
  intro b hb
  simp only [refs0, Finset.mem_insert, Finset.mem_singleton] at hb
  rcases hb with h | h | h | h | h <;> subst h <;> exact mem_ucRefs _ rfl
theorem refs1_sub : refs1 ⊆ ucRefs τ sig := by
  intro b hb
  simp only [refs1, Finset.mem_insert, Finset.mem_singleton] at hb
  rcases hb with h | h | h <;> subst h <;> exact mem_ucRefs _ rfl
theorem refs2_sub : refs2 ⊆ ucRefs τ sig := by
  intro b hb
  simp only [refs2, Finset.mem_insert, Finset.mem_singleton] at hb
  rcases hb with h | h | h <;> subst h <;> exact mem_ucRefs _ rfl

theorem held_refs0 (A : Vals F) (d : Dev nD) :
    (StableHlo.held (d.tc : Thread nD τ) refs0 (A d) : sProp (MM F))
      = iprop(pts A d main_v26 ∗ pts A d main_v27_0 ∗ pts A d main_v27_1 ∗ pts A d main_v27_2 ∗ pts A d main_v27_3) := by
  unfold StableHlo.held refs0
  rw [SparseCore.bigSep_insert' (by decide), SparseCore.bigSep_insert' (by decide), SparseCore.bigSep_insert' (by decide), SparseCore.bigSep_insert' (by decide), bigSep_singleton]

theorem held_refs1 (A : Vals F) (d : Dev nD) :
    (StableHlo.held (d.tc : Thread nD τ) refs1 (A d) : sProp (MM F)) = iprop(pts A d main_v39 ∗ pts A d main_v38 ∗ pts A d main_v40) := by
  unfold StableHlo.held refs1
  rw [SparseCore.bigSep_insert' (by decide), SparseCore.bigSep_insert' (by decide), bigSep_singleton]

theorem held_refs2 (A : Vals F) (d : Dev nD) :
    (StableHlo.held (d.tc : Thread nD τ) refs2 (A d) : sProp (MM F)) = iprop(pts A d main_v55 ∗ pts A d main_v54 ∗ pts A d main_v56) := by
  unfold StableHlo.held refs2
  rw [SparseCore.bigSep_insert' (by decide), SparseCore.bigSep_insert' (by decide), bigSep_singleton]

/-- What is left of the arrays beside a call's. -/
abbrev rest (S : Finset (DevRef τ sig)) (A : Vals F) (d : Dev nD) : sProp (MM F) := StableHlo.held (d.tc : Thread nD τ) (ucRefs τ sig \ S) (A d)

theorem take0 (A0 A1 A2 : Vals F) (d : Dev nD) :
    (StableHlo.held (d.tc : Thread nD τ) (ucRefs τ sig) (A0 d) : sProp (MM F))
      = iprop((bigSep Finset.univ fun c : Fin ((K (F := F)).nCore 0) => (P A0 A1 A2).st 0 d c) ∗ rest refs0 A0 d) := by
  rw [StableHlo.held_sub_split _ refs0_sub, held_refs0, st0_eq]

theorem put0 (A0 A1 A2 : Vals F) (d : Dev nD) :
    iprop((bigSep Finset.univ fun c : Fin ((K (F := F)).nCore 0) => (P A0 A1 A2).dn 0 d c) ∗ rest refs0 A0 d)
      = (StableHlo.held (d.tc : Thread nD τ) (ucRefs τ sig) (routeV (A0 d)) : sProp (MM F)) := by
  rw [dn0_eq, StableHlo.held_sub_split _ refs0_sub, held_refs0 (fun d => routeV (A0 d)) d]
  unfold pts
  beta_reduce
  rw [routeV_0, routeV_1, routeV_2, routeV_3, routeV_ne _ (Proc.devRef .tc main_v26) (by decide) (by decide) (by decide) (by decide)]
  refine congrArg (fun R : sProp (MM F) => iprop(_ ∗ R)) (StableHlo.held_congr _ fun b hb => (routeV_ne _ _ ?_ ?_ ?_ ?_).symm) <;>
    · intro h; subst h; exact (Finset.mem_sdiff.mp hb).2 (by decide)

theorem take1 (A0 A1 A2 : Vals F) (d : Dev nD) :
    (StableHlo.held (d.tc : Thread nD τ) (ucRefs τ sig) (A1 d) : sProp (MM F))
      = iprop((bigSep Finset.univ fun c : Fin ((K (F := F)).nCore 1) => (P A0 A1 A2).st 1 d c) ∗ rest refs1 A1 d) := by
  rw [StableHlo.held_sub_split _ refs1_sub, held_refs1, st1_eq]

theorem put1 (A0 A1 A2 : Vals F) (d : Dev nD) :
    iprop((bigSep Finset.univ fun c : Fin ((K (F := F)).nCore 1) => (P A0 A1 A2).dn 1 d c) ∗ rest refs1 A1 d)
      = (StableHlo.held (d.tc : Thread nD τ) (ucRefs τ sig) (Function.update (A1 d) (Proc.devRef .tc main_v40)
          (gathered (F := F) (A1 d (Proc.devRef .tc main_v39)) (A1 d (Proc.devRef .tc main_v38)))) : sProp (MM F)) := by
  rw [dn1_eq, StableHlo.held_sub_split _ refs1_sub, held_refs1 (fun d => Function.update (A1 d) (Proc.devRef .tc main_v40)
          (gathered (F := F) (A1 d (Proc.devRef .tc main_v39)) (A1 d (Proc.devRef .tc main_v38)))) d]
  unfold pts
  beta_reduce
  rw [upd_self, upd_ne _ _ _ (Proc.devRef .tc main_v39) (by decide), upd_ne _ _ _ (Proc.devRef .tc main_v38) (by decide)]
  refine congrArg (fun R : sProp (MM F) => iprop(_ ∗ R)) (StableHlo.held_congr _ fun b hb => (upd_ne _ _ _ _ ?_).symm)
  intro h; subst h; exact (Finset.mem_sdiff.mp hb).2 (by decide)

theorem take2 (A0 A1 A2 : Vals F) (d : Dev nD) :
    (StableHlo.held (d.tc : Thread nD τ) (ucRefs τ sig) (A2 d) : sProp (MM F))
      = iprop((bigSep Finset.univ fun c : Fin ((K (F := F)).nCore 2) => (P A0 A1 A2).st 2 d c) ∗ rest refs2 A2 d) := by
  rw [StableHlo.held_sub_split _ refs2_sub, held_refs2, st2_eq]

theorem put2 (A0 A1 A2 : Vals F) (d : Dev nD) :
    iprop((bigSep Finset.univ fun c : Fin ((K (F := F)).nCore 2) => (P A0 A1 A2).dn 2 d c) ∗ rest refs2 A2 d)
      = (StableHlo.held (d.tc : Thread nD τ) (ucRefs τ sig) (Function.update (A2 d) (Proc.devRef .tc main_v56)
          (gathered (F := F) (A2 d (Proc.devRef .tc main_v55)) (A2 d (Proc.devRef .tc main_v54)))) : sProp (MM F)) := by
  rw [dn2_eq, StableHlo.held_sub_split _ refs2_sub, held_refs2 (fun d => Function.update (A2 d) (Proc.devRef .tc main_v56)
          (gathered (F := F) (A2 d (Proc.devRef .tc main_v55)) (A2 d (Proc.devRef .tc main_v54)))) d]
  unfold pts
  beta_reduce
  rw [upd_self, upd_ne _ _ _ (Proc.devRef .tc main_v55) (by decide), upd_ne _ _ _ (Proc.devRef .tc main_v54) (by decide)]
  refine congrArg (fun R : sProp (MM F) => iprop(_ ∗ R)) (StableHlo.held_congr _ fun b hb => (upd_ne _ _ _ _ ?_).symm)
  intro h; subst h; exact (Finset.mem_sdiff.mp hb).2 (by decide)

end Cert.Proof.Moe

end
-- ==== Proof.Launch.lean ====
/-
  The launch: @main on the TensorCore beside the SparseCores' tasks.
-/
module

public import proofs.«01_k».proof.Proof.Take

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.Pipeline (pin ucRefs cellsGhost toksInit cells launchToks fund_ghost)
open StableHlo (seq after held)

/-! ## @main on the TensorCore -/

section Run

variable (m : (ℓ : Loc nD τ sig) → Buf (Elt F) ℓ) (ρ : Dev nD → PrngReg)

/-- What the launch of `m`'s three calls exchange. -/
abbrev PM : (K (F := F)).Pay (nD := nD) (Val := Elt F) (Name := ℕ) (U := UU) := P (V1 m) (V3 m) (V7 m)

/-- The rounds of the FFN's staging, as the launch deals them. -/
def G (d : Dev nD) : sProp (MM F) :=
  iprop(cellsGhost (pin (pcfgs (F := F)) (admOf (V5 m d))) (EP (F := F)) 0 d ∗ toksInit (pin (pcfgs (F := F)) (admOf (V5 m d))) (EP (F := F)) 0 d)

/-- Every array of the TensorCore at the end. -/
abbrev FIN (d : Dev nD) : sProp (MM F) := held (d.tc : Thread nD τ) (ucRefs τ sig) (V9 m d)

theorem uc_of_tc {ops : List (HloOp τ sig (Elt F))} (h : ops.Forall fun op => op.bufs ⊆ StableHlo.tcRefs τ sig) : ∀ op ∈ ops, op.bufs ⊆ ucRefs τ sig :=
  fun op ho => Pipeline.sub_ucRefs op (List.forall_iff_forall_mem.mp h op ho)

theorem fresh_of {ops : List (HloOp τ sig (Elt F))} (h : ops.Forall fun op => op.fresh = ∅) : ∀ op ∈ ops, op.fresh = ∅ :=
  List.forall_iff_forall_mem.mp h

variable [∀ e, Nonempty (Elt F e)]

/-- The FFN's call is a call of the pipelines' own signature. -/
theorem ffn_lift : (Prog.lift (.customCall (SparseCore.inner (Pipeline.entry 0)) ()) : Prog (TpuEff nD τ sig (Elt F) (SparseCore.Sig (ΛP (F := F)) 3) .tc) PUnit)
    = SparseCore.liftProg (pr := .tc) (Prog.op (.customCall (Pipeline.entry 0) ()) fun _ => Prog.ret PUnit.unit) :=
  rfl

/-- What the core owes after two calls, as the launch records it. -/
theorem owes16_eq (d : Dev nD) :
    (iprop(∃ W, ⌜(K (F := F)).WBelow (SparseCore.T d) W (8 * SparseCore.Cfg.Blocks.fst 3 3 2)⌝ ∗ owes (SparseCore.T d) ((K (F := F)).Otc d 2) W) : sProp (MM F)) = owesAt16 d := by
  rfl

/-- The FFN's call, from the arrays before it to the arrays after it. -/
theorem wp_ffn (κ : GSem nD τ sig → ℕ) (d : Dev nD) (Φ : PUnit → sProp (MM F)) :
    iprop((K (F := F)).ctx EH (PM m) κ ∗ boundary (d.tc : Thread nD τ) ∗ held (d.tc : Thread nD τ) (ucRefs τ sig) (V5 m d) ∗ (K (F := F)).tcSt EH d 2 ∗ G m d
        ∗ ((boundary (d.tc : Thread nD τ) ∗ held (d.tc : Thread nD τ) (ucRefs τ sig) (V6 m d) ∗ (K (F := F)).tcSt EH d 2) -∗ Φ ⟨⟩))
      ⊢ wp frame (wpE ((K (F := F)).defs (D (F := F))) 𝒱 (SparseCore.T d) none) Set.univ
          (Prog.lift (.customCall (SparseCore.inner (Pipeline.entry 0)) ())) Φ := by
  rw [ffn_lift]
  have hl := (K (F := F)).wp_liftProg (D (F := F)) 𝒱 (SparseCore.T d) (Set.univ : Set ℕ) none
    (show Prog (TpuEff nD τ sig (Elt F) (ΛP (F := F)) .tc) PUnit from Prog.op (.customCall (Pipeline.entry 0) ()) fun _ => Prog.ret PUnit.unit) Φ
  refine BIBase.Entails.trans ?_ hl
  unfold SparseCore.Cfg.tcSt G
  iintro ⟨#Hctx, Hb, Hh, ⟨HO, Hat, Hr⟩, ⟨Hg, Ht⟩, Hk⟩
  ihave Hlev := (SparseCore.Cfg.ctx_levAts κ) $$ Hctx
  have hw := (Pipeline.RDat.RegionSeg.wp (pcfgs (F := F)) (admOf (V5 m d)) (rdats (V5 m d) (hV5 m d)) (none : HIx 3) (Gen.cellOf_inj (admOf (V5 m d))) (EP (F := F))
    (defs₀ (F := F)) 𝒱₀ (K (F := F)).L (K (F := F)).lev (ffnSeg (V5 m d) (hV5 m d) (offOk5 m d)) d none (fun _ h => nomatch h) (fun _ => .ret ⟨⟩) Φ)
  iapply hw $$ [Hb Hh HO Hat Hr Hg Ht Hk Hlev]
  isplitl [Hat Hr Hk]
  · iintro ⟨Hb, Hpost⟩
    ihave Hp := (Entails.of_eq (show (ffnSeg (V5 m d) (hV5 m d) (offOk5 m d)).post d = iprop(held (d.tc : Thread nD τ) (ucRefs τ sig) (V6 m d) ∗ owesAt16 d) from rfl)) $$ Hpost
    icases Hp with ⟨Hh, HO⟩
    rw [wp_ret]
    imodintro
    iapply Hk
    isplitl [Hb]; · iexact Hb
    isplitl [Hh]; · iexact Hh
    isplitl [HO]; · iapply (Entails.of_eq (owes16_eq d).symm); iexact HO
    isplitl [Hat]; · iexact Hat
    iexact Hr
  isplitl [Hb]; · iexact Hb
  isplitl [Hh HO]
  · iapply (Entails.of_eq (show iprop(held (d.tc : Thread nD τ) (ucRefs τ sig) (V5 m d) ∗ owesAt16 d) = (ffnSeg (V5 m d) (hV5 m d) (offOk5 m d)).pre d from rfl)) $$ [Hh HO]
    isplitl [Hh]; · iexact Hh
    iapply (Entails.of_eq (owes16_eq d)); iexact HO
  isplitl [Hlev]; · iexact Hlev
  isplitl [Hg]; · iexact Hg
  iexact Ht

set_option maxHeartbeats 1000000 in
set_option backward.isDefEq.respectTransparency.types false in
theorem hmain (κ : GSem nD τ sig → ℕ) (d : Dev nD) :
    iprop((K (F := F)).ctx EH (PM m) κ ∗ (K (F := F)).tcSt EH d 0 ∗ (K (F := F)).tcRes m ρ d ∗ G m d)
      ⊢ wp frame (wpE ((K (F := F)).defs (D (F := F))) 𝒱 (SparseCore.T d) none) Set.univ (main d)
          fun _ => iprop((K (F := F)).tcSt EH d 3 ∗ FIN m d ∗ (K (F := F)).tcEnd d) := by
  unfold SparseCore.Cfg.tcRes SparseCore.Cfg.tcEnd
  rw [main_eq, show (unscopedBufs d fun b => m ((SparseCore.T d).loc b) : sProp (MM F)) = held (d.tc : Thread nD τ) (ucRefs τ sig) (StableHlo.launchContents m d)
    from Pipeline.unscopedBufs_held d (StableHlo.launchContents m d)]
  iintro ⟨#Hctx, Hst, ⟨Hb, Hh, Hts, -⟩, HG⟩
  -- up to the routing call
  iapply (StableHlo.wp_seq 𝒱 none Set.univ d (ucRefs τ sig) _ ops1 (uc_of_tc ops1_sub) (fresh_of ops1_fresh) (StableHlo.launchContents m d)) $$ [Hb Hh]
  · isplitl [Hb] <;> iassumption
  iintro ⟨Hb, Hh⟩
  ihave Hh := (Entails.of_eq (show (held (d.tc : Thread nD τ) (ucRefs τ sig) (after ops1 (StableHlo.launchContents m d)) : sProp (MM F)) = iprop((bigSep Finset.univ fun c : Fin ((K (F := F)).nCore 0) => (PM m).st 0 d c) ∗ rest refs0 (V1 m) d)
    from take0 (V1 m) (V3 m) (V7 m) d)) $$ Hh
  icases Hh with ⟨Hop, Hrest⟩
  rw [wp_bind]
  iapply ((K (F := F)).wp_run (D (F := F)) 𝒱 (EH := EH) (P := PM m) κ d 0) $$ [Hst Hop Hb Hrest Hts HG]
  isplitr; · iexact Hctx
  isplitl [Hst]; · iexact Hst
  isplitl [Hop]; · iexact Hop
  iintro ⟨Hst, Hop⟩
  ihave Hh := (Entails.of_eq (put0 (V1 m) (V3 m) (V7 m) d)) $$ [Hop Hrest]
  · isplitl [Hop] <;> iassumption
  -- to the first gather
  iapply (StableHlo.wp_seq 𝒱 none Set.univ d (ucRefs τ sig) _ ops2 (uc_of_tc ops2_sub) (fresh_of ops2_fresh) (routeV (V1 m d))) $$ [Hb Hh]
  · isplitl [Hb] <;> iassumption
  iintro ⟨Hb, Hh⟩
  ihave Hh := (Entails.of_eq (show (held (d.tc : Thread nD τ) (ucRefs τ sig) (after ops2 (routeV (V1 m d))) : sProp (MM F)) = iprop((bigSep Finset.univ fun c : Fin ((K (F := F)).nCore 1) => (PM m).st 1 d c) ∗ rest refs1 (V3 m) d)
    from take1 (V1 m) (V3 m) (V7 m) d)) $$ Hh
  icases Hh with ⟨Hop, Hrest⟩
  rw [wp_bind]
  iapply ((K (F := F)).wp_run (D (F := F)) 𝒱 (EH := EH) (P := PM m) κ d 1) $$ [Hst Hop Hb Hrest Hts HG]
  isplitr; · iexact Hctx
  isplitl [Hst]; · iexact Hst
  isplitl [Hop]; · iexact Hop
  iintro ⟨Hst, Hop⟩
  ihave Hh := (Entails.of_eq (show iprop((bigSep Finset.univ fun c : Fin ((K (F := F)).nCore 1) => (PM m).dn 1 d c) ∗ rest refs1 (V3 m) d) = (held (d.tc : Thread nD τ) (ucRefs τ sig) (V4 m d) : sProp (MM F))
    from put1 (V1 m) (V3 m) (V7 m) d)) $$ [Hop Hrest]
  · isplitl [Hop] <;> iassumption
  -- to the FFN
  iapply (StableHlo.wp_seq 𝒱 none Set.univ d (ucRefs τ sig) _ ops3 (uc_of_tc ops3_sub) (fresh_of ops3_fresh) (V4 m d)) $$ [Hb Hh]
  · isplitl [Hb] <;> iassumption
  iintro ⟨Hb, Hh⟩
  rw [wp_bind]
  iapply (wp_ffn m κ d) $$ [Hst Hb Hh Hts HG]
  isplitr; · iexact Hctx
  isplitl [Hb]; · iexact Hb
  isplitl [Hh]; · iexact Hh
  isplitl [Hst]; · iexact Hst
  isplitl [HG]; · iexact HG
  iintro ⟨Hb, Hh, Hst⟩
  -- to the second gather
  iapply (StableHlo.wp_seq 𝒱 none Set.univ d (ucRefs τ sig) _ ops4 (uc_of_tc ops4_sub) (fresh_of ops4_fresh) (V6 m d)) $$ [Hb Hh]
  · isplitl [Hb] <;> iassumption
  iintro ⟨Hb, Hh⟩
  ihave Hh := (Entails.of_eq (show (held (d.tc : Thread nD τ) (ucRefs τ sig) (after ops4 (V6 m d)) : sProp (MM F)) = iprop((bigSep Finset.univ fun c : Fin ((K (F := F)).nCore 2) => (PM m).st 2 d c) ∗ rest refs2 (V7 m) d)
    from take2 (V1 m) (V3 m) (V7 m) d)) $$ Hh
  icases Hh with ⟨Hop, Hrest⟩
  rw [wp_bind]
  iapply ((K (F := F)).wp_run (D (F := F)) 𝒱 (EH := EH) (P := PM m) κ d 2) $$ [Hst Hop Hb Hrest Hts]
  isplitr; · iexact Hctx
  isplitl [Hst]; · iexact Hst
  isplitl [Hop]; · iexact Hop
  iintro ⟨Hst, Hop⟩
  ihave Hh := (Entails.of_eq (show iprop((bigSep Finset.univ fun c : Fin ((K (F := F)).nCore 2) => (PM m).dn 2 d c) ∗ rest refs2 (V7 m) d) = (held (d.tc : Thread nD τ) (ucRefs τ sig) (V8 m d) : sProp (MM F))
    from put2 (V1 m) (V3 m) (V7 m) d)) $$ [Hop Hrest]
  · isplitl [Hop] <;> iassumption
  -- to the end
  iapply (StableHlo.wp_seq 𝒱 none Set.univ d (ucRefs τ sig) _ ops5 (uc_of_tc ops5_sub) (fresh_of ops5_fresh) (V8 m d)) $$ [Hb Hh]
  · isplitl [Hb] <;> iassumption
  iintro ⟨Hb, Hh⟩
  rw [wp_pure]
  imodintro
  isplitl [Hst]; · iexact Hst
  isplitl [Hh]; · iexact Hh
  isplitl [Hb] <;> iassumption

/-! ## The launch -/

/-- The launch's ghost state: the handshakes' rounds, the staging's rounds, and no counters. -/
def u₀ : UU :=
  (initOf (K (F := F)).hsCells (K (F := F)).hsToks,
    (initOf (cells (pin (pcfgs (F := F)) (admOf (V5 m 0))) (Gen.cellOf_inj (admOf (V5 m 0)))) (launchToks (pin (pcfgs (F := F)) (admOf (V5 m 0))) (Gen.cellOf_inj (admOf (V5 m 0)))), 1))

omit [∀ e, Nonempty (Elt F e)] in
theorem hu₀ : (ownU (u₀ m) : sProp (MM F))
    ⊢ |={Set.univ}=> iprop(BI.own ((EH : Emb UH (MM F)) (initOf (K (F := F)).hsCells (K (F := F)).hsToks)) ∗ (bigSep Finset.univ fun d : Dev nD => G m d)
        ∗ bigSep Finset.univ fun thr : Thread nD τ => bigSep Finset.univ fun q : Fin 3 => (PM m).x q thr) := by
  have hG : iprop((bigSep Finset.univ fun c : Dev nD => bigSep Finset.univ fun p => cellsGhost (pin (pcfgs (F := F)) (admOf (V5 m 0))) (EP (F := F)) p c)
      ∗ (bigSep Finset.univ fun c : Dev nD => bigSep Finset.univ fun p => (toksInit (pin (pcfgs (F := F)) (admOf (V5 m 0))) (EP (F := F)) p c : sProp (MM F))))
      ⊢ bigSep Finset.univ fun d : Dev nD => G m d := by
    rw [bigSep_univ_of_subsingleton (0 : Fin 1), bigSep_univ_of_subsingleton (0 : Fin 1), bigSep_univ_of_subsingleton (0 : Fin 1),
      bigSep_univ_of_subsingleton (0 : Fin 1), bigSep_univ_of_subsingleton (0 : Fin 1)]
    exact BI.Entails.refl _
  unfold u₀
  iintro Hu
  ihave H := (ownU_pair _ _) $$ Hu
  icases H with ⟨HH, HR⟩
  ihave H := (own_pair_emb (embR : Emb (UP × Counters) (MM F)) _ _) $$ HR
  icases H with ⟨HP, -⟩
  imod (fund_ghost (pin (pcfgs (F := F)) (admOf (V5 m 0))) (EP (F := F)) (Gen.cellOf_inj (admOf (V5 m 0)))) $$ HP with ⟨Hg, Ht⟩
  imodintro
  isplitl [HH]; · iexact HH
  isplitl [Hg Ht]
  · iapply hG
    isplitl [Hg] <;> iassumption
  rw [show (bigSep Finset.univ fun thr : Thread nD τ => bigSep Finset.univ fun q : Fin 3 => (PM m).x q thr) = (iprop(emp) : sProp (MM F)) from
    (bigSep_congr fun _ _ => emps _).trans (emps _)]
  iempintro

/-- The memory at the end, on device `d`. -/
def fq (d : Dev nD) (s' : Phys nD τ sig (Elt F)) : Prop := ∀ b ∈ ucRefs τ sig, s'.mem.mem (d, b) = V9 m d b

omit [∀ e, Nonempty (Elt F e)] in
theorem hfin (d : Dev nD) (s' : Phys nD τ sig (Elt F)) : iprop(FIN m d ∗ SI s') ⊢ (⌜fq m d s'⌝ : sProp (MM F)) := by
  unfold FIN held
  iintro ⟨H, HSI⟩
  ihave %h := (SI_pointsTo_bufs_agree (qs := fun _ => fullShare) (ucRefs τ sig)) $$ [HSI H]
  · isplitl [HSI]; · iexact HSI
    iexact H
  ipureintro
  exact h

/-- What a run ends with. -/
def QC : PUnit × MemSt nD τ sig (Elt F) → Prop := fun r =>
  (∀ c : Dev nD, ∀ b ∈ ucRefs τ sig, r.2.mem (c, b) = V9 m c b) ∧ r.2.sem = fun _ => 0

/-- Every run of the kernel ends with the arrays as computed. -/
theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq | 1 => nomatch hq | 2 => nomatch hq)
    (fun q _ => match q with
      | 0 => obl_route (V1 m) (V3 m) (V7 m)
      | 1 => obl_gather1 (V1 m) (V3 m) (V7 m) (fun d x => src_lt m d x)
      | 2 => obl_gather3 (V1 m) (V3 m) (V7 m) (fun d x => dest_lt m d x))
    (fun q _ => match q with
      | 0 => SparseCore.Cfg.VecSplit.of_plain (split0 (V1 m) (V3 m) (V7 m))
      | 1 => SparseCore.Cfg.VecSplit.of_plain (split1 (V1 m) (V3 m) (V7 m))
      | 2 => SparseCore.Cfg.VecSplit.of_plain (split2 (V1 m) (V3 m) (V7 m)))
    m ρ main (G m) (FIN m) (u₀ m) (sep_elim_left.trans (hu₀ m)) (hmain m ρ) (fq m) (hfin m) (QC m) (fun _ h hz => ⟨h, hz⟩)

end Run

end Cert.Proof.Moe

end
-- ==== Proof.Printed.lean ====
/-
  The kernel as printed is the program whose run is proved: its host operations, its calls and its bodies.
-/
module

public import proofs.«01_k».proof.Proof.Host
public import proofs.«01_k».proof.Proof.Gen.Kernel

@[expose] public section

noncomputable section

namespace Cert.Proof.Printed

open Cert.Kernel Cert.Kernel.Gen
open Idealize.ShloMosaic Idealize.SL.Sem

variable {F : FTy → Type} [FloatOps F]

/-- Stretch 1 of @main's host operations, as printed. -/
def ops1 : List (HloOp τ sig (Elt F)) :=
  [ StableHlo.reshape main_arg0 main_v0 (rfl : (.f32 : EltTy) = .f32) shapeCasts_S1x2048x768_S2048x768,
    StableHlo.binary main_v0 main_arg1 main_v1 ((fun l r => Host.dotGeneral dot_S2048x768_S768x8_S2048x8_1_0_0_1_n_n none l r) : (⟨S2048x768, .f32⟩ : BufTy).Contents (Elt F) → (⟨S768x8, .f32⟩ : BufTy).Contents (Elt F) → (⟨S2048x8, .f32⟩ : BufTy).Contents (Elt F)),
    StableHlo.unary main_arg2 main_v2 (broadcastInDim S1x8 ![1] bcast_S8_S1x8_1 : (⟨S8, .f32⟩ : BufTy).Contents (Elt F) → (⟨S1x8, .f32⟩ : BufTy).Contents (Elt F)),
    StableHlo.unary main_v2 main_v3 (broadcastInDim S2048x8 ![0, 1] bcast_S1x8_S2048x8_0_1 : (⟨S1x8, .f32⟩ : BufTy).Contents (Elt F) → (⟨S2048x8, .f32⟩ : BufTy).Contents (Elt F)),
    StableHlo.binary main_arg9 main_v3 main_v4 (mulf : (⟨S2048x8, .f32⟩ : BufTy).Contents (Elt F) → (⟨S2048x8, .f32⟩ : BufTy).Contents (Elt F) → (⟨S2048x8, .f32⟩ : BufTy).Contents (Elt F)),
    StableHlo.binary main_v1 main_v4 main_v5 (addf : (⟨S2048x8, .f32⟩ : BufTy).Contents (Elt F) → (⟨S2048x8, .f32⟩ : BufTy).Contents (Elt F) → (⟨S2048x8, .f32⟩ : BufTy).Contents (Elt F)),
    StableHlo.nullary main_cst (constant S_ .f32 0xFF800000#32),
    StableHlo.binary main_v1 main_cst main_v6 ((fun x v => Host.reduce FloatOps.maximumf x v reducesTo_S2048x8_S2048_d1 h_S_) : (⟨S2048x8, .f32⟩ : BufTy).Contents (Elt F) → (⟨S_, .f32⟩ : BufTy).Contents (Elt F) → (⟨S2048, .f32⟩ : BufTy).Contents (Elt F)),
    StableHlo.nullary main_cst_0 (constant S_ .f32 0xFF800000#32),
    StableHlo.unary main_cst_0 main_v7 (broadcastInDim S2048 ![] bcast_S_S2048 : (⟨S_, .f32⟩ : BufTy).Contents (Elt F) → (⟨S2048, .f32⟩ : BufTy).Contents (Elt F)),
    StableHlo.binary main_v7 main_v6 main_v8 (maximumf : (⟨S2048, .f32⟩ : BufTy).Contents (Elt F) → (⟨S2048, .f32⟩ : BufTy).Contents (Elt F) → (⟨S2048, .f32⟩ : BufTy).Contents (Elt F)),
    StableHlo.unary main_v8 main_v9 (broadcastInDim S2048x1 ![0] bcast_S2048_S2048x1_0 : (⟨S2048, .f32⟩ : BufTy).Contents (Elt F) → (⟨S2048x1, .f32⟩ : BufTy).Contents (Elt F)),
    StableHlo.unary main_v9 main_v10 (broadcastInDim S2048x8 ![0, 1] bcast_S2048x1_S2048x8_0_1 : (⟨S2048x1, .f32⟩ : BufTy).Contents (Elt F) → (⟨S2048x8, .f32⟩ : BufTy).Contents (Elt F)),
    StableHlo.binary main_v1 main_v10 main_v11 (subf : (⟨S2048x8, .f32⟩ : BufTy).Contents (Elt F) → (⟨S2048x8, .f32⟩ : BufTy).Contents (Elt F) → (⟨S2048x8, .f32⟩ : BufTy).Contents (Elt F)),
    StableHlo.unary main_v11 main_v12 (Host.exp : (⟨S2048x8, .f32⟩ : BufTy).Contents (Elt F) → (⟨S2048x8, .f32⟩ : BufTy).Contents (Elt F)),
    StableHlo.nullary main_cst_1 (constant S_ .f32 0x00000000#32),
    StableHlo.binary main_v12 main_cst_1 main_v13 ((fun x v => Host.reduceAdd x v reducesTo_S2048x8_S2048_d1 h_S_) : (⟨S2048x8, .f32⟩ : BufTy).Contents (Elt F) → (⟨S_, .f32⟩ : BufTy).Contents (Elt F) → (⟨S2048, .f32⟩ : BufTy).Contents (Elt F)),
    StableHlo.unary main_v13 main_v14 (broadcastInDim S2048x1 ![0] bcast_S2048_S2048x1_0 : (⟨S2048, .f32⟩ : BufTy).Contents (Elt F) → (⟨S2048x1, .f32⟩ : BufTy).Contents (Elt F)),
    StableHlo.unary main_v14 main_v15 (broadcastInDim S2048x8 ![0, 1] bcast_S2048x1_S2048x8_0_1 : (⟨S2048x1, .f32⟩ : BufTy).Contents (Elt F) → (⟨S2048x8, .f32⟩ : BufTy).Contents (Elt F)),
    StableHlo.binary main_v12 main_v15 main_v16 (Host.divf : (⟨S2048x8, .f32⟩ : BufTy).Contents (Elt F) → (⟨S2048x8, .f32⟩ : BufTy).Contents (Elt F) → (⟨S2048x8, .f32⟩ : BufTy).Contents (Elt F)),
    StableHlo.nullary main_cst_2 (constant S_ .f32 0x00000000#32),
    StableHlo.binary main_v16 main_cst_2 main_v17 ((fun x v => Host.reduceAdd x v reducesTo_S2048x8_S8_d0 h_S_) : (⟨S2048x8, .f32⟩ : BufTy).Contents (Elt F) → (⟨S_, .f32⟩ : BufTy).Contents (Elt F) → (⟨S8, .f32⟩ : BufTy).Contents (Elt F)),
    StableHlo.nullary main_cst_3 (constant S_ .f32 0x45000000#32),
    StableHlo.unary main_cst_3 main_v18 (broadcastInDim S8 ![] bcast_S_S8 : (⟨S_, .f32⟩ : BufTy).Contents (Elt F) → (⟨S8, .f32⟩ : BufTy).Contents (Elt F)),
    StableHlo.binary main_v17 main_v18 main_v19 (Host.divf : (⟨S8, .f32⟩ : BufTy).Contents (Elt F) → (⟨S8, .f32⟩ : BufTy).Contents (Elt F) → (⟨S8, .f32⟩ : BufTy).Contents (Elt F)),
    StableHlo.nullary main_cst_4 (constant S_ .f32 0x3E000000#32),
    StableHlo.unary main_cst_4 main_v20 (broadcastInDim S8 ![] bcast_S_S8 : (⟨S_, .f32⟩ : BufTy).Contents (Elt F) → (⟨S8, .f32⟩ : BufTy).Contents (Elt F)),
    StableHlo.binary main_v19 main_v20 main_v21 (subf : (⟨S8, .f32⟩ : BufTy).Contents (Elt F) → (⟨S8, .f32⟩ : BufTy).Contents (Elt F) → (⟨S8, .f32⟩ : BufTy).Contents (Elt F)),
    StableHlo.binary main_v21 main_v21 main_v22 (mulf : (⟨S8, .f32⟩ : BufTy).Contents (Elt F) → (⟨S8, .f32⟩ : BufTy).Contents (Elt F) → (⟨S8, .f32⟩ : BufTy).Contents (Elt F)),
    StableHlo.nullary main_cst_5 (constant S_ .f32 0x00000000#32),
    StableHlo.binary main_v22 main_cst_5 main_v23 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.nullary main_cst_6 (constant S_ .f32 0x41000000#32),
    StableHlo.binary main_v23 main_cst_6 main_v24 (Host.divf : (⟨S_, .f32⟩ : BufTy).Contents (Elt F) → (⟨S_, .f32⟩ : BufTy).Contents (Elt F) → (⟨S_, .f32⟩ : BufTy).Contents (Elt F)),
    StableHlo.nullary main_cst_7 (constant S_ .f32 0x3C23D70A#32),
    StableHlo.binary main_v24 main_cst_7 main_v25 (mulf : (⟨S_, .f32⟩ : BufTy).Contents (Elt F) → (⟨S_, .f32⟩ : BufTy).Contents (Elt F) → (⟨S_, .f32⟩ : BufTy).Contents (Elt F)),
    StableHlo.unary main_v5 main_v26 ((transpose S8x2048 [1, 0] · transposes_S2048x8_S8x2048_1_0) : (⟨S2048x8, .f32⟩ : BufTy).Contents (Elt F) → (⟨S8x2048, .f32⟩ : BufTy).Contents (Elt F)) ]

/-- Stretch 2 of @main's host operations, as printed. -/
def ops2 : List (HloOp τ sig (Elt F)) :=
  [ StableHlo.unary main_v27_3 main_v28 ((extractStridedSlice S9 ![0] · slices_S16_S9_0) : (⟨S16, .i32⟩ : BufTy).Contents (Elt F) → (⟨S9, .i32⟩ : BufTy).Contents (Elt F)),
    StableHlo.nullary main_c (constantI S_ 32 0#32),
    StableHlo.nullary main_c_8 (constantI S_ 32 2048#32),
    StableHlo.TRef.unary (.of main_c) main_call0.v0 id,
    StableHlo.TRef.unary main_call0.v0 main_call0.v1 (broadcastInDim S9 ![] bcast_S_S9),
    StableHlo.TRef.binary main_call0.v1 (.of main_v28) main_call0.v2 maxsi,
    StableHlo.TRef.unary (.of main_c_8) main_call0.v3 id,
    StableHlo.TRef.unary main_call0.v3 main_call0.v4 (broadcastInDim S9 ![] bcast_S_S9),
    StableHlo.TRef.binary main_call0.v4 main_call0.v2 main_call0.v5 minsi,
    StableHlo.unary main_v27_2 main_v30 (broadcastInDim S2048x1 ![0] bcast_S2048_S2048x1_0 : (⟨S2048, .i32⟩ : BufTy).Contents (Elt F) → (⟨S2048x1, .i32⟩ : BufTy).Contents (Elt F)),
    StableHlo.nullary main_c_9 (constantI S_ 32 6#32),
    StableHlo.unary main_c_9 main_v31 (broadcastInDim S2048x1 ![] bcast_S_S2048x1 : (⟨S_, .i32⟩ : BufTy).Contents (Elt F) → (⟨S2048x1, .i32⟩ : BufTy).Contents (Elt F)),
    StableHlo.binary main_v30 main_v31 main_v32 (muli : (⟨S2048x1, .i32⟩ : BufTy).Contents (Elt F) → (⟨S2048x1, .i32⟩ : BufTy).Contents (Elt F) → (⟨S2048x1, .i32⟩ : BufTy).Contents (Elt F)),
    StableHlo.nullary main_v33 (iotaInDim S6 32 0),
    StableHlo.unary main_v33 main_v34 (broadcastInDim S1x6 ![1] bcast_S6_S1x6_1 : (⟨S6, .i32⟩ : BufTy).Contents (Elt F) → (⟨S1x6, .i32⟩ : BufTy).Contents (Elt F)),
    StableHlo.unary main_v32 main_v35 (broadcastInDim S2048x6 ![0, 1] bcast_S2048x1_S2048x6_0_1 : (⟨S2048x1, .i32⟩ : BufTy).Contents (Elt F) → (⟨S2048x6, .i32⟩ : BufTy).Contents (Elt F)),
    StableHlo.unary main_v34 main_v36 (broadcastInDim S2048x6 ![0, 1] bcast_S1x6_S2048x6_0_1 : (⟨S1x6, .i32⟩ : BufTy).Contents (Elt F) → (⟨S2048x6, .i32⟩ : BufTy).Contents (Elt F)),
    StableHlo.binary main_v35 main_v36 main_v37 (addi : (⟨S2048x6, .i32⟩ : BufTy).Contents (Elt F) → (⟨S2048x6, .i32⟩ : BufTy).Contents (Elt F) → (⟨S2048x6, .i32⟩ : BufTy).Contents (Elt F)),
    StableHlo.reshape main_v37 main_v38 (rfl : (.i32 : EltTy) = .i32) shapeCasts_S2048x6_S12288,
    StableHlo.reshape main_v0 main_v39 (rfl : (.f32 : EltTy) = .f32) shapeCasts_S2048x768_S12288x128 ]

/-- Stretch 3 of @main's host operations, as printed. -/
def ops3 : List (HloOp τ sig (Elt F)) :=
  [ StableHlo.reshape main_v40 main_v41 (rfl : (.f32 : EltTy) = .f32) shapeCasts_S12288x128_S2048x768,
    StableHlo.reshape main_arg4 main_v42 (rfl : (.f32 : EltTy) = .f32) shapeCasts_S8x3072_S8x1x3072,
    StableHlo.reshape main_arg6 main_v43 (rfl : (.f32 : EltTy) = .f32) shapeCasts_S8x3072_S8x1x3072,
    StableHlo.reshape main_arg8 main_v44 (rfl : (.f32 : EltTy) = .f32) shapeCasts_S8x768_S8x1x768 ]

/-- Stretch 4 of @main's host operations, as printed. -/
def ops4 : List (HloOp τ sig (Elt F)) :=
  [ StableHlo.unary main_v27_1 main_v46 (broadcastInDim S2048x1 ![0] bcast_S2048_S2048x1_0 : (⟨S2048, .i32⟩ : BufTy).Contents (Elt F) → (⟨S2048x1, .i32⟩ : BufTy).Contents (Elt F)),
    StableHlo.nullary main_c_10 (constantI S_ 32 6#32),
    StableHlo.unary main_c_10 main_v47 (broadcastInDim S2048x1 ![] bcast_S_S2048x1 : (⟨S_, .i32⟩ : BufTy).Contents (Elt F) → (⟨S2048x1, .i32⟩ : BufTy).Contents (Elt F)),
    StableHlo.binary main_v46 main_v47 main_v48 (muli : (⟨S2048x1, .i32⟩ : BufTy).Contents (Elt F) → (⟨S2048x1, .i32⟩ : BufTy).Contents (Elt F) → (⟨S2048x1, .i32⟩ : BufTy).Contents (Elt F)),
    StableHlo.nullary main_v49 (iotaInDim S6 32 0),
    StableHlo.unary main_v49 main_v50 (broadcastInDim S1x6 ![1] bcast_S6_S1x6_1 : (⟨S6, .i32⟩ : BufTy).Contents (Elt F) → (⟨S1x6, .i32⟩ : BufTy).Contents (Elt F)),
    StableHlo.unary main_v48 main_v51 (broadcastInDim S2048x6 ![0, 1] bcast_S2048x1_S2048x6_0_1 : (⟨S2048x1, .i32⟩ : BufTy).Contents (Elt F) → (⟨S2048x6, .i32⟩ : BufTy).Contents (Elt F)),
    StableHlo.unary main_v50 main_v52 (broadcastInDim S2048x6 ![0, 1] bcast_S1x6_S2048x6_0_1 : (⟨S1x6, .i32⟩ : BufTy).Contents (Elt F) → (⟨S2048x6, .i32⟩ : BufTy).Contents (Elt F)),
    StableHlo.binary main_v51 main_v52 main_v53 (addi : (⟨S2048x6, .i32⟩ : BufTy).Contents (Elt F) → (⟨S2048x6, .i32⟩ : BufTy).Contents (Elt F) → (⟨S2048x6, .i32⟩ : BufTy).Contents (Elt F)),
    StableHlo.reshape main_v53 main_v54 (rfl : (.i32 : EltTy) = .i32) shapeCasts_S2048x6_S12288,
    StableHlo.reshape main_v45 main_v55 (rfl : (.f32 : EltTy) = .f32) shapeCasts_S2048x768_S12288x128 ]

/-- Stretch 5 of @main's host operations, as printed. -/
def ops5 : List (HloOp τ sig (Elt F)) :=
  [ StableHlo.reshape main_v56 main_v57 (rfl : (.f32 : EltTy) = .f32) shapeCasts_S12288x128_S2048x768,
    StableHlo.reshape main_v57 main_v58 (rfl : (.f32 : EltTy) = .f32) shapeCasts_S2048x768_S1x2048x768,
    StableHlo.unary main_v27_0 main_v59 (broadcastInDim S2048x1 ![0] bcast_S2048_S2048x1_0 : (⟨S2048, .i32⟩ : BufTy).Contents (Elt F) → (⟨S2048x1, .i32⟩ : BufTy).Contents (Elt F)) ]

set_option maxRecDepth 16384 in
set_option maxHeartbeats 8000000 in
/-- @main as printed is those stretches with the calls between. -/
theorem main_eq (d : Dev nD) : main (F := F) d
    = (StableHlo.seq ops1 >>= fun _ => ((sc (F := F)).run d 0 >>= fun _ => (StableHlo.seq ops2 >>= fun _ => ((sc (F := F)).run d 1 >>= fun _ =>
      (StableHlo.seq ops3 >>= fun _ => (Prog.lift (.customCall (SparseCore.inner (Pipeline.entry 0)) ()) >>= fun _ => (StableHlo.seq ops4 >>= fun _ => ((sc (F := F)).run d 2 >>= fun _ =>
      (StableHlo.seq ops5 >>= fun _ => pure ⟨⟩))))))))) := rfl

set_option maxHeartbeats 4000000 in
theorem ops1_same : (ops1 : List (HloOp Cert.KernelIdeal.τ Cert.KernelIdeal.sig (Elt F))) = Moe.ops1 := by
  unfold ops1
  repeat (refine congrArg₂ List.cons (by rfl) ?_)
  rfl

set_option maxHeartbeats 4000000 in
theorem ops2_same : (ops2 : List (HloOp Cert.KernelIdeal.τ Cert.KernelIdeal.sig (Elt F))) = Moe.ops2 := by
  unfold ops2
  repeat (refine congrArg₂ List.cons (by rfl) ?_)
  rfl

set_option maxHeartbeats 4000000 in
theorem ops3_same : (ops3 : List (HloOp Cert.KernelIdeal.τ Cert.KernelIdeal.sig (Elt F))) = Moe.ops3 := by
  unfold ops3
  repeat (refine congrArg₂ List.cons (by rfl) ?_)
  rfl

set_option maxHeartbeats 4000000 in
theorem ops4_same : (ops4 : List (HloOp Cert.KernelIdeal.τ Cert.KernelIdeal.sig (Elt F))) = Moe.ops4 := by
  unfold ops4
  repeat (refine congrArg₂ List.cons (by rfl) ?_)
  rfl

set_option maxHeartbeats 4000000 in
theorem ops5_same : (ops5 : List (HloOp Cert.KernelIdeal.τ Cert.KernelIdeal.sig (Elt F))) = Moe.ops5 := by
  unfold ops5
  repeat (refine congrArg₂ List.cons (by rfl) ?_)
  rfl

set_option maxHeartbeats 4000000 in
theorem sc_same : sc (F := F) = Cert.KernelIdeal.sc (F := F) := rfl

set_option maxHeartbeats 4000000 in
theorem defs₀_same : defs₀ (F := F) = Cert.KernelIdeal.defs₀ (F := F) := by
  funext p i a
  match p, i, a with
  | .tc, 0, _ => rfl
  | .tc, 1, _ => rfl
  | .tc, 2, _ => rfl
  | .tc, 3, _ => rfl
  | .scScalar _, 0, _ => rfl
  | .scScalar _, 1, _ => rfl
  | .scScalar _, 2, _ => rfl
  | .scScalar _, 3, _ => rfl
  | .scVector _ _, 0, _ => rfl
  | .scVector _ _, 1, _ => rfl
  | .scVector _ _, 2, _ => rfl
  | .scVector _ _, 3, _ => rfl

set_option maxHeartbeats 4000000 in
theorem defs_same : defs (F := F) = Cert.KernelIdeal.defs (F := F) :=
  congrArg (fun D => Cert.KernelIdeal.sc.defs (Pipeline.defs Cert.KernelIdeal.pcfgs D)) (defs₀_same (F := F))

set_option maxHeartbeats 4000000 in
theorem main_same : main (F := F) = Cert.KernelIdeal.main (F := F) := by
  funext d
  refine (main_eq d).trans (Eq.trans ?_ (Moe.main_eq (F := F) d).symm)
  rw [ops1_same, ops2_same, ops3_same, ops4_same, ops5_same]
  rfl

set_option maxHeartbeats 4000000 in
theorem threads_same : threads (F := F) = Cert.KernelIdeal.threads (F := F) :=
  congrArg (fun M => Cert.KernelIdeal.sc.threads M) (main_same (F := F))

end Cert.Proof.Printed

end
-- ==== Proof.Frames.lean ====
/-
  Every run ends, with the arguments as they were.
-/
module

public import proofs.«01_k».proof.Proof.Launch
public import proofs.«01_k».proof.Proof.Printed
public import proofs.«01_k».proof.Defs
public import proofs.«01_k».proof.Proof.Gen.Kernel
public import proofs.«01_k».proof.Proof.Gen.ReferenceIdeal.Run

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.Pipeline (ucRefs)

/-! ## The frames -/

/-- An argument array keeps its contents through a run. -/
theorem arg_kept (m : (ℓ : Loc nD τ sig) → Buf (Elt F) ℓ) (r : PUnit × MemSt nD τ sig (Elt F)) (h : QC m r) (c : Dev nD) (b : Ref sig .tc)
    (hb : b ∈ ([main_arg0, main_arg1, main_arg2, main_arg3, main_arg4, main_arg5, main_arg6, main_arg7, main_arg8, main_arg9] : List (Ref sig .tc))) :
    r.2.mem ((c.tc : Thread nD τ).loc b) = m ((c.tc : Thread nD τ).loc b) := by
  have hs : b.isScoped = false := by revert hb b; decide
  exact (h.1 c _ (mem_ucRefs b hs)).trans (V9_arg m c b hb)

theorem args_kept (m : (ℓ : Loc nD τ sig) → Buf (Elt F) ℓ) (r : PUnit × MemSt nD τ sig (Elt F)) (h : QC m r) (c : Dev nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9) :=
  ⟨arg_kept m r h c main_arg0 (by decide), arg_kept m r h c main_arg1 (by decide), arg_kept m r h c main_arg2 (by decide), arg_kept m r h c main_arg3 (by decide), arg_kept m r h c main_arg4 (by decide), arg_kept m r h c main_arg5 (by decide), arg_kept m r h c main_arg6 (by decide), arg_kept m r h c main_arg7 (by decide), arg_kept m r h c main_arg8 (by decide), arg_kept m r h c main_arg9 (by decide)⟩

set_option maxHeartbeats 8000000 in
/-- What holds of every run of the idealized kernel holds of every run of the printed one, at any instance. -/
theorem run_printed (s : MemSt nD τ sig (Elt F)) (Q : PUnit × MemSt nD τ sig (Elt F) → Prop)
    (h : θ_run (Cert.KernelIdeal.defs (F := F)) (Cert.KernelIdeal.threads (F := F)) s Q) :
    θ_run (Cert.Kernel.defs (F := F)) (Cert.Kernel.threads (F := F)) s Q := by
  have key : ∀ D T, D = Cert.KernelIdeal.defs (F := F) → T = Cert.KernelIdeal.threads (F := F) → θ_run D T s Q := by
    intro D T hD hT
    rw [hD, hT]
    exact h
  exact key _ _ (Printed.defs_same (F := F)) (Printed.threads_same (F := F))

set_option maxHeartbeats 8000000 in
theorem frame_Kernel : Cert.quiescent_Kernel := fun m ρ _ =>
  run_printed (F := Bits) _ _ ((θ_run (Cert.KernelIdeal.defs (F := Bits)) _ _).mono (fun r h => ⟨fun c => args_kept (F := Bits) m r h c, h.2⟩) (run_main (F := Bits) m ρ))

theorem frame_KernelIdeal : Cert.quiescent_KernelIdeal := fun m ρ _ =>
  (θ_run (Cert.KernelIdeal.defs (F := Ideal)) _ _).mono (fun r h => ⟨fun c => args_kept (F := Ideal) m r h c, h.2⟩) (run_main (F := Ideal) m ρ)

theorem frame_ReferenceIdeal : Cert.quiescent_ReferenceIdeal := fun m ρ _ =>
  (θ_run (Cert.ReferenceIdeal.defs (F := Ideal)) _ _).mono (fun r h => ⟨fun c => (h c).2.2.2, sem_eq_zero_of_no_sems (by decide) r.2⟩)
    (Cert.ReferenceIdeal.Value.run (F := Ideal) m ρ)

end Cert.Proof.Moe

end
-- ==== Proof.Algebraic.lean ====
/-
  The value claim: the kernel's three results are the reference's.
-/
module

public import proofs.«01_k».proof.Proof.Agree
public import proofs.«01_k».proof.Proof.Finite
public import proofs.«01_k».proof.Proof.Frames

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.Pipeline (ucRefs)

/-- The kernel and the reference return the same, over the extended reals, of finite tokens, gate weights and noise. -/
theorem algebraic : Cert.algebraic_KernelIdeal_ReferenceIdeal_pre_routed_finite := by
  intro m g m' g' hpre hag
  have hreal : ∀ c t e, ∃ r : ℝ, klogits m c (ix2 t e) = (r : EReal) := fun c t e => by
    obtain ⟨hx, hg, hn, hz⟩ := MoeRef.pre_real _ _ _ _ _ _ _ _ _ _ (hpre c)
    exact MoeRef.noisy_real _ _ _ _ hx hg hn hz t e
  refine ⟨fun c => V9 m c (Proc.devRef .tc main_v58), fun c => V9 m c (Proc.devRef .tc main_v59), fun c => V9 m c (Proc.devRef .tc main_v25), ?_, ?_⟩
  · exact (θ_run (Cert.KernelIdeal.defs (F := Ideal)) _ _).mono (fun r h c => ⟨h.1 c _ (mem_ucRefs main_v58 rfl), h.1 c _ (mem_ucRefs main_v59 rfl),
      h.1 c _ (mem_ucRefs main_v25 rfl), args_kept (F := Ideal) m r h c⟩) (run_main (F := Ideal) m g)
  · refine (θ_run (Cert.ReferenceIdeal.defs (F := Ideal)) _ _).mono (fun r h c => ?_) (MoeRef.ref_run (F := Ideal) m' g')
    obtain ⟨h0, h1, h2, hargs⟩ := h c
    obtain ⟨a0, a1, a2, a3, a4, a5, a6, a7, a8, a9⟩ := hag c
    refine ⟨h0.trans ?_, h1.trans ?_, h2.trans ?_, hargs⟩
    · refine Eq.trans ?_ (final_agrees m c (hreal c)).symm
      unfold MoeRef.arg
      rw [a0, a1, a2, a3, a4, a5, a6, a7, a8, a9]
    · refine Eq.trans ?_ (indices_agree m c).symm
      unfold MoeRef.arg
      rw [a0, a1, a2, a9]
    · refine Eq.trans ?_ (balance_agrees m c).symm
      unfold MoeRef.arg
      rw [a0, a1]

end Cert.Proof.Moe

end
-- ==== Proof.lean ====
/-
  The certificate's claim, put together.
-/
module

public import proofs.«01_k».proof.Defs
public import proofs.«01_k».proof.Proof.Algebraic

@[expose] public section

noncomputable section

namespace Cert.Proof

/-- Both programs run and keep their arguments, and the kernel's results are the reference's. -/
theorem claim : Cert.Claim :=
  ⟨Cert.Kernel.Gen.facts, Cert.KernelIdeal.Gen.facts, Cert.ReferenceIdeal.Gen.facts, MoeRef.preFacts,
    Moe.frame_Kernel, Moe.frame_KernelIdeal, fun m g _ => Moe.frame_KernelIdeal m g trivial,
    Moe.frame_ReferenceIdeal, fun m g _ => Moe.frame_ReferenceIdeal m g trivial, trivial, Moe.algebraic⟩

end Cert.Proof

end
